-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_folds_finite [hPre_folds_finite : Cert.Pre_folds_finite.Facts] (m : (ℓ : Loc Cert.KernelIdeal.nD Cert.KernelIdeal.τ Cert.KernelIdeal.sig) → Buf (Elt Ideal) ℓ) : Prop :=
  ∀ c : Dev Cert.KernelIdeal.nD,
    (Cert.Pre_folds_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_folds_finite [hPre_folds_finite : Cert.Pre_folds_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_folds_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_folds_finite [hKernelIdeal : Cert.KernelIdeal.Facts] [hPre_folds_finite : Cert.Pre_folds_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_folds_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_folds_finite [hReferenceIdeal : Cert.ReferenceIdeal.Facts] [hPre_folds_finite : Cert.Pre_folds_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_folds_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_folds_finite [hKernelIdeal : Cert.KernelIdeal.Facts] [hReferenceIdeal : Cert.ReferenceIdeal.Facts] [hPre_folds_finite : Cert.Pre_folds_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_folds_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_folds_finite : Cert.Pre_folds_finite.Facts),
    quiescent_Kernel (hKernel := hKernel)
    ∧ quiescent_KernelIdeal (hKernelIdeal := hKernelIdeal)
    ∧ quiescent_KernelIdeal_pre_folds_finite (hKernelIdeal := hKernelIdeal) (hPre_folds_finite := hPre_folds_finite)
    ∧ quiescent_ReferenceIdeal (hReferenceIdeal := hReferenceIdeal)
    ∧ quiescent_ReferenceIdeal_pre_folds_finite (hReferenceIdeal := hReferenceIdeal) (hPre_folds_finite := hPre_folds_finite)
    ∧ preserves_Kernel_KernelIdeal
    ∧ algebraic_KernelIdeal_ReferenceIdeal_pre_folds_finite (hKernelIdeal := hKernelIdeal) (hReferenceIdeal := hReferenceIdeal) (hPre_folds_finite := hPre_folds_finite)
-- ==== Pre_folds_finite.lean ====
abbrev S500000x79 : Shape := ⟨2, ![500000, 79]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S27x4 : Shape := ⟨2, ![27, 4]⟩
abbrev S36x4 : Shape := ⟨2, ![36, 4]⟩
abbrev S4 : Shape := ⟨1, ![4]⟩
abbrev S48x16 : Shape := ⟨2, ![48, 16]⟩
abbrev S16 : Shape := ⟨1, ![16]⟩
abbrev S52x48 : Shape := ⟨2, ![52, 48]⟩
abbrev S48 : Shape := ⟨1, ![48]⟩
abbrev S1x4 : Shape := ⟨2, ![1, 4]⟩
abbrev S_ : Shape := ⟨0, ![]⟩
abbrev S4x48 : Shape := ⟨2, ![4, 48]⟩
abbrev S500000x1 : Shape := ⟨2, ![500000, 1]⟩
abbrev S500000 : Shape := ⟨1, ![500000]⟩

class Facts : Prop where
  slices_S7x4_S1x4_0_0 : S7x4.Slices ![0, 0] S1x4
  bcast_S_S1x4 : S_.BroadcastsInDim S1x4 (![] : Fin 0 → Fin S1x4.rank)
  reducesTo_S1x4_S_d0_1 : S1x4.ReducesTo [0, 1] S_
  h_S_ : 0 < S_.numel
  slices_S7x4_S1x4_6_0 : S7x4.Slices ![6, 0] S1x4
  bcast_S_S18x2x2 : S_.BroadcastsInDim S18x2x2 (![] : Fin 0 → Fin S18x2x2.rank)
  reducesTo_S18x2x2_S_d0_1_2 : S18x2x2.ReducesTo [0, 1, 2] S_
  bcast_S_S36x4 : S_.BroadcastsInDim S36x4 (![] : Fin 0 → Fin S36x4.rank)
  reducesTo_S36x4_S_d0_1 : S36x4.ReducesTo [0, 1] S_
  slices_S52x48_S4x48_0_0 : S52x48.Slices ![0, 0] S4x48
  bcast_S_S4x48 : S_.BroadcastsInDim S4x48 (![] : Fin 0 → Fin S4x48.rank)
  reducesTo_S4x48_S_d0_1 : S4x48.ReducesTo [0, 1] S_
  slices_S52x48_S4x48_28_0 : S52x48.Slices ![28, 0] S4x48
  slices_S52x48_S4x48_36_0 : S52x48.Slices ![36, 0] S4x48
  slices_S500000x79_S500000x1_0_5 : S500000x79.Slices ![0, 5] S500000x1
  shapeCasts_S500000x1_S500000 : S500000x1.ShapeCasts S500000
  bcast_S_S500000 : S_.BroadcastsInDim S500000 (![] : Fin 0 → Fin S500000.rank)
  reducesTo_S500000_S_d0 : S500000.ReducesTo [0] S_

variable [Facts]

def fn_part2 {F : FTy → Type} [FloatOps F] (main_arg0 : FVec F S500000x79 .f32) (main_v32 : IVec S_ 1) (main_v34 : FVec F S4x48 .f32) (main_cst_10 : FVec F S_ .f32) : IVec S_ 1 :=
  let main_v35 : FVec F S4x48 .f32 := broadcastInDim S4x48 ![] bcast_S_S4x48 main_cst_10
  let main_v36 : IVec S4x48 1 := cmpf .olt main_v34 main_v35
  let main_c_11 : IVec S_ 1 := constantI S_ 1 1#1
  let main_v37 : IVec S_ 1 := (fun x v => Host.reduce IntOp.andi x v reducesTo_S4x48_S_d0_1 h_S_) main_v36 main_c_11
  let main_v38 : IVec S_ 1 := andi main_v32 main_v37
  let main_v39 : FVec F S500000x1 .f32 := (extractStridedSlice S500000x1 ![0, 5] · slices_S500000x79_S500000x1_0_5) main_arg0
  let main_v40 : FVec F S500000 .f32 := shapeCast S500000 main_v39 shapeCasts_S500000x1_S500000
  let main_v41 : IVec S500000 32 := fptosi 32 main_v40
  let main_c_12 : IVec S_ 32 := constantI S_ 32 2147483647#32
  let main_v42 : IVec S500000 32 := broadcastInDim S500000 ![] bcast_S_S500000 main_c_12
  let main_v43 : IVec S500000 1 := cmpi .slt main_v41 main_v42
  let main_c_13 : IVec S_ 1 := constantI S_ 1 1#1
  let main_v44 : IVec S_ 1 := (fun x v => Host.reduce IntOp.andi x v reducesTo_S500000_S_d0 h_S_) main_v43 main_c_13
  let main_v45 : IVec S_ 1 := andi main_v38 main_v44
  main_v45

def fn_part1 {F : FTy → Type} [FloatOps F] (main_arg0 : FVec F S500000x79 .f32) (main_arg19 : FVec F S52x48 .f32) (main_v15 : IVec S_ 1) (main_v16 : FVec F S36x4 .f32) (main_cst_4 : FVec F S_ .f32) : IVec S_ 1 :=
  let main_v17 : FVec F S36x4 .f32 := broadcastInDim S36x4 ![] bcast_S_S36x4 main_cst_4
  let main_v18 : IVec S36x4 1 := cmpf .olt main_v16 main_v17
  let main_c_5 : IVec S_ 1 := constantI S_ 1 1#1
  let main_v19 : IVec S_ 1 := (fun x v => Host.reduce IntOp.andi x v reducesTo_S36x4_S_d0_1 h_S_) main_v18 main_c_5
  let main_v20 : IVec S_ 1 := andi main_v15 main_v19
  let main_v21 : FVec F S4x48 .f32 := (extractStridedSlice S4x48 ![0, 0] · slices_S52x48_S4x48_0_0) main_arg19
  let main_v22 : FVec F S4x48 .f32 := Host.absf main_v21
  let main_cst_6 : FVec F S_ .f32 := constant S_ .f32 0x7F800000#32
  let main_v23 : FVec F S4x48 .f32 := broadcastInDim S4x48 ![] bcast_S_S4x48 main_cst_6
  let main_v24 : IVec S4x48 1 := cmpf .olt main_v22 main_v23
  let main_c_7 : IVec S_ 1 := constantI S_ 1 1#1
  let main_v25 : IVec S_ 1 := (fun x v => Host.reduce IntOp.andi x v reducesTo_S4x48_S_d0_1 h_S_) main_v24 main_c_7
  let main_v26 : IVec S_ 1 := andi main_v20 main_v25
  let main_v27 : FVec F S4x48 .f32 := (extractStridedSlice S4x48 ![28, 0] · slices_S52x48_S4x48_28_0) main_arg19
  let main_v28 : FVec F S4x48 .f32 := Host.absf main_v27
  let main_cst_8 : FVec F S_ .f32 := constant S_ .f32 0x7F800000#32
  let main_v29 : FVec F S4x48 .f32 := broadcastInDim S4x48 ![] bcast_S_S4x48 main_cst_8
  let main_v30 : IVec S4x48 1 := cmpf .olt main_v28 main_v29
  let main_c_9 : IVec S_ 1 := constantI S_ 1 1#1
  let main_v31 : IVec S_ 1 := (fun x v => Host.reduce IntOp.andi x v reducesTo_S4x48_S_d0_1 h_S_) main_v30 main_c_9
  let main_v32 : IVec S_ 1 := andi main_v26 main_v31
  let main_v33 : FVec F S4x48 .f32 := (extractStridedSlice S4x48 ![36, 0] · slices_S52x48_S4x48_36_0) main_arg19
  let main_v34 : FVec F S4x48 .f32 := Host.absf main_v33
  let main_cst_10 : FVec F S_ .f32 := constant S_ .f32 0x7F800000#32
  fn_part2 (F := F) main_arg0 main_v32 main_v34 main_cst_10

def fn {F : FTy → Type} [FloatOps F] (main_arg0 : FVec F S500000x79 .f32) (main_arg1 : FVec F S7x4 .f32) (main_arg2 : FVec F S7x4 .f32) (main_arg3 : FVec F S2x4 .f32) (main_arg4 : FVec F S8x4 .f32) (main_arg5 : FVec F S2x4 .f32) (main_arg6 : FVec F S6x4 .f32) (main_arg7 : FVec F S5x4 .f32) (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S27x4 .f32) (main_arg15 : FVec F S36x4 .f32) (main_arg16 : FVec F S4 .f32) (main_arg17 : FVec F S48x16 .f32) (main_arg18 : FVec F S16 .f32) (main_arg19 : FVec F S52x48 .f32) (main_arg20 : FVec F S48 .f32) : IVec S_ 1 :=
  let main_v0 : FVec F S1x4 .f32 := (extractStridedSlice S1x4 ![0, 0] · slices_S7x4_S1x4_0_0) main_arg1
  let main_v1 : FVec F S1x4 .f32 := Host.absf main_v0
  let main_cst : FVec F S_ .f32 := constant S_ .f32 0x7F800000#32
  let main_v2 : FVec F S1x4 .f32 := broadcastInDim S1x4 ![] bcast_S_S1x4 main_cst
  let main_v3 : IVec S1x4 1 := cmpf .olt main_v1 main_v2
  let main_c : IVec S_ 1 := constantI S_ 1 1#1
  let main_v4 : IVec S_ 1 := (fun x v => Host.reduce IntOp.andi x v reducesTo_S1x4_S_d0_1 h_S_) main_v3 main_c
  let main_v5 : FVec F S1x4 .f32 := (extractStridedSlice S1x4 ![6, 0] · slices_S7x4_S1x4_6_0) main_arg11
  let main_v6 : FVec F S1x4 .f32 := Host.absf main_v5
  let main_cst_0 : FVec F S_ .f32 := constant S_ .f32 0x7F800000#32
  let main_v7 : FVec F S1x4 .f32 := broadcastInDim S1x4 ![] bcast_S_S1x4 main_cst_0
  let main_v8 : IVec S1x4 1 := cmpf .olt main_v6 main_v7
  let main_c_1 : IVec S_ 1 := constantI S_ 1 1#1
  let main_v9 : IVec S_ 1 := (fun x v => Host.reduce IntOp.andi x v reducesTo_S1x4_S_d0_1 h_S_) main_v8 main_c_1
  let main_v10 : IVec S_ 1 := andi main_v4 main_v9
  let main_v11 : FVec F S18x2x2 .f32 := Host.absf main_arg8
  let main_cst_2 : FVec F S_ .f32 := constant S_ .f32 0x7F800000#32
  let main_v12 : FVec F S18x2x2 .f32 := broadcastInDim S18x2x2 ![] bcast_S_S18x2x2 main_cst_2
  let main_v13 : IVec S18x2x2 1 := cmpf .olt main_v11 main_v12
  let main_c_3 : IVec S_ 1 := constantI S_ 1 1#1
  let main_v14 : IVec S_ 1 := (fun x v => Host.reduce IntOp.andi x v reducesTo_S18x2x2_S_d0_1_2 h_S_) main_v13 main_c_3
  let main_v15 : IVec S_ 1 := andi main_v10 main_v14
  let main_v16 : FVec F S36x4 .f32 := Host.absf main_arg15
  let main_cst_4 : FVec F S_ .f32 := constant S_ .f32 0x7F800000#32
  fn_part1 (F := F) main_arg0 main_arg19 main_v15 main_v16 main_cst_4
-- ==== Kernel.lean ====
abbrev S500000x79 : Shape := ⟨2, ![500000, 79]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S27x4 : Shape := ⟨2, ![27, 4]⟩
abbrev S36x4 : Shape := ⟨2, ![36, 4]⟩
abbrev S4 : Shape := ⟨1, ![4]⟩
abbrev S48x16 : Shape := ⟨2, ![48, 16]⟩
abbrev S16 : Shape := ⟨1, ![16]⟩
abbrev S52x48 : Shape := ⟨2, ![52, 48]⟩
abbrev S48 : Shape := ⟨1, ![48]⟩
abbrev S1x32 : Shape := ⟨2, ![1, 32]⟩
abbrev S32x128 : Shape := ⟨2, ![32, 128]⟩
abbrev S1x128 : Shape := ⟨2, ![1, 128]⟩
abbrev S18x2x4 : Shape := ⟨3, ![18, 2, 4]⟩
abbrev S1x4 : Shape := ⟨2, ![1, 4]⟩
abbrev S_ : Shape := ⟨0, ![]⟩
abbrev S6x52 : Shape := ⟨2, ![6, 52]⟩
abbrev S7x52 : Shape := ⟨2, ![7, 52]⟩
abbrev S2x52 : Shape := ⟨2, ![2, 52]⟩
abbrev S8x52 : Shape := ⟨2, ![8, 52]⟩
abbrev S5x52 : Shape := ⟨2, ![5, 52]⟩
abbrev S36x52 : Shape := ⟨2, ![36, 52]⟩
abbrev S27x52 : Shape := ⟨2, ![27, 52]⟩
abbrev S1x52 : Shape := ⟨2, ![1, 52]⟩
abbrev S129x52 : Shape := ⟨2, ![129, 52]⟩
abbrev S128x52 : Shape := ⟨2, ![128, 52]⟩
abbrev S128x48 : Shape := ⟨2, ![128, 48]⟩
abbrev S1 : Shape := ⟨1, ![1]⟩
abbrev S128x64 : Shape := ⟨2, ![128, 64]⟩
abbrev S2 : Shape := ⟨1, ![2]⟩
abbrev S79x64 : Shape := ⟨2, ![79, 64]⟩
abbrev S500000x64 : Shape := ⟨2, ![500000, 64]⟩
abbrev S20000x79 : Shape := ⟨2, ![20000, 79]⟩
abbrev S20000x64 : Shape := ⟨2, ![20000, 64]⟩
abbrev S20000x32 : Shape := ⟨2, ![20000, 32]⟩
abbrev S20000x128 : Shape := ⟨2, ![20000, 128]⟩

abbrev nBuf : Space → Nat
  | .hbm => 118
  | .vmem => 10
  | .smem => 0
  | _ => 0

abbrev bufTy : (tb : Table) → Fin (tcTables nBuf tb) → BufTy
  | .hbm, ⟨0, _⟩ => ⟨S500000x79, .f32⟩
  | .hbm, ⟨1, _⟩ => ⟨S7x4, .f32⟩
  | .hbm, ⟨2, _⟩ => ⟨S7x4, .f32⟩
  | .hbm, ⟨3, _⟩ => ⟨S2x4, .f32⟩
  | .hbm, ⟨4, _⟩ => ⟨S8x4, .f32⟩
  | .hbm, ⟨5, _⟩ => ⟨S2x4, .f32⟩
  | .hbm, ⟨6, _⟩ => ⟨S6x4, .f32⟩
  | .hbm, ⟨7, _⟩ => ⟨S5x4, .f32⟩
  | .hbm, ⟨8, _⟩ => ⟨S18x2x2, .f32⟩
  | .hbm, ⟨9, _⟩ => ⟨S2x2, .f32⟩
  | .hbm, ⟨10, _⟩ => ⟨S2x2, .f32⟩
  | .hbm, ⟨11, _⟩ => ⟨S7x4, .f32⟩
  | .hbm, ⟨12, _⟩ => ⟨S5x4, .f32⟩
  | .hbm, ⟨13, _⟩ => ⟨S8x4, .f32⟩
  | .hbm, ⟨14, _⟩ => ⟨S27x4, .f32⟩
  | .hbm, ⟨15, _⟩ => ⟨S36x4, .f32⟩
  | .hbm, ⟨16, _⟩ => ⟨S4, .f32⟩
  | .hbm, ⟨17, _⟩ => ⟨S48x16, .f32⟩
  | .hbm, ⟨18, _⟩ => ⟨S16, .f32⟩
  | .hbm, ⟨19, _⟩ => ⟨S52x48, .f32⟩
  | .hbm, ⟨20, _⟩ => ⟨S48, .f32⟩
  | .hbm, ⟨21, _⟩ => ⟨S1x32, .i32⟩
  | .hbm, ⟨22, _⟩ => ⟨S1x32, .i32⟩
  | .hbm, ⟨23, _⟩ => ⟨S32x128, .f32⟩
  | .hbm, ⟨24, _⟩ => ⟨S1x128, .f32⟩
  | .hbm, ⟨25, _⟩ => ⟨S18x2x4, .f32⟩
  | .hbm, ⟨26, _⟩ => ⟨S18x2x4, .f32⟩
  | .hbm, ⟨27, _⟩ => ⟨S36x4, .f32⟩
  | .hbm, ⟨28, _⟩ => ⟨S6x4, .f32⟩
  | .hbm, ⟨29, _⟩ => ⟨S1x4, .f32⟩
  | .hbm, ⟨30, _⟩ => ⟨S6x4, .f32⟩
  | .hbm, ⟨31, _⟩ => ⟨S6x4, .f32⟩
  | .hbm, ⟨32, _⟩ => ⟨S_, .i32⟩
  | .hbm, ⟨33, _⟩ => ⟨S_, .f32⟩
  | .hbm, ⟨34, _⟩ => ⟨S6x52, .f32⟩
  | .hbm, ⟨35, _⟩ => ⟨S_, .i32⟩
  | .hbm, ⟨36, _⟩ => ⟨S_, .f32⟩
  | .hbm, ⟨37, _⟩ => ⟨S7x52, .f32⟩
  | .hbm, ⟨38, _⟩ => ⟨S_, .i32⟩
  | .hbm, ⟨39, _⟩ => ⟨S_, .f32⟩
  | .hbm, ⟨40, _⟩ => ⟨S2x52, .f32⟩
  | .hbm, ⟨41, _⟩ => ⟨S_, .i32⟩
  | .hbm, ⟨42, _⟩ => ⟨S_, .f32⟩
  | .hbm, ⟨43, _⟩ => ⟨S8x52, .f32⟩
  | .hbm, ⟨44, _⟩ => ⟨S_, .i32⟩
  | .hbm, ⟨45, _⟩ => ⟨S_, .f32⟩
  | .hbm, ⟨46, _⟩ => ⟨S2x52, .f32⟩
  | .hbm, ⟨47, _⟩ => ⟨S_, .i32⟩
  | .hbm, ⟨48, _⟩ => ⟨S_, .f32⟩
  | .hbm, ⟨49, _⟩ => ⟨S6x52, .f32⟩
  | .hbm, ⟨50, _⟩ => ⟨S_, .i32⟩
  | .hbm, ⟨51, _⟩ => ⟨S_, .f32⟩
  | .hbm, ⟨52, _⟩ => ⟨S5x52, .f32⟩
  | .hbm, ⟨53, _⟩ => ⟨S_, .i32⟩
  | .hbm, ⟨54, _⟩ => ⟨S_, .f32⟩
  | .hbm, ⟨55, _⟩ => ⟨S36x52, .f32⟩
  | .hbm, ⟨56, _⟩ => ⟨S_, .i32⟩
  | .hbm, ⟨57, _⟩ => ⟨S_, .f32⟩
  | .hbm, ⟨58, _⟩ => ⟨S2x52, .f32⟩
  | .hbm, ⟨59, _⟩ => ⟨S_, .i32⟩
  | .hbm, ⟨60, _⟩ => ⟨S_, .f32⟩
  | .hbm, ⟨61, _⟩ => ⟨S2x52, .f32⟩
  | .hbm, ⟨62, _⟩ => ⟨S6x4, .f32⟩
  | .hbm, ⟨63, _⟩ => ⟨S1x4, .f32⟩
  | .hbm, ⟨64, _⟩ => ⟨S6x4, .f32⟩
  | .hbm, ⟨65, _⟩ => ⟨S6x4, .f32⟩
  | .hbm, ⟨66, _⟩ => ⟨S_, .i32⟩
  | .hbm, ⟨67, _⟩ => ⟨S_, .f32⟩
  | .hbm, ⟨68, _⟩ => ⟨S6x52, .f32⟩
  | .hbm, ⟨69, _⟩ => ⟨S_, .i32⟩
  | .hbm, ⟨70, _⟩ => ⟨S_, .f32⟩
  | .hbm, ⟨71, _⟩ => ⟨S5x52, .f32⟩
  | .hbm, ⟨72, _⟩ => ⟨S_, .i32⟩
  | .hbm, ⟨73, _⟩ => ⟨S_, .f32⟩
  | .hbm, ⟨74, _⟩ => ⟨S8x52, .f32⟩
  | .hbm, ⟨75, _⟩ => ⟨S_, .i32⟩
  | .hbm, ⟨76, _⟩ => ⟨S_, .f32⟩
  | .hbm, ⟨77, _⟩ => ⟨S27x52, .f32⟩
  | .hbm, ⟨78, _⟩ => ⟨S1x4, .f32⟩
  | .hbm, ⟨79, _⟩ => ⟨S_, .i32⟩
  | .hbm, ⟨80, _⟩ => ⟨S_, .f32⟩
  | .hbm, ⟨81, _⟩ => ⟨S1x52, .f32⟩
  | .hbm, ⟨82, _⟩ => ⟨S1x4, .f32⟩
  | .hbm, ⟨83, _⟩ => ⟨S_, .i32⟩
  | .hbm, ⟨84, _⟩ => ⟨S_, .f32⟩
  | .hbm, ⟨85, _⟩ => ⟨S1x52, .f32⟩
  | .hbm, ⟨86, _⟩ => ⟨S1x52, .f32⟩
  | .hbm, ⟨87, _⟩ => ⟨S1x4, .f32⟩
  | .hbm, ⟨88, _⟩ => ⟨S_, .i32⟩
  | .hbm, ⟨89, _⟩ => ⟨S_, .f32⟩
  | .hbm, ⟨90, _⟩ => ⟨S1x52, .f32⟩
  | .hbm, ⟨91, _⟩ => ⟨S1x52, .f32⟩
  | .hbm, ⟨92, _⟩ => ⟨S_, .f32⟩
  | .hbm, ⟨93, _⟩ => ⟨S6x52, .f32⟩
  | .hbm, ⟨94, _⟩ => ⟨S129x52, .f32⟩
  | .hbm, ⟨95, _⟩ => ⟨S128x52, .f32⟩
  | .hbm, ⟨96, _⟩ => ⟨S128x48, .f32⟩
  | .hbm, ⟨97, _⟩ => ⟨S_, .i32⟩
  | .hbm, ⟨98, _⟩ => ⟨S1, .i32⟩
  | .hbm, ⟨99, _⟩ => ⟨S128x48, .f32⟩
  | .hbm, ⟨100, _⟩ => ⟨S_, .i32⟩
  | .hbm, ⟨101, _⟩ => ⟨S_, .f32⟩
  | .hbm, ⟨102, _⟩ => ⟨S128x64, .f32⟩
  | .hbm, ⟨103, _⟩ => ⟨S_, .i32⟩
  | .hbm, ⟨104, _⟩ => ⟨S1, .i32⟩
  | .hbm, ⟨105, _⟩ => ⟨S_, .i32⟩
  | .hbm, ⟨106, _⟩ => ⟨S1, .i32⟩
  | .hbm, ⟨107, _⟩ => ⟨S2, .i32⟩
  | .hbm, ⟨108, _⟩ => ⟨S128x64, .f32⟩
  | .hbm, ⟨109, _⟩ => ⟨S_, .f32⟩
  | .hbm, ⟨110, _⟩ => ⟨S79x64, .f32⟩
  | .hbm, ⟨111, _⟩ => ⟨S_, .i32⟩
  | .hbm, ⟨112, _⟩ => ⟨S1, .i32⟩
  | .hbm, ⟨113, _⟩ => ⟨S_, .i32⟩
  | .hbm, ⟨114, _⟩ => ⟨S1, .i32⟩
  | .hbm, ⟨115, _⟩ => ⟨S2, .i32⟩
  | .hbm, ⟨116, _⟩ => ⟨S79x64, .f32⟩
  | .hbm, ⟨117, _⟩ => ⟨S500000x64, .f32⟩
  | .local _ .vmem, ⟨0, _⟩ => ⟨S20000x79, .f32⟩
  | .local _ .vmem, ⟨1, _⟩ => ⟨S20000x79, .f32⟩
  | .local _ .vmem, ⟨2, _⟩ => ⟨S1x32, .i32⟩
  | .local _ .vmem, ⟨3, _⟩ => ⟨S1x32, .i32⟩
  | .local _ .vmem, ⟨4, _⟩ => ⟨S32x128, .f32⟩
  | .local _ .vmem, ⟨5, _⟩ => ⟨S1x128, .f32⟩
  | .local _ .vmem, ⟨6, _⟩ => ⟨S128x64, .f32⟩
  | .local _ .vmem, ⟨7, _⟩ => ⟨S79x64, .f32⟩
  | .local _ .vmem, ⟨8, _⟩ => ⟨S20000x64, .f32⟩
  | .local _ .vmem, ⟨9, _⟩ => ⟨S20000x64, .f32⟩
  | _, _ => ⟨S500000x79, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_c_0 : Ref sig .tc := ⟨.hbm, 22, rfl⟩
abbrev main_cst : Ref sig .tc := ⟨.hbm, 23, rfl⟩
abbrev main_cst_1 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call0_v0 : Ref sig .tc := ⟨.hbm, 33, rfl⟩
abbrev main_v7 : Ref sig .tc := ⟨.hbm, 34, rfl⟩
abbrev main_c_3 : Ref sig .tc := ⟨.hbm, 35, rfl⟩
abbrev main_call1_v0 : Ref sig .tc := ⟨.hbm, 36, rfl⟩
abbrev main_v8 : Ref sig .tc := ⟨.hbm, 37, rfl⟩
abbrev main_c_4 : Ref sig .tc := ⟨.hbm, 38, rfl⟩
abbrev main_call2_v0 : Ref sig .tc := ⟨.hbm, 39, rfl⟩
abbrev main_v9 : Ref sig .tc := ⟨.hbm, 40, rfl⟩
abbrev main_c_5 : Ref sig .tc := ⟨.hbm, 41, rfl⟩
abbrev main_call3_v0 : Ref sig .tc := ⟨.hbm, 42, rfl⟩
abbrev main_v10 : Ref sig .tc := ⟨.hbm, 43, rfl⟩
abbrev main_c_6 : Ref sig .tc := ⟨.hbm, 44, rfl⟩
abbrev main_call4_v0 : Ref sig .tc := ⟨.hbm, 45, rfl⟩
abbrev main_v11 : Ref sig .tc := ⟨.hbm, 46, rfl⟩
abbrev main_c_7 : Ref sig .tc := ⟨.hbm, 47, rfl⟩
abbrev main_call5_v0 : Ref sig .tc := ⟨.hbm, 48, rfl⟩
abbrev main_v12 : Ref sig .tc := ⟨.hbm, 49, rfl⟩
abbrev main_c_8 : Ref sig .tc := ⟨.hbm, 50, rfl⟩
abbrev main_call6_v0 : Ref sig .tc := ⟨.hbm, 51, rfl⟩
abbrev main_v13 : Ref sig .tc := ⟨.hbm, 52, rfl⟩
abbrev main_c_9 : Ref sig .tc := ⟨.hbm, 53, rfl⟩
abbrev main_call7_v0 : Ref sig .tc := ⟨.hbm, 54, rfl⟩
abbrev main_v14 : Ref sig .tc := ⟨.hbm, 55, rfl⟩
abbrev main_c_10 : Ref sig .tc := ⟨.hbm, 56, rfl⟩
abbrev main_call8_v0 : Ref sig .tc := ⟨.hbm, 57, rfl⟩
abbrev main_v15 : Ref sig .tc := ⟨.hbm, 58, rfl⟩
abbrev main_c_11 : Ref sig .tc := ⟨.hbm, 59, rfl⟩
abbrev main_call9_v0 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_12 : Ref sig .tc := ⟨.hbm, 66, rfl⟩
abbrev main_call10_v0 : Ref sig .tc := ⟨.hbm, 67, rfl⟩
abbrev main_v21 : Ref sig .tc := ⟨.hbm, 68, rfl⟩
abbrev main_c_13 : Ref sig .tc := ⟨.hbm, 69, rfl⟩
abbrev main_call11_v0 : Ref sig .tc := ⟨.hbm, 70, rfl⟩
abbrev main_v22 : Ref sig .tc := ⟨.hbm, 71, rfl⟩
abbrev main_c_14 : Ref sig .tc := ⟨.hbm, 72, rfl⟩
abbrev main_call12_v0 : Ref sig .tc := ⟨.hbm, 73, rfl⟩
abbrev main_v23 : Ref sig .tc := ⟨.hbm, 74, rfl⟩
abbrev main_c_15 : Ref sig .tc := ⟨.hbm, 75, rfl⟩
abbrev main_call13_v0 : Ref sig .tc := ⟨.hbm, 76, rfl⟩
abbrev main_v24 : Ref sig .tc := ⟨.hbm, 77, rfl⟩
abbrev main_v25 : Ref sig .tc := ⟨.hbm, 78, rfl⟩
abbrev main_c_16 : Ref sig .tc := ⟨.hbm, 79, rfl⟩
abbrev main_call14_v0 : Ref sig .tc := ⟨.hbm, 80, rfl⟩
abbrev main_v26 : Ref sig .tc := ⟨.hbm, 81, rfl⟩
abbrev main_v27 : Ref sig .tc := ⟨.hbm, 82, rfl⟩
abbrev main_c_17 : Ref sig .tc := ⟨.hbm, 83, rfl⟩
abbrev main_call15_v0 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_c_18 : Ref sig .tc := ⟨.hbm, 88, rfl⟩
abbrev main_call16_v0 : Ref sig .tc := ⟨.hbm, 89, rfl⟩
abbrev main_v31 : Ref sig .tc := ⟨.hbm, 90, rfl⟩
abbrev main_v32 : Ref sig .tc := ⟨.hbm, 91, rfl⟩
abbrev main_cst_19 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_20 : Ref sig .tc := ⟨.hbm, 97, rfl⟩
abbrev main_v37 : Ref sig .tc := ⟨.hbm, 98, rfl⟩
abbrev main_v38 : Ref sig .tc := ⟨.hbm, 99, rfl⟩
abbrev main_c_21 : Ref sig .tc := ⟨.hbm, 100, rfl⟩
abbrev main_call17_v0 : Ref sig .tc := ⟨.hbm, 101, rfl⟩
abbrev main_v39 : Ref sig .tc := ⟨.hbm, 102, rfl⟩
abbrev main_c_22 : Ref sig .tc := ⟨.hbm, 103, rfl⟩
abbrev main_v40 : Ref sig .tc := ⟨.hbm, 104, rfl⟩
abbrev main_c_23 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_24 : Ref sig .tc := ⟨.hbm, 109, rfl⟩
abbrev main_v44 : Ref sig .tc := ⟨.hbm, 110, rfl⟩
abbrev main_c_25 : Ref sig .tc := ⟨.hbm, 111, rfl⟩
abbrev main_v45 : Ref sig .tc := ⟨.hbm, 112, rfl⟩
abbrev main_c_26 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x79 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S79x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S500000x79 : Shape := ⟨2, ![500000, 79]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S27x4 : Shape := ⟨2, ![27, 4]⟩
abbrev S36x4 : Shape := ⟨2, ![36, 4]⟩
abbrev S4 : Shape := ⟨1, ![4]⟩
abbrev S48x16 : Shape := ⟨2, ![48, 16]⟩
abbrev S16 : Shape := ⟨1, ![16]⟩
abbrev S52x48 : Shape := ⟨2, ![52, 48]⟩
abbrev S48 : Shape := ⟨1, ![48]⟩
abbrev S500000x1 : Shape := ⟨2, ![500000, 1]⟩
abbrev S500000 : Shape := ⟨1, ![500000]⟩
abbrev S17 : Shape := ⟨1, ![17]⟩
abbrev S_ : Shape := ⟨0, ![]⟩
abbrev S1 : Shape := ⟨1, ![1]⟩
abbrev S1x1 : Shape := ⟨2, ![1, 1]⟩
abbrev S500000x4 : Shape := ⟨2, ![500000, 4]⟩
abbrev S1x2x2 : Shape := ⟨3, ![1, 2, 2]⟩
abbrev S500000x2 : Shape := ⟨2, ![500000, 2]⟩
abbrev S500000x32 : Shape := ⟨2, ![500000, 32]⟩
abbrev S500000x36 : Shape := ⟨2, ![500000, 36]⟩
abbrev S1x4 : Shape := ⟨2, ![1, 4]⟩
abbrev S500000x48 : Shape := ⟨2, ![500000, 48]⟩
abbrev S500000x16 : Shape := ⟨2, ![500000, 16]⟩
abbrev S1x16 : Shape := ⟨2, ![1, 16]⟩
abbrev S500000x52 : Shape := ⟨2, ![500000, 52]⟩
abbrev S1x48 : Shape := ⟨2, ![1, 48]⟩
abbrev S500000x64 : Shape := ⟨2, ![500000, 64]⟩

abbrev nBuf : Space → Nat
  | .hbm => 1268
  | .vmem => 0
  | .smem => 0
  | _ => 0

abbrev hbmTy0_0 (i : Nat) : BufTy := match i % 128 with
  | 0 => ⟨S500000x79, .f32⟩
  | 1 => ⟨S7x4, .f32⟩
  | 2 => ⟨S7x4, .f32⟩
  | 3 => ⟨S2x4, .f32⟩
  | 4 => ⟨S8x4, .f32⟩
  | 5 => ⟨S2x4, .f32⟩
  | 6 => ⟨S6x4, .f32⟩
  | 7 => ⟨S5x4, .f32⟩
  | 8 => ⟨S18x2x2, .f32⟩
  | 9 => ⟨S2x2, .f32⟩
  | 10 => ⟨S2x2, .f32⟩
  | 11 => ⟨S7x4, .f32⟩
  | 12 => ⟨S5x4, .f32⟩
  | 13 => ⟨S8x4, .f32⟩
  | 14 => ⟨S27x4, .f32⟩
  | 15 => ⟨S36x4, .f32⟩
  | 16 => ⟨S4, .f32⟩
  | 17 => ⟨S48x16, .f32⟩
  | 18 => ⟨S16, .f32⟩
  | 19 => ⟨S52x48, .f32⟩
  | 20 => ⟨S48, .f32⟩
  | 21 => ⟨S500000x1, .f32⟩
  | 22 => ⟨S500000, .f32⟩
  | 23 => ⟨S500000, .i32⟩
  | 24 => ⟨S17, .i32⟩
  | 25 => ⟨S_, .i32⟩
  | 26 => ⟨S17, .i32⟩
  | 27 => ⟨S_, .i32⟩
  | 28 => ⟨S17, .i32⟩
  | 29 => ⟨S17, .i1⟩
  | 30 => ⟨S_, .i32⟩
  | 31 => ⟨S_, .i32⟩
  | 32 => ⟨S17, .i32⟩
  | 33 => ⟨S17, .i32⟩
  | 34 => ⟨S_, .i32⟩
  | 35 => ⟨S17, .i32⟩
  | 36 => ⟨S17, .i1⟩
  | 37 => ⟨S_, .i32⟩
  | 38 => ⟨S_, .i32⟩
  | 39 => ⟨S17, .i32⟩
  | 40 => ⟨S17, .i32⟩
  | 41 => ⟨S_, .i32⟩
  | 42 => ⟨S17, .i32⟩
  | 43 => ⟨S17, .i1⟩
  | 44 => ⟨S_, .i32⟩
  | 45 => ⟨S_, .i32⟩
  | 46 => ⟨S17, .i32⟩
  | 47 => ⟨S17, .i32⟩
  | 48 => ⟨S_, .i32⟩
  | 49 => ⟨S17, .i32⟩
  | 50 => ⟨S17, .i1⟩
  | 51 => ⟨S_, .i32⟩
  | 52 => ⟨S_, .i32⟩
  | 53 => ⟨S17, .i32⟩
  | 54 => ⟨S17, .i32⟩
  | 55 => ⟨S_, .i32⟩
  | 56 => ⟨S17, .i32⟩
  | 57 => ⟨S17, .i1⟩
  | 58 => ⟨S_, .i32⟩
  | 59 => ⟨S_, .i32⟩
  | 60 => ⟨S17, .i32⟩
  | 61 => ⟨S17, .i32⟩
  | 62 => ⟨S_, .i32⟩
  | 63 => ⟨S17, .i32⟩
  | 64 => ⟨S17, .i1⟩
  | 65 => ⟨S_, .i32⟩
  | 66 => ⟨S_, .i32⟩
  | 67 => ⟨S17, .i32⟩
  | 68 => ⟨S17, .i32⟩
  | 69 => ⟨S_, .i32⟩
  | 70 => ⟨S17, .i32⟩
  | 71 => ⟨S17, .i1⟩
  | 72 => ⟨S_, .i32⟩
  | 73 => ⟨S_, .i32⟩
  | 74 => ⟨S17, .i32⟩
  | 75 => ⟨S17, .i32⟩
  | 76 => ⟨S_, .i32⟩
  | 77 => ⟨S500000, .i32⟩
  | 78 => ⟨S500000, .i1⟩
  | 79 => ⟨S_, .i32⟩
  | 80 => ⟨S500000, .i32⟩
  | 81 => ⟨S500000, .i1⟩
  | 82 => ⟨S500000, .i1⟩
  | 83 => ⟨S_, .i32⟩
  | 84 => ⟨S_, .i32⟩
  | 85 => ⟨S500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S1, .i32⟩
  | 96 => ⟨S_, .i32⟩
  | 97 => ⟨S500000x1, .i32⟩
  | 98 => ⟨S500000x1, .i1⟩
  | 99 => ⟨S1x1, .i32⟩
  | 100 => ⟨S500000x1, .i32⟩
  | 101 => ⟨S500000x1, .i1⟩
  | 102 => ⟨S500000x1, .i1⟩
  | 103 => ⟨S_, .i1⟩
  | 104 => ⟨S500000, .i1⟩
  | 105 => ⟨S500000, .i32⟩
  | 106 => ⟨S_, .i32⟩
  | 107 => ⟨S500000, .i32⟩
  | 108 => ⟨S500000, .i32⟩
  | 109 => ⟨S_, .i32⟩
  | 110 => ⟨S_, .i32⟩
  | 111 => ⟨S_, .i32⟩
  | 112 => ⟨S500000, .i32⟩
  | 113 => ⟨S500000, .i32⟩
  | 114 => ⟨S_, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S1, .i32⟩
  | 126 => ⟨S_, .i32⟩
  | 127 => ⟨S500000x1, .i32⟩
  | _ => ⟨S500000x79, .f32⟩

abbrev hbmTy0_1 (i : Nat) : BufTy := match i % 128 with
  | 0 => ⟨S500000x1, .i1⟩
  | 1 => ⟨S1x1, .i32⟩
  | 2 => ⟨S500000x1, .i32⟩
  | 3 => ⟨S500000x1, .i1⟩
  | 4 => ⟨S500000x1, .i1⟩
  | 5 => ⟨S_, .i1⟩
  | 6 => ⟨S500000, .i1⟩
  | 7 => ⟨S500000x4, .f32⟩
  | 8 => ⟨S500000x4, .i1⟩
  | 9 => ⟨S_, .f32⟩
  | 10 => ⟨S500000x4, .f32⟩
  | 11 => ⟨S500000x4, .f32⟩
  | 12 => ⟨S500000x1, .f32⟩
  | 13 => ⟨S500000, .f32⟩
  | 14 => ⟨S500000, .i32⟩
  | 15 => ⟨S_, .i32⟩
  | 16 => ⟨S_, .i32⟩
  | 17 => ⟨S_, .i32⟩
  | 18 => ⟨S500000, .i32⟩
  | 19 => ⟨S500000, .i32⟩
  | 20 => ⟨S_, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S1, .i32⟩
  | 32 => ⟨S_, .i32⟩
  | 33 => ⟨S500000x1, .i32⟩
  | 34 => ⟨S500000x1, .i1⟩
  | 35 => ⟨S1x1, .i32⟩
  | 36 => ⟨S500000x1, .i32⟩
  | 37 => ⟨S500000x1, .i1⟩
  | 38 => ⟨S500000x1, .i1⟩
  | 39 => ⟨S_, .i1⟩
  | 40 => ⟨S500000, .i1⟩
  | 41 => ⟨S500000x4, .f32⟩
  | 42 => ⟨S500000x4, .i1⟩
  | 43 => ⟨S_, .f32⟩
  | 44 => ⟨S500000x4, .f32⟩
  | 45 => ⟨S500000x4, .f32⟩
  | 46 => ⟨S500000x1, .f32⟩
  | 47 => ⟨S500000, .f32⟩
  | 48 => ⟨S500000, .i32⟩
  | 49 => ⟨S_, .i32⟩
  | 50 => ⟨S500000, .i32⟩
  | 51 => ⟨S500000, .i32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S1, .i32⟩
  | 69 => ⟨S_, .i32⟩
  | 70 => ⟨S500000x1, .i32⟩
  | 71 => ⟨S500000x1, .i1⟩
  | 72 => ⟨S1x1, .i32⟩
  | 73 => ⟨S500000x1, .i32⟩
  | 74 => ⟨S500000x1, .i1⟩
  | 75 => ⟨S500000x1, .i1⟩
  | 76 => ⟨S_, .i1⟩
  | 77 => ⟨S500000, .i1⟩
  | 78 => ⟨S500000x4, .f32⟩
  | 79 => ⟨S500000x4, .i1⟩
  | 80 => ⟨S_, .f32⟩
  | 81 => ⟨S500000x4, .f32⟩
  | 82 => ⟨S500000x4, .f32⟩
  | 83 => ⟨S500000x1, .f32⟩
  | 84 => ⟨S500000, .f32⟩
  | 85 => ⟨S500000, .i32⟩
  | 86 => ⟨S_, .i32⟩
  | 87 => ⟨S_, .i32⟩
  | 88 => ⟨S_, .i32⟩
  | 89 => ⟨S500000, .i32⟩
  | 90 => ⟨S500000, .i32⟩
  | 91 => ⟨S_, .i32⟩
  | 92 => ⟨S500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S1, .i32⟩
  | 103 => ⟨S_, .i32⟩
  | 104 => ⟨S500000x1, .i32⟩
  | 105 => ⟨S500000x1, .i1⟩
  | 106 => ⟨S1x1, .i32⟩
  | 107 => ⟨S500000x1, .i32⟩
  | 108 => ⟨S500000x1, .i1⟩
  | 109 => ⟨S500000x1, .i1⟩
  | 110 => ⟨S_, .i1⟩
  | 111 => ⟨S500000, .i1⟩
  | 112 => ⟨S500000x4, .f32⟩
  | 113 => ⟨S500000x4, .i1⟩
  | 114 => ⟨S_, .f32⟩
  | 115 => ⟨S500000x4, .f32⟩
  | 116 => ⟨S500000x4, .f32⟩
  | 117 => ⟨S500000x1, .f32⟩
  | 118 => ⟨S500000, .f32⟩
  | 119 => ⟨S500000, .i32⟩
  | 120 => ⟨S_, .i32⟩
  | 121 => ⟨S_, .i32⟩
  | 122 => ⟨S_, .i32⟩
  | 123 => ⟨S500000, .i32⟩
  | 124 => ⟨S500000, .i32⟩
  | 125 => ⟨S_, .i32⟩
  | 126 => ⟨S500000, .i32⟩
  | 127 => ⟨S500000, .i32⟩
  | _ => ⟨S500000x79, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S1, .i32⟩
  | 9 => ⟨S_, .i32⟩
  | 10 => ⟨S500000x1, .i32⟩
  | 11 => ⟨S500000x1, .i1⟩
  | 12 => ⟨S1x1, .i32⟩
  | 13 => ⟨S500000x1, .i32⟩
  | 14 => ⟨S500000x1, .i1⟩
  | 15 => ⟨S500000x1, .i1⟩
  | 16 => ⟨S_, .i1⟩
  | 17 => ⟨S500000, .i1⟩
  | 18 => ⟨S500000x4, .f32⟩
  | 19 => ⟨S500000x4, .i1⟩
  | 20 => ⟨S_, .f32⟩
  | 21 => ⟨S500000x4, .f32⟩
  | 22 => ⟨S500000x4, .f32⟩
  | 23 => ⟨S500000x1, .f32⟩
  | 24 => ⟨S500000, .f32⟩
  | 25 => ⟨S500000, .i32⟩
  | 26 => ⟨S_, .i32⟩
  | 27 => ⟨S_, .i32⟩
  | 28 => ⟨S_, .i32⟩
  | 29 => ⟨S500000, .i32⟩
  | 30 => ⟨S500000, .i32⟩
  | 31 => ⟨S_, .i32⟩
  | 32 => ⟨S500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S1, .i32⟩
  | 43 => ⟨S_, .i32⟩
  | 44 => ⟨S500000x1, .i32⟩
  | 45 => ⟨S500000x1, .i1⟩
  | 46 => ⟨S1x1, .i32⟩
  | 47 => ⟨S500000x1, .i32⟩
  | 48 => ⟨S500000x1, .i1⟩
  | 49 => ⟨S500000x1, .i1⟩
  | 50 => ⟨S_, .i1⟩
  | 51 => ⟨S500000, .i1⟩
  | 52 => ⟨S500000x4, .f32⟩
  | 53 => ⟨S500000x4, .i1⟩
  | 54 => ⟨S_, .f32⟩
  | 55 => ⟨S500000x4, .f32⟩
  | 56 => ⟨S500000x4, .f32⟩
  | 57 => ⟨S500000x1, .f32⟩
  | 58 => ⟨S500000, .f32⟩
  | 59 => ⟨S500000, .i32⟩
  | 60 => ⟨S_, .i32⟩
  | 61 => ⟨S_, .i32⟩
  | 62 => ⟨S_, .i32⟩
  | 63 => ⟨S500000, .i32⟩
  | 64 => ⟨S500000, .i32⟩
  | 65 => ⟨S_, .i32⟩
  | 66 => ⟨S500000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S1, .i32⟩
  | 77 => ⟨S_, .i32⟩
  | 78 => ⟨S500000x1, .i32⟩
  | 79 => ⟨S500000x1, .i1⟩
  | 80 => ⟨S1x1, .i32⟩
  | 81 => ⟨S500000x1, .i32⟩
  | 82 => ⟨S500000x1, .i1⟩
  | 83 => ⟨S500000x1, .i1⟩
  | 84 => ⟨S_, .i1⟩
  | 85 => ⟨S500000, .i1⟩
  | 86 => ⟨S500000x4, .f32⟩
  | 87 => ⟨S500000x4, .i1⟩
  | 88 => ⟨S_, .f32⟩
  | 89 => ⟨S500000x4, .f32⟩
  | 90 => ⟨S500000x4, .f32⟩
  | 91 => ⟨S1x2x2, .f32⟩
  | 92 => ⟨S2x2, .f32⟩
  | 93 => ⟨S500000x1, .f32⟩
  | 94 => ⟨S500000, .f32⟩
  | 95 => ⟨S500000, .i32⟩
  | 96 => ⟨S_, .i32⟩
  | 97 => ⟨S_, .i32⟩
  | 98 => ⟨S_, .i32⟩
  | 99 => ⟨S500000, .i32⟩
  | 100 => ⟨S500000, .i32⟩
  | 101 => ⟨S_, .i32⟩
  | 102 => ⟨S500000, .i32⟩
  | 103 => ⟨S500000, .i32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S1, .i32⟩
  | 113 => ⟨S_, .i32⟩
  | 114 => ⟨S500000x1, .i32⟩
  | 115 => ⟨S500000x1, .i1⟩
  | 116 => ⟨S1x1, .i32⟩
  | 117 => ⟨S500000x1, .i32⟩
  | 118 => ⟨S500000x1, .i1⟩
  | 119 => ⟨S500000x1, .i1⟩
  | 120 => ⟨S_, .i1⟩
  | 121 => ⟨S500000, .i1⟩
  | 122 => ⟨S500000x2, .f32⟩
  | 123 => ⟨S500000x2, .i1⟩
  | 124 => ⟨S_, .f32⟩
  | 125 => ⟨S500000x2, .f32⟩
  | 126 => ⟨S500000x2, .f32⟩
  | 127 => ⟨S1x2x2, .f32⟩
  | _ => ⟨S500000x79, .f32⟩

abbrev hbmTy0_3 (i : Nat) : BufTy := match i % 128 with
  | 0 => ⟨S2x2, .f32⟩
  | 1 => ⟨S500000x1, .f32⟩
  | 2 => ⟨S500000, .f32⟩
  | 3 => ⟨S500000, .i32⟩
  | 4 => ⟨S_, .i32⟩
  | 5 => ⟨S_, .i32⟩
  | 6 => ⟨S_, .i32⟩
  | 7 => ⟨S500000, .i32⟩
  | 8 => ⟨S500000, .i32⟩
  | 9 => ⟨S_, .i32⟩
  | 10 => ⟨S500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S1, .i32⟩
  | 21 => ⟨S_, .i32⟩
  | 22 => ⟨S500000x1, .i32⟩
  | 23 => ⟨S500000x1, .i1⟩
  | 24 => ⟨S1x1, .i32⟩
  | 25 => ⟨S500000x1, .i32⟩
  | 26 => ⟨S500000x1, .i1⟩
  | 27 => ⟨S500000x1, .i1⟩
  | 28 => ⟨S_, .i1⟩
  | 29 => ⟨S500000, .i1⟩
  | 30 => ⟨S500000x2, .f32⟩
  | 31 => ⟨S500000x2, .i1⟩
  | 32 => ⟨S_, .f32⟩
  | 33 => ⟨S500000x2, .f32⟩
  | 34 => ⟨S500000x2, .f32⟩
  | 35 => ⟨S1x2x2, .f32⟩
  | 36 => ⟨S2x2, .f32⟩
  | 37 => ⟨S500000x1, .f32⟩
  | 38 => ⟨S500000, .f32⟩
  | 39 => ⟨S500000, .i32⟩
  | 40 => ⟨S_, .i32⟩
  | 41 => ⟨S_, .i32⟩
  | 42 => ⟨S_, .i32⟩
  | 43 => ⟨S500000, .i32⟩
  | 44 => ⟨S500000, .i32⟩
  | 45 => ⟨S_, .i32⟩
  | 46 => ⟨S500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S1, .i32⟩
  | 57 => ⟨S_, .i32⟩
  | 58 => ⟨S500000x1, .i32⟩
  | 59 => ⟨S500000x1, .i1⟩
  | 60 => ⟨S1x1, .i32⟩
  | 61 => ⟨S500000x1, .i32⟩
  | 62 => ⟨S500000x1, .i1⟩
  | 63 => ⟨S500000x1, .i1⟩
  | 64 => ⟨S_, .i1⟩
  | 65 => ⟨S500000, .i1⟩
  | 66 => ⟨S500000x2, .f32⟩
  | 67 => ⟨S500000x2, .i1⟩
  | 68 => ⟨S_, .f32⟩
  | 69 => ⟨S500000x2, .f32⟩
  | 70 => ⟨S500000x2, .f32⟩
  | 71 => ⟨S1x2x2, .f32⟩
  | 72 => ⟨S2x2, .f32⟩
  | 73 => ⟨S500000x1, .f32⟩
  | 74 => ⟨S500000, .f32⟩
  | 75 => ⟨S500000, .i32⟩
  | 76 => ⟨S_, .i32⟩
  | 77 => ⟨S_, .i32⟩
  | 78 => ⟨S_, .i32⟩
  | 79 => ⟨S500000, .i32⟩
  | 80 => ⟨S500000, .i32⟩
  | 81 => ⟨S_, .i32⟩
  | 82 => ⟨S500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S1, .i32⟩
  | 93 => ⟨S_, .i32⟩
  | 94 => ⟨S500000x1, .i32⟩
  | 95 => ⟨S500000x1, .i1⟩
  | 96 => ⟨S1x1, .i32⟩
  | 97 => ⟨S500000x1, .i32⟩
  | 98 => ⟨S500000x1, .i1⟩
  | 99 => ⟨S500000x1, .i1⟩
  | 100 => ⟨S_, .i1⟩
  | 101 => ⟨S500000, .i1⟩
  | 102 => ⟨S500000x2, .f32⟩
  | 103 => ⟨S500000x2, .i1⟩
  | 104 => ⟨S_, .f32⟩
  | 105 => ⟨S500000x2, .f32⟩
  | 106 => ⟨S500000x2, .f32⟩
  | 107 => ⟨S1x2x2, .f32⟩
  | 108 => ⟨S2x2, .f32⟩
  | 109 => ⟨S500000x1, .f32⟩
  | 110 => ⟨S500000, .f32⟩
  | 111 => ⟨S500000, .i32⟩
  | 112 => ⟨S_, .i32⟩
  | 113 => ⟨S_, .i32⟩
  | 114 => ⟨S_, .i32⟩
  | 115 => ⟨S500000, .i32⟩
  | 116 => ⟨S500000, .i32⟩
  | 117 => ⟨S_, .i32⟩
  | 118 => ⟨S500000, .i32⟩
  | 119 => ⟨S500000, .i32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S500000x79, .f32⟩

abbrev hbmTy0_4 (i : Nat) : BufTy := match i % 128 with
  | 0 => ⟨S1, .i32⟩
  | 1 => ⟨S_, .i32⟩
  | 2 => ⟨S500000x1, .i32⟩
  | 3 => ⟨S500000x1, .i1⟩
  | 4 => ⟨S1x1, .i32⟩
  | 5 => ⟨S500000x1, .i32⟩
  | 6 => ⟨S500000x1, .i1⟩
  | 7 => ⟨S500000x1, .i1⟩
  | 8 => ⟨S_, .i1⟩
  | 9 => ⟨S500000, .i1⟩
  | 10 => ⟨S500000x2, .f32⟩
  | 11 => ⟨S500000x2, .i1⟩
  | 12 => ⟨S_, .f32⟩
  | 13 => ⟨S500000x2, .f32⟩
  | 14 => ⟨S500000x2, .f32⟩
  | 15 => ⟨S1x2x2, .f32⟩
  | 16 => ⟨S2x2, .f32⟩
  | 17 => ⟨S500000x1, .f32⟩
  | 18 => ⟨S500000, .f32⟩
  | 19 => ⟨S500000, .i32⟩
  | 20 => ⟨S_, .i32⟩
  | 21 => ⟨S_, .i32⟩
  | 22 => ⟨S_, .i32⟩
  | 23 => ⟨S500000, .i32⟩
  | 24 => ⟨S500000, .i32⟩
  | 25 => ⟨S_, .i32⟩
  | 26 => ⟨S500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S1, .i32⟩
  | 37 => ⟨S_, .i32⟩
  | 38 => ⟨S500000x1, .i32⟩
  | 39 => ⟨S500000x1, .i1⟩
  | 40 => ⟨S1x1, .i32⟩
  | 41 => ⟨S500000x1, .i32⟩
  | 42 => ⟨S500000x1, .i1⟩
  | 43 => ⟨S500000x1, .i1⟩
  | 44 => ⟨S_, .i1⟩
  | 45 => ⟨S500000, .i1⟩
  | 46 => ⟨S500000x2, .f32⟩
  | 47 => ⟨S500000x2, .i1⟩
  | 48 => ⟨S_, .f32⟩
  | 49 => ⟨S500000x2, .f32⟩
  | 50 => ⟨S500000x2, .f32⟩
  | 51 => ⟨S1x2x2, .f32⟩
  | 52 => ⟨S2x2, .f32⟩
  | 53 => ⟨S500000x1, .f32⟩
  | 54 => ⟨S500000, .f32⟩
  | 55 => ⟨S500000, .i32⟩
  | 56 => ⟨S_, .i32⟩
  | 57 => ⟨S_, .i32⟩
  | 58 => ⟨S_, .i32⟩
  | 59 => ⟨S500000, .i32⟩
  | 60 => ⟨S500000, .i32⟩
  | 61 => ⟨S_, .i32⟩
  | 62 => ⟨S500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S1, .i32⟩
  | 73 => ⟨S_, .i32⟩
  | 74 => ⟨S500000x1, .i32⟩
  | 75 => ⟨S500000x1, .i1⟩
  | 76 => ⟨S1x1, .i32⟩
  | 77 => ⟨S500000x1, .i32⟩
  | 78 => ⟨S500000x1, .i1⟩
  | 79 => ⟨S500000x1, .i1⟩
  | 80 => ⟨S_, .i1⟩
  | 81 => ⟨S500000, .i1⟩
  | 82 => ⟨S500000x2, .f32⟩
  | 83 => ⟨S500000x2, .i1⟩
  | 84 => ⟨S_, .f32⟩
  | 85 => ⟨S500000x2, .f32⟩
  | 86 => ⟨S500000x2, .f32⟩
  | 87 => ⟨S1x2x2, .f32⟩
  | 88 => ⟨S2x2, .f32⟩
  | 89 => ⟨S500000x1, .f32⟩
  | 90 => ⟨S500000, .f32⟩
  | 91 => ⟨S500000, .i32⟩
  | 92 => ⟨S_, .i32⟩
  | 93 => ⟨S_, .i32⟩
  | 94 => ⟨S_, .i32⟩
  | 95 => ⟨S500000, .i32⟩
  | 96 => ⟨S500000, .i32⟩
  | 97 => ⟨S_, .i32⟩
  | 98 => ⟨S500000, .i32⟩
  | 99 => ⟨S500000, .i32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S1, .i32⟩
  | 109 => ⟨S_, .i32⟩
  | 110 => ⟨S500000x1, .i32⟩
  | 111 => ⟨S500000x1, .i1⟩
  | 112 => ⟨S1x1, .i32⟩
  | 113 => ⟨S500000x1, .i32⟩
  | 114 => ⟨S500000x1, .i1⟩
  | 115 => ⟨S500000x1, .i1⟩
  | 116 => ⟨S_, .i1⟩
  | 117 => ⟨S500000, .i1⟩
  | 118 => ⟨S500000x2, .f32⟩
  | 119 => ⟨S500000x2, .i1⟩
  | 120 => ⟨S_, .f32⟩
  | 121 => ⟨S500000x2, .f32⟩
  | 122 => ⟨S500000x2, .f32⟩
  | 123 => ⟨S1x2x2, .f32⟩
  | 124 => ⟨S2x2, .f32⟩
  | 125 => ⟨S500000x1, .f32⟩
  | 126 => ⟨S500000, .f32⟩
  | 127 => ⟨S500000, .i32⟩
  | _ => ⟨S500000x79, .f32⟩

abbrev hbmTy0_5 (i : Nat) : BufTy := match i % 128 with
  | 0 => ⟨S_, .i32⟩
  | 1 => ⟨S_, .i32⟩
  | 2 => ⟨S_, .i32⟩
  | 3 => ⟨S500000, .i32⟩
  | 4 => ⟨S500000, .i32⟩
  | 5 => ⟨S_, .i32⟩
  | 6 => ⟨S500000, .i32⟩
  | 7 => ⟨S500000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S1, .i32⟩
  | 17 => ⟨S_, .i32⟩
  | 18 => ⟨S500000x1, .i32⟩
  | 19 => ⟨S500000x1, .i1⟩
  | 20 => ⟨S1x1, .i32⟩
  | 21 => ⟨S500000x1, .i32⟩
  | 22 => ⟨S500000x1, .i1⟩
  | 23 => ⟨S500000x1, .i1⟩
  | 24 => ⟨S_, .i1⟩
  | 25 => ⟨S500000, .i1⟩
  | 26 => ⟨S500000x2, .f32⟩
  | 27 => ⟨S500000x2, .i1⟩
  | 28 => ⟨S_, .f32⟩
  | 29 => ⟨S500000x2, .f32⟩
  | 30 => ⟨S500000x2, .f32⟩
  | 31 => ⟨S1x2x2, .f32⟩
  | 32 => ⟨S2x2, .f32⟩
  | 33 => ⟨S500000x1, .f32⟩
  | 34 => ⟨S500000, .f32⟩
  | 35 => ⟨S500000, .i32⟩
  | 36 => ⟨S_, .i32⟩
  | 37 => ⟨S_, .i32⟩
  | 38 => ⟨S_, .i32⟩
  | 39 => ⟨S500000, .i32⟩
  | 40 => ⟨S500000, .i32⟩
  | 41 => ⟨S_, .i32⟩
  | 42 => ⟨S500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S1, .i32⟩
  | 53 => ⟨S_, .i32⟩
  | 54 => ⟨S500000x1, .i32⟩
  | 55 => ⟨S500000x1, .i1⟩
  | 56 => ⟨S1x1, .i32⟩
  | 57 => ⟨S500000x1, .i32⟩
  | 58 => ⟨S500000x1, .i1⟩
  | 59 => ⟨S500000x1, .i1⟩
  | 60 => ⟨S_, .i1⟩
  | 61 => ⟨S500000, .i1⟩
  | 62 => ⟨S500000x2, .f32⟩
  | 63 => ⟨S500000x2, .i1⟩
  | 64 => ⟨S_, .f32⟩
  | 65 => ⟨S500000x2, .f32⟩
  | 66 => ⟨S500000x2, .f32⟩
  | 67 => ⟨S1x2x2, .f32⟩
  | 68 => ⟨S2x2, .f32⟩
  | 69 => ⟨S500000x1, .f32⟩
  | 70 => ⟨S500000, .f32⟩
  | 71 => ⟨S500000, .i32⟩
  | 72 => ⟨S_, .i32⟩
  | 73 => ⟨S_, .i32⟩
  | 74 => ⟨S_, .i32⟩
  | 75 => ⟨S500000, .i32⟩
  | 76 => ⟨S500000, .i32⟩
  | 77 => ⟨S_, .i32⟩
  | 78 => ⟨S500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S1, .i32⟩
  | 89 => ⟨S_, .i32⟩
  | 90 => ⟨S500000x1, .i32⟩
  | 91 => ⟨S500000x1, .i1⟩
  | 92 => ⟨S1x1, .i32⟩
  | 93 => ⟨S500000x1, .i32⟩
  | 94 => ⟨S500000x1, .i1⟩
  | 95 => ⟨S500000x1, .i1⟩
  | 96 => ⟨S_, .i1⟩
  | 97 => ⟨S500000, .i1⟩
  | 98 => ⟨S500000x2, .f32⟩
  | 99 => ⟨S500000x2, .i1⟩
  | 100 => ⟨S_, .f32⟩
  | 101 => ⟨S500000x2, .f32⟩
  | 102 => ⟨S500000x2, .f32⟩
  | 103 => ⟨S1x2x2, .f32⟩
  | 104 => ⟨S2x2, .f32⟩
  | 105 => ⟨S500000x1, .f32⟩
  | 106 => ⟨S500000, .f32⟩
  | 107 => ⟨S500000, .i32⟩
  | 108 => ⟨S_, .i32⟩
  | 109 => ⟨S_, .i32⟩
  | 110 => ⟨S_, .i32⟩
  | 111 => ⟨S500000, .i32⟩
  | 112 => ⟨S500000, .i32⟩
  | 113 => ⟨S_, .i32⟩
  | 114 => ⟨S500000, .i32⟩
  | 115 => ⟨S500000, .i32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S1, .i32⟩
  | 125 => ⟨S_, .i32⟩
  | 126 => ⟨S500000x1, .i32⟩
  | 127 => ⟨S500000x1, .i1⟩
  | _ => ⟨S500000x79, .f32⟩

abbrev hbmTy0_6 (i : Nat) : BufTy := match i % 128 with
  | 0 => ⟨S1x1, .i32⟩
  | 1 => ⟨S500000x1, .i32⟩
  | 2 => ⟨S500000x1, .i1⟩
  | 3 => ⟨S500000x1, .i1⟩
  | 4 => ⟨S_, .i1⟩
  | 5 => ⟨S500000, .i1⟩
  | 6 => ⟨S500000x2, .f32⟩
  | 7 => ⟨S500000x2, .i1⟩
  | 8 => ⟨S_, .f32⟩
  | 9 => ⟨S500000x2, .f32⟩
  | 10 => ⟨S500000x2, .f32⟩
  | 11 => ⟨S1x2x2, .f32⟩
  | 12 => ⟨S2x2, .f32⟩
  | 13 => ⟨S500000x1, .f32⟩
  | 14 => ⟨S500000, .f32⟩
  | 15 => ⟨S500000, .i32⟩
  | 16 => ⟨S_, .i32⟩
  | 17 => ⟨S_, .i32⟩
  | 18 => ⟨S_, .i32⟩
  | 19 => ⟨S500000, .i32⟩
  | 20 => ⟨S500000, .i32⟩
  | 21 => ⟨S_, .i32⟩
  | 22 => ⟨S500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S1, .i32⟩
  | 33 => ⟨S_, .i32⟩
  | 34 => ⟨S500000x1, .i32⟩
  | 35 => ⟨S500000x1, .i1⟩
  | 36 => ⟨S1x1, .i32⟩
  | 37 => ⟨S500000x1, .i32⟩
  | 38 => ⟨S500000x1, .i1⟩
  | 39 => ⟨S500000x1, .i1⟩
  | 40 => ⟨S_, .i1⟩
  | 41 => ⟨S500000, .i1⟩
  | 42 => ⟨S500000x2, .f32⟩
  | 43 => ⟨S500000x2, .i1⟩
  | 44 => ⟨S_, .f32⟩
  | 45 => ⟨S500000x2, .f32⟩
  | 46 => ⟨S500000x2, .f32⟩
  | 47 => ⟨S1x2x2, .f32⟩
  | 48 => ⟨S2x2, .f32⟩
  | 49 => ⟨S500000x1, .f32⟩
  | 50 => ⟨S500000, .f32⟩
  | 51 => ⟨S500000, .i32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S1, .i32⟩
  | 69 => ⟨S_, .i32⟩
  | 70 => ⟨S500000x1, .i32⟩
  | 71 => ⟨S500000x1, .i1⟩
  | 72 => ⟨S1x1, .i32⟩
  | 73 => ⟨S500000x1, .i32⟩
  | 74 => ⟨S500000x1, .i1⟩
  | 75 => ⟨S500000x1, .i1⟩
  | 76 => ⟨S_, .i1⟩
  | 77 => ⟨S500000, .i1⟩
  | 78 => ⟨S500000x2, .f32⟩
  | 79 => ⟨S500000x2, .i1⟩
  | 80 => ⟨S_, .f32⟩
  | 81 => ⟨S500000x2, .f32⟩
  | 82 => ⟨S500000x2, .f32⟩
  | 83 => ⟨S1x2x2, .f32⟩
  | 84 => ⟨S2x2, .f32⟩
  | 85 => ⟨S500000x1, .f32⟩
  | 86 => ⟨S500000, .f32⟩
  | 87 => ⟨S500000, .i32⟩
  | 88 => ⟨S_, .i32⟩
  | 89 => ⟨S_, .i32⟩
  | 90 => ⟨S_, .i32⟩
  | 91 => ⟨S500000, .i32⟩
  | 92 => ⟨S500000, .i32⟩
  | 93 => ⟨S_, .i32⟩
  | 94 => ⟨S500000, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S1, .i32⟩
  | 105 => ⟨S_, .i32⟩
  | 106 => ⟨S500000x1, .i32⟩
  | 107 => ⟨S500000x1, .i1⟩
  | 108 => ⟨S1x1, .i32⟩
  | 109 => ⟨S500000x1, .i32⟩
  | 110 => ⟨S500000x1, .i1⟩
  | 111 => ⟨S500000x1, .i1⟩
  | 112 => ⟨S_, .i1⟩
  | 113 => ⟨S500000, .i1⟩
  | 114 => ⟨S500000x2, .f32⟩
  | 115 => ⟨S500000x2, .i1⟩
  | 116 => ⟨S_, .f32⟩
  | 117 => ⟨S500000x2, .f32⟩
  | 118 => ⟨S500000x2, .f32⟩
  | 119 => ⟨S1x2x2, .f32⟩
  | 120 => ⟨S2x2, .f32⟩
  | 121 => ⟨S500000x1, .f32⟩
  | 122 => ⟨S500000, .f32⟩
  | 123 => ⟨S500000, .i32⟩
  | 124 => ⟨S_, .i32⟩
  | 125 => ⟨S_, .i32⟩
  | 126 => ⟨S_, .i32⟩
  | 127 => ⟨S500000, .i32⟩
  | _ => ⟨S500000x79, .f32⟩

abbrev hbmTy0_7 (i : Nat) : BufTy := match i % 128 with
  | 0 => ⟨S500000, .i32⟩
  | 1 => ⟨S_, .i32⟩
  | 2 => ⟨S500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S1, .i32⟩
  | 13 => ⟨S_, .i32⟩
  | 14 => ⟨S500000x1, .i32⟩
  | 15 => ⟨S500000x1, .i1⟩
  | 16 => ⟨S1x1, .i32⟩
  | 17 => ⟨S500000x1, .i32⟩
  | 18 => ⟨S500000x1, .i1⟩
  | 19 => ⟨S500000x1, .i1⟩
  | 20 => ⟨S_, .i1⟩
  | 21 => ⟨S500000, .i1⟩
  | 22 => ⟨S500000x2, .f32⟩
  | 23 => ⟨S500000x2, .i1⟩
  | 24 => ⟨S_, .f32⟩
  | 25 => ⟨S500000x2, .f32⟩
  | 26 => ⟨S500000x2, .f32⟩
  | 27 => ⟨S1x2x2, .f32⟩
  | 28 => ⟨S2x2, .f32⟩
  | 29 => ⟨S500000x1, .f32⟩
  | 30 => ⟨S500000, .f32⟩
  | 31 => ⟨S500000, .i32⟩
  | 32 => ⟨S_, .i32⟩
  | 33 => ⟨S_, .i32⟩
  | 34 => ⟨S_, .i32⟩
  | 35 => ⟨S500000, .i32⟩
  | 36 => ⟨S500000, .i32⟩
  | 37 => ⟨S_, .i32⟩
  | 38 => ⟨S500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S1, .i32⟩
  | 49 => ⟨S_, .i32⟩
  | 50 => ⟨S500000x1, .i32⟩
  | 51 => ⟨S500000x1, .i1⟩
  | 52 => ⟨S1x1, .i32⟩
  | 53 => ⟨S500000x1, .i32⟩
  | 54 => ⟨S500000x1, .i1⟩
  | 55 => ⟨S500000x1, .i1⟩
  | 56 => ⟨S_, .i1⟩
  | 57 => ⟨S500000, .i1⟩
  | 58 => ⟨S500000x2, .f32⟩
  | 59 => ⟨S500000x2, .i1⟩
  | 60 => ⟨S_, .f32⟩
  | 61 => ⟨S500000x2, .f32⟩
  | 62 => ⟨S500000x2, .f32⟩
  | 63 => ⟨S1x2x2, .f32⟩
  | 64 => ⟨S2x2, .f32⟩
  | 65 => ⟨S500000x1, .f32⟩
  | 66 => ⟨S500000, .f32⟩
  | 67 => ⟨S500000, .i32⟩
  | 68 => ⟨S_, .i32⟩
  | 69 => ⟨S_, .i32⟩
  | 70 => ⟨S_, .i32⟩
  | 71 => ⟨S500000, .i32⟩
  | 72 => ⟨S500000, .i32⟩
  | 73 => ⟨S_, .i32⟩
  | 74 => ⟨S500000, .i32⟩
  | 75 => ⟨S500000, .i32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S1, .i32⟩
  | 85 => ⟨S_, .i32⟩
  | 86 => ⟨S500000x1, .i32⟩
  | 87 => ⟨S500000x1, .i1⟩
  | 88 => ⟨S1x1, .i32⟩
  | 89 => ⟨S500000x1, .i32⟩
  | 90 => ⟨S500000x1, .i1⟩
  | 91 => ⟨S500000x1, .i1⟩
  | 92 => ⟨S_, .i1⟩
  | 93 => ⟨S500000, .i1⟩
  | 94 => ⟨S500000x2, .f32⟩
  | 95 => ⟨S500000x2, .i1⟩
  | 96 => ⟨S_, .f32⟩
  | 97 => ⟨S500000x2, .f32⟩
  | 98 => ⟨S500000x2, .f32⟩
  | 99 => ⟨S500000x32, .f32⟩
  | 100 => ⟨S500000x4, .f32⟩
  | 101 => ⟨S500000x36, .f32⟩
  | 102 => ⟨S500000x4, .f32⟩
  | 103 => ⟨S1x4, .f32⟩
  | 104 => ⟨S500000x4, .f32⟩
  | 105 => ⟨S500000x4, .f32⟩
  | 106 => ⟨S500000x1, .f32⟩
  | 107 => ⟨S500000, .f32⟩
  | 108 => ⟨S500000, .i32⟩
  | 109 => ⟨S_, .i32⟩
  | 110 => ⟨S_, .i32⟩
  | 111 => ⟨S_, .i32⟩
  | 112 => ⟨S500000, .i32⟩
  | 113 => ⟨S500000, .i32⟩
  | 114 => ⟨S_, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S1, .i32⟩
  | 126 => ⟨S_, .i32⟩
  | 127 => ⟨S500000x1, .i32⟩
  | _ => ⟨S500000x79, .f32⟩

abbrev hbmTy0_8 (i : Nat) : BufTy := match i % 128 with
  | 0 => ⟨S500000x1, .i1⟩
  | 1 => ⟨S1x1, .i32⟩
  | 2 => ⟨S500000x1, .i32⟩
  | 3 => ⟨S500000x1, .i1⟩
  | 4 => ⟨S500000x1, .i1⟩
  | 5 => ⟨S_, .i1⟩
  | 6 => ⟨S500000, .i1⟩
  | 7 => ⟨S500000x2, .f32⟩
  | 8 => ⟨S500000x2, .i1⟩
  | 9 => ⟨S_, .f32⟩
  | 10 => ⟨S500000x2, .f32⟩
  | 11 => ⟨S500000x2, .f32⟩
  | 12 => ⟨S500000x1, .f32⟩
  | 13 => ⟨S500000, .f32⟩
  | 14 => ⟨S500000, .i32⟩
  | 15 => ⟨S_, .i32⟩
  | 16 => ⟨S_, .i32⟩
  | 17 => ⟨S_, .i32⟩
  | 18 => ⟨S500000, .i32⟩
  | 19 => ⟨S500000, .i32⟩
  | 20 => ⟨S_, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S1, .i32⟩
  | 32 => ⟨S_, .i32⟩
  | 33 => ⟨S500000x1, .i32⟩
  | 34 => ⟨S500000x1, .i1⟩
  | 35 => ⟨S1x1, .i32⟩
  | 36 => ⟨S500000x1, .i32⟩
  | 37 => ⟨S500000x1, .i1⟩
  | 38 => ⟨S500000x1, .i1⟩
  | 39 => ⟨S_, .i1⟩
  | 40 => ⟨S500000, .i1⟩
  | 41 => ⟨S500000x2, .f32⟩
  | 42 => ⟨S500000x2, .i1⟩
  | 43 => ⟨S_, .f32⟩
  | 44 => ⟨S500000x2, .f32⟩
  | 45 => ⟨S500000x2, .f32⟩
  | 46 => ⟨S500000x1, .f32⟩
  | 47 => ⟨S500000, .f32⟩
  | 48 => ⟨S500000, .i32⟩
  | 49 => ⟨S_, .i32⟩
  | 50 => ⟨S500000, .i32⟩
  | 51 => ⟨S_, .i32⟩
  | 52 => ⟨S500000, .i32⟩
  | 53 => ⟨S500000, .i1⟩
  | 54 => ⟨S_, .i32⟩
  | 55 => ⟨S_, .i32⟩
  | 56 => ⟨S500000, .i32⟩
  | 57 => ⟨S500000, .i32⟩
  | 58 => ⟨S_, .i32⟩
  | 59 => ⟨S500000, .i32⟩
  | 60 => ⟨S500000, .i1⟩
  | 61 => ⟨S_, .i32⟩
  | 62 => ⟨S_, .i32⟩
  | 63 => ⟨S500000, .i32⟩
  | 64 => ⟨S500000, .i32⟩
  | 65 => ⟨S_, .i32⟩
  | 66 => ⟨S500000, .i32⟩
  | 67 => ⟨S500000, .i1⟩
  | 68 => ⟨S_, .i32⟩
  | 69 => ⟨S_, .i32⟩
  | 70 => ⟨S500000, .i32⟩
  | 71 => ⟨S500000, .i32⟩
  | 72 => ⟨S_, .i32⟩
  | 73 => ⟨S500000, .i32⟩
  | 74 => ⟨S500000, .i1⟩
  | 75 => ⟨S_, .i32⟩
  | 76 => ⟨S_, .i32⟩
  | 77 => ⟨S500000, .i32⟩
  | 78 => ⟨S500000, .i32⟩
  | 79 => ⟨S_, .i32⟩
  | 80 => ⟨S500000, .i32⟩
  | 81 => ⟨S500000, .i1⟩
  | 82 => ⟨S_, .i32⟩
  | 83 => ⟨S_, .i32⟩
  | 84 => ⟨S500000, .i32⟩
  | 85 => ⟨S500000, .i32⟩
  | 86 => ⟨S_, .i32⟩
  | 87 => ⟨S500000, .i32⟩
  | 88 => ⟨S500000, .i1⟩
  | 89 => ⟨S_, .i32⟩
  | 90 => ⟨S_, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S_, .i32⟩
  | 98 => ⟨S500000, .i32⟩
  | 99 => ⟨S500000, .i32⟩
  | 100 => ⟨S_, .i32⟩
  | 101 => ⟨S_, .i32⟩
  | 102 => ⟨S_, .i32⟩
  | 103 => ⟨S500000, .i32⟩
  | 104 => ⟨S500000, .i32⟩
  | 105 => ⟨S_, .i32⟩
  | 106 => ⟨S500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S1, .i32⟩
  | 117 => ⟨S_, .i32⟩
  | 118 => ⟨S500000x1, .i32⟩
  | 119 => ⟨S500000x1, .i1⟩
  | 120 => ⟨S1x1, .i32⟩
  | 121 => ⟨S500000x1, .i32⟩
  | 122 => ⟨S500000x1, .i1⟩
  | 123 => ⟨S500000x1, .i1⟩
  | 124 => ⟨S_, .i1⟩
  | 125 => ⟨S500000, .i1⟩
  | 126 => ⟨S500000x4, .f32⟩
  | 127 => ⟨S500000x4, .i1⟩
  | _ => ⟨S500000x79, .f32⟩

abbrev hbmTy0_9 (i : Nat) : BufTy := match i % 128 with
  | 0 => ⟨S_, .f32⟩
  | 1 => ⟨S500000x4, .f32⟩
  | 2 => ⟨S500000x4, .f32⟩
  | 3 => ⟨S500000x1, .f32⟩
  | 4 => ⟨S500000, .f32⟩
  | 5 => ⟨S500000, .i32⟩
  | 6 => ⟨S_, .i32⟩
  | 7 => ⟨S_, .i32⟩
  | 8 => ⟨S_, .i32⟩
  | 9 => ⟨S500000, .i32⟩
  | 10 => ⟨S500000, .i32⟩
  | 11 => ⟨S_, .i32⟩
  | 12 => ⟨S500000, .i32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S1, .i32⟩
  | 23 => ⟨S_, .i32⟩
  | 24 => ⟨S500000x1, .i32⟩
  | 25 => ⟨S500000x1, .i1⟩
  | 26 => ⟨S1x1, .i32⟩
  | 27 => ⟨S500000x1, .i32⟩
  | 28 => ⟨S500000x1, .i1⟩
  | 29 => ⟨S500000x1, .i1⟩
  | 30 => ⟨S_, .i1⟩
  | 31 => ⟨S500000, .i1⟩
  | 32 => ⟨S500000x4, .f32⟩
  | 33 => ⟨S500000x4, .i1⟩
  | 34 => ⟨S_, .f32⟩
  | 35 => ⟨S500000x4, .f32⟩
  | 36 => ⟨S500000x4, .f32⟩
  | 37 => ⟨S500000x1, .f32⟩
  | 38 => ⟨S500000, .f32⟩
  | 39 => ⟨S500000, .i32⟩
  | 40 => ⟨S_, .i32⟩
  | 41 => ⟨S_, .i32⟩
  | 42 => ⟨S_, .i32⟩
  | 43 => ⟨S500000, .i32⟩
  | 44 => ⟨S500000, .i32⟩
  | 45 => ⟨S_, .i32⟩
  | 46 => ⟨S500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S1, .i32⟩
  | 57 => ⟨S_, .i32⟩
  | 58 => ⟨S500000x1, .i32⟩
  | 59 => ⟨S500000x1, .i1⟩
  | 60 => ⟨S1x1, .i32⟩
  | 61 => ⟨S500000x1, .i32⟩
  | 62 => ⟨S500000x1, .i1⟩
  | 63 => ⟨S500000x1, .i1⟩
  | 64 => ⟨S_, .i1⟩
  | 65 => ⟨S500000, .i1⟩
  | 66 => ⟨S500000x4, .f32⟩
  | 67 => ⟨S500000x4, .i1⟩
  | 68 => ⟨S_, .f32⟩
  | 69 => ⟨S500000x4, .f32⟩
  | 70 => ⟨S500000x4, .f32⟩
  | 71 => ⟨S500000x1, .f32⟩
  | 72 => ⟨S500000, .f32⟩
  | 73 => ⟨S500000, .i32⟩
  | 74 => ⟨S_, .i32⟩
  | 75 => ⟨S_, .i32⟩
  | 76 => ⟨S_, .i32⟩
  | 77 => ⟨S500000, .i32⟩
  | 78 => ⟨S500000, .i32⟩
  | 79 => ⟨S_, .i32⟩
  | 80 => ⟨S500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S1, .i32⟩
  | 91 => ⟨S_, .i32⟩
  | 92 => ⟨S500000x1, .i32⟩
  | 93 => ⟨S500000x1, .i1⟩
  | 94 => ⟨S1x1, .i32⟩
  | 95 => ⟨S500000x1, .i32⟩
  | 96 => ⟨S500000x1, .i1⟩
  | 97 => ⟨S500000x1, .i1⟩
  | 98 => ⟨S_, .i1⟩
  | 99 => ⟨S500000, .i1⟩
  | 100 => ⟨S500000x4, .f32⟩
  | 101 => ⟨S500000x4, .i1⟩
  | 102 => ⟨S_, .f32⟩
  | 103 => ⟨S500000x4, .f32⟩
  | 104 => ⟨S500000x4, .f32⟩
  | 105 => ⟨S500000x48, .f32⟩
  | 106 => ⟨S500000x16, .f32⟩
  | 107 => ⟨S1x16, .f32⟩
  | 108 => ⟨S500000x16, .f32⟩
  | 109 => ⟨S500000x16, .f32⟩
  | 110 => ⟨S500000x52, .f32⟩
  | 111 => ⟨S500000x48, .f32⟩
  | 112 => ⟨S1x48, .f32⟩
  | 113 => ⟨S500000x48, .f32⟩
  | 114 => ⟨S500000x48, .f32⟩
  | 115 => ⟨S500000x64, .f32⟩
  | _ => ⟨S500000x79, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S500000x79, .f32⟩

abbrev bufTy : (tb : Table) → Fin (tcTables nBuf tb) → BufTy
  | .hbm, ⟨i, _⟩ => hbmTy i
  | _, _ => ⟨S500000x79, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_v10 : Ref sig .tc := ⟨.hbm, 40, rfl⟩
abbrev main_c_4 : Ref sig .tc := ⟨.hbm, 41, rfl⟩
abbrev main_v11 : Ref sig .tc := ⟨.hbm, 42, rfl⟩
abbrev main_v12 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_v13 : Ref sig .tc := ⟨.hbm, 47, rfl⟩
abbrev main_c_6 : Ref sig .tc := ⟨.hbm, 48, rfl⟩
abbrev main_v14 : Ref sig .tc := ⟨.hbm, 49, rfl⟩
abbrev main_v15 : Ref sig .tc := ⟨.hbm, 50, rfl⟩
abbrev main_c_7 : Ref sig .tc := ⟨.hbm, 51, rfl⟩
abbrev main_call3_v0 : Ref sig .tc := ⟨.hbm, 52, rfl⟩
abbrev main_call3_v1 : Ref sig .tc := ⟨.hbm, 53, rfl⟩
abbrev main_v16 : Ref sig .tc := ⟨.hbm, 54, rfl⟩
abbrev main_c_8 : Ref sig .tc := ⟨.hbm, 55, rfl⟩
abbrev main_v17 : Ref sig .tc := ⟨.hbm, 56, rfl⟩
abbrev main_v18 : Ref sig .tc := ⟨.hbm, 57, rfl⟩
abbrev main_c_9 : Ref sig .tc := ⟨.hbm, 58, rfl⟩
abbrev main_call4_v0 : Ref sig .tc := ⟨.hbm, 59, rfl⟩
abbrev main_call4_v1 : Ref sig .tc := ⟨.hbm, 60, rfl⟩
abbrev main_v19 : Ref sig .tc := ⟨.hbm, 61, rfl⟩
abbrev main_c_10 : Ref sig .tc := ⟨.hbm, 62, rfl⟩
abbrev main_v20 : Ref sig .tc := ⟨.hbm, 63, rfl⟩
abbrev main_v21 : Ref sig .tc := ⟨.hbm, 64, rfl⟩
abbrev main_c_11 : Ref sig .tc := ⟨.hbm, 65, rfl⟩
abbrev main_call5_v0 : Ref sig .tc := ⟨.hbm, 66, rfl⟩
abbrev main_call5_v1 : Ref sig .tc := ⟨.hbm, 67, rfl⟩
abbrev main_v22 : Ref sig .tc := ⟨.hbm, 68, rfl⟩
abbrev main_c_12 : Ref sig .tc := ⟨.hbm, 69, rfl⟩
abbrev main_v23 : Ref sig .tc := ⟨.hbm, 70, rfl⟩
abbrev main_v24 : Ref sig .tc := ⟨.hbm, 71, rfl⟩
abbrev main_c_13 : Ref sig .tc := ⟨.hbm, 72, rfl⟩
abbrev main_call6_v0 : Ref sig .tc := ⟨.hbm, 73, rfl⟩
abbrev main_call6_v1 : Ref sig .tc := ⟨.hbm, 74, rfl⟩
abbrev main_v25 : Ref sig .tc := ⟨.hbm, 75, rfl⟩
abbrev main_c_14 : Ref sig .tc := ⟨.hbm, 76, rfl⟩
abbrev main_v26 : Ref sig .tc := ⟨.hbm, 77, rfl⟩
abbrev main_v27 : Ref sig .tc := ⟨.hbm, 78, rfl⟩
abbrev main_c_15 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_16 : Ref sig .tc := ⟨.hbm, 83, rfl⟩
abbrev main_call7_v0 : Ref sig .tc := ⟨.hbm, 84, rfl⟩
abbrev main_call7_v1 : Ref sig .tc := ⟨.hbm, 85, rfl⟩
abbrev main_v31 : Ref sig .tc := ⟨.hbm, 86, rfl⟩
abbrev main_call8_c : Ref sig .tc := ⟨.hbm, 87, rfl⟩
abbrev main_call8_v0 : Ref sig .tc := ⟨.hbm, 88, rfl⟩
abbrev main_call8_v1 : Ref sig .tc := ⟨.hbm, 89, rfl⟩
abbrev main_call8_c_0 : Ref sig .tc := ⟨.hbm, 90, rfl⟩
abbrev main_call8_v2 : Ref sig .tc := ⟨.hbm, 91, rfl⟩
abbrev main_call8_v3 : Ref sig .tc := ⟨.hbm, 92, rfl⟩
abbrev main_call8_v4 : Ref sig .tc := ⟨.hbm, 93, rfl⟩
abbrev main_call8_v5 : Ref sig .tc := ⟨.hbm, 94, rfl⟩
abbrev main_call8_c_1 : Ref sig .tc := ⟨.hbm, 95, rfl⟩
abbrev main_call8_c_2 : Ref sig .tc := ⟨.hbm, 96, rfl⟩
abbrev main_call8_v6 : Ref sig .tc := ⟨.hbm, 97, rfl⟩
abbrev main_call8_v7 : Ref sig .tc := ⟨.hbm, 98, rfl⟩
abbrev main_call8_v8 : Ref sig .tc := ⟨.hbm, 99, rfl⟩
abbrev main_call8_v9 : Ref sig .tc := ⟨.hbm, 100, rfl⟩
abbrev main_call8_v10 : Ref sig .tc := ⟨.hbm, 101, rfl⟩
abbrev main_call8_v11 : Ref sig .tc := ⟨.hbm, 102, rfl⟩
abbrev main_call8_c_3 : Ref sig .tc := ⟨.hbm, 103, rfl⟩
abbrev main_call8_v12 : Ref sig .tc := ⟨.hbm, 104, rfl⟩
abbrev main_call8_v13 : Ref sig .tc := ⟨.hbm, 105, rfl⟩
abbrev main_call8_c_4 : Ref sig .tc := ⟨.hbm, 106, rfl⟩
abbrev main_call8_v14 : Ref sig .tc := ⟨.hbm, 107, rfl⟩
abbrev main_v32 : Ref sig .tc := ⟨.hbm, 108, rfl⟩
abbrev main_c_17 : Ref sig .tc := ⟨.hbm, 109, rfl⟩
abbrev main_c_18 : Ref sig .tc := ⟨.hbm, 110, rfl⟩
abbrev main_call9_v0 : Ref sig .tc := ⟨.hbm, 111, rfl⟩
abbrev main_call9_v1 : Ref sig .tc := ⟨.hbm, 112, rfl⟩
abbrev main_call9_v2 : Ref sig .tc := ⟨.hbm, 113, rfl⟩
abbrev main_call9_v3 : Ref sig .tc := ⟨.hbm, 114, rfl⟩
abbrev main_call9_v4 : Ref sig .tc := ⟨.hbm, 115, rfl⟩
abbrev main_v33 : Ref sig .tc := ⟨.hbm, 116, rfl⟩
abbrev main_call10_c : Ref sig .tc := ⟨.hbm, 117, rfl⟩
abbrev main_call10_v0 : Ref sig .tc := ⟨.hbm, 118, rfl⟩
abbrev main_call10_v1 : Ref sig .tc := ⟨.hbm, 119, rfl⟩
abbrev main_call10_c_0 : Ref sig .tc := ⟨.hbm, 120, rfl⟩
abbrev main_call10_v2 : Ref sig .tc := ⟨.hbm, 121, rfl⟩
abbrev main_call10_v3 : Ref sig .tc := ⟨.hbm, 122, rfl⟩
abbrev main_call10_v4 : Ref sig .tc := ⟨.hbm, 123, rfl⟩
abbrev main_call10_v5 : Ref sig .tc := ⟨.hbm, 124, rfl⟩
abbrev main_call10_c_1 : Ref sig .tc := ⟨.hbm, 125, rfl⟩
abbrev main_call10_c_2 : Ref sig .tc := ⟨.hbm, 126, rfl⟩
abbrev main_call10_v6 : Ref sig .tc := ⟨.hbm, 127, rfl⟩
abbrev main_call10_v7 : Ref sig .tc := ⟨.hbm, 128, rfl⟩
abbrev main_call10_v8 : Ref sig .tc := ⟨.hbm, 129, rfl⟩
abbrev main_call10_v9 : Ref sig .tc := ⟨.hbm, 130, rfl⟩
abbrev main_call10_v10 : Ref sig .tc := ⟨.hbm, 131, rfl⟩
abbrev main_call10_v11 : Ref sig .tc := ⟨.hbm, 132, rfl⟩
abbrev main_call10_c_3 : Ref sig .tc := ⟨.hbm, 133, rfl⟩
abbrev main_call10_v12 : Ref sig .tc := ⟨.hbm, 134, rfl⟩
abbrev main_call10_v13 : Ref sig .tc := ⟨.hbm, 135, rfl⟩
abbrev main_call10_v14 : Ref sig .tc := ⟨.hbm, 136, rfl⟩
abbrev main_call10_cst : Ref sig .tc := ⟨.hbm, 137, rfl⟩
abbrev main_call10_v15 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_c_19 : Ref sig .tc := ⟨.hbm, 143, rfl⟩
abbrev main_c_20 : Ref sig .tc := ⟨.hbm, 144, rfl⟩
abbrev main_call11_v0 : Ref sig .tc := ⟨.hbm, 145, rfl⟩
abbrev main_call11_v1 : Ref sig .tc := ⟨.hbm, 146, rfl⟩
abbrev main_call11_v2 : Ref sig .tc := ⟨.hbm, 147, rfl⟩
abbrev main_call11_v3 : Ref sig .tc := ⟨.hbm, 148, rfl⟩
abbrev main_call11_v4 : Ref sig .tc := ⟨.hbm, 149, rfl⟩
abbrev main_v38 : Ref sig .tc := ⟨.hbm, 150, rfl⟩
abbrev main_call12_c : Ref sig .tc := ⟨.hbm, 151, rfl⟩
abbrev main_call12_v0 : Ref sig .tc := ⟨.hbm, 152, rfl⟩
abbrev main_call12_v1 : Ref sig .tc := ⟨.hbm, 153, rfl⟩
abbrev main_call12_c_0 : Ref sig .tc := ⟨.hbm, 154, rfl⟩
abbrev main_call12_v2 : Ref sig .tc := ⟨.hbm, 155, rfl⟩
abbrev main_call12_v3 : Ref sig .tc := ⟨.hbm, 156, rfl⟩
abbrev main_call12_v4 : Ref sig .tc := ⟨.hbm, 157, rfl⟩
abbrev main_call12_v5 : Ref sig .tc := ⟨.hbm, 158, rfl⟩
abbrev main_call12_c_1 : Ref sig .tc := ⟨.hbm, 159, rfl⟩
abbrev main_call12_c_2 : Ref sig .tc := ⟨.hbm, 160, rfl⟩
abbrev main_call12_v6 : Ref sig .tc := ⟨.hbm, 161, rfl⟩
abbrev main_call12_v7 : Ref sig .tc := ⟨.hbm, 162, rfl⟩
abbrev main_call12_v8 : Ref sig .tc := ⟨.hbm, 163, rfl⟩
abbrev main_call12_v9 : Ref sig .tc := ⟨.hbm, 164, rfl⟩
abbrev main_call12_v10 : Ref sig .tc := ⟨.hbm, 165, rfl⟩
abbrev main_call12_v11 : Ref sig .tc := ⟨.hbm, 166, rfl⟩
abbrev main_call12_c_3 : Ref sig .tc := ⟨.hbm, 167, rfl⟩
abbrev main_call12_v12 : Ref sig .tc := ⟨.hbm, 168, rfl⟩
abbrev main_call12_v13 : Ref sig .tc := ⟨.hbm, 169, rfl⟩
abbrev main_call12_v14 : Ref sig .tc := ⟨.hbm, 170, rfl⟩
abbrev main_call12_cst : Ref sig .tc := ⟨.hbm, 171, rfl⟩
abbrev main_call12_v15 : Ref sig .tc := ⟨.hbm, 172, rfl⟩
abbrev main_v39 : Ref sig .tc := ⟨.hbm, 173, rfl⟩
abbrev main_v40 : Ref sig .tc := ⟨.hbm, 174, rfl⟩
abbrev main_v41 : Ref sig .tc := ⟨.hbm, 175, rfl⟩
abbrev main_v42 : Ref sig .tc := ⟨.hbm, 176, rfl⟩
abbrev main_c_21 : Ref sig .tc := ⟨.hbm, 177, rfl⟩
abbrev main_v43 : Ref sig .tc := ⟨.hbm, 178, rfl⟩
abbrev main_v44 : Ref sig .tc := ⟨.hbm, 179, rfl⟩
abbrev main_c_22 : Ref sig .tc := ⟨.hbm, 180, rfl⟩
abbrev main_c_23 : Ref sig .tc := ⟨.hbm, 181, rfl⟩
abbrev main_call13_v0 : Ref sig .tc := ⟨.hbm, 182, rfl⟩
abbrev main_call13_v1 : Ref sig .tc := ⟨.hbm, 183, rfl⟩
abbrev main_call13_v2 : Ref sig .tc := ⟨.hbm, 184, rfl⟩
abbrev main_call13_v3 : Ref sig .tc := ⟨.hbm, 185, rfl⟩
abbrev main_call13_v4 : Ref sig .tc := ⟨.hbm, 186, rfl⟩
abbrev main_v45 : Ref sig .tc := ⟨.hbm, 187, rfl⟩
abbrev main_call14_c : Ref sig .tc := ⟨.hbm, 188, rfl⟩
abbrev main_call14_v0 : Ref sig .tc := ⟨.hbm, 189, rfl⟩
abbrev main_call14_v1 : Ref sig .tc := ⟨.hbm, 190, rfl⟩
abbrev main_call14_c_0 : Ref sig .tc := ⟨.hbm, 191, rfl⟩
abbrev main_call14_v2 : Ref sig .tc := ⟨.hbm, 192, rfl⟩
abbrev main_call14_v3 : Ref sig .tc := ⟨.hbm, 193, rfl⟩
abbrev main_call14_v4 : Ref sig .tc := ⟨.hbm, 194, rfl⟩
abbrev main_call14_v5 : Ref sig .tc := ⟨.hbm, 195, rfl⟩
abbrev main_call14_c_1 : Ref sig .tc := ⟨.hbm, 196, rfl⟩
abbrev main_call14_c_2 : Ref sig .tc := ⟨.hbm, 197, rfl⟩
abbrev main_call14_v6 : Ref sig .tc := ⟨.hbm, 198, rfl⟩
abbrev main_call14_v7 : Ref sig .tc := ⟨.hbm, 199, rfl⟩
abbrev main_call14_v8 : Ref sig .tc := ⟨.hbm, 200, rfl⟩
abbrev main_call14_v9 : Ref sig .tc := ⟨.hbm, 201, rfl⟩
abbrev main_call14_v10 : Ref sig .tc := ⟨.hbm, 202, rfl⟩
abbrev main_call14_v11 : Ref sig .tc := ⟨.hbm, 203, rfl⟩
abbrev main_call14_c_3 : Ref sig .tc := ⟨.hbm, 204, rfl⟩
abbrev main_call14_v12 : Ref sig .tc := ⟨.hbm, 205, rfl⟩
abbrev main_call14_v13 : Ref sig .tc := ⟨.hbm, 206, rfl⟩
abbrev main_call14_v14 : Ref sig .tc := ⟨.hbm, 207, rfl⟩
abbrev main_call14_cst : Ref sig .tc := ⟨.hbm, 208, rfl⟩
abbrev main_call14_v15 : Ref sig .tc := ⟨.hbm, 209, rfl⟩
abbrev main_v46 : Ref sig .tc := ⟨.hbm, 210, rfl⟩
abbrev main_v47 : Ref sig .tc := ⟨.hbm, 211, rfl⟩
abbrev main_v48 : Ref sig .tc := ⟨.hbm, 212, rfl⟩
abbrev main_v49 : Ref sig .tc := ⟨.hbm, 213, rfl⟩
abbrev main_c_24 : Ref sig .tc := ⟨.hbm, 214, rfl⟩
abbrev main_c_25 : Ref sig .tc := ⟨.hbm, 215, rfl⟩
abbrev main_call15_v0 : Ref sig .tc := ⟨.hbm, 216, rfl⟩
abbrev main_call15_v1 : Ref sig .tc := ⟨.hbm, 217, rfl⟩
abbrev main_call15_v2 : Ref sig .tc := ⟨.hbm, 218, rfl⟩
abbrev main_call15_v3 : Ref sig .tc := ⟨.hbm, 219, rfl⟩
abbrev main_call15_v4 : Ref sig .tc := ⟨.hbm, 220, rfl⟩
abbrev main_v50 : Ref sig .tc := ⟨.hbm, 221, rfl⟩
abbrev main_call16_c : Ref sig .tc := ⟨.hbm, 222, rfl⟩
abbrev main_call16_v0 : Ref sig .tc := ⟨.hbm, 223, rfl⟩
abbrev main_call16_v1 : Ref sig .tc := ⟨.hbm, 224, rfl⟩
abbrev main_call16_c_0 : Ref sig .tc := ⟨.hbm, 225, rfl⟩
abbrev main_call16_v2 : Ref sig .tc := ⟨.hbm, 226, rfl⟩
abbrev main_call16_v3 : Ref sig .tc := ⟨.hbm, 227, rfl⟩
abbrev main_call16_v4 : Ref sig .tc := ⟨.hbm, 228, rfl⟩
abbrev main_call16_v5 : Ref sig .tc := ⟨.hbm, 229, rfl⟩
abbrev main_call16_c_1 : Ref sig .tc := ⟨.hbm, 230, rfl⟩
abbrev main_call16_c_2 : Ref sig .tc := ⟨.hbm, 231, rfl⟩
abbrev main_call16_v6 : Ref sig .tc := ⟨.hbm, 232, rfl⟩
abbrev main_call16_v7 : Ref sig .tc := ⟨.hbm, 233, rfl⟩
abbrev main_call16_v8 : Ref sig .tc := ⟨.hbm, 234, rfl⟩
abbrev main_call16_v9 : Ref sig .tc := ⟨.hbm, 235, rfl⟩
abbrev main_call16_v10 : Ref sig .tc := ⟨.hbm, 236, rfl⟩
abbrev main_call16_v11 : Ref sig .tc := ⟨.hbm, 237, rfl⟩
abbrev main_call16_c_3 : Ref sig .tc := ⟨.hbm, 238, rfl⟩
abbrev main_call16_v12 : Ref sig .tc := ⟨.hbm, 239, rfl⟩
abbrev main_call16_v13 : Ref sig .tc := ⟨.hbm, 240, rfl⟩
abbrev main_call16_v14 : Ref sig .tc := ⟨.hbm, 241, rfl⟩
abbrev main_call16_cst : Ref sig .tc := ⟨.hbm, 242, rfl⟩
abbrev main_call16_v15 : Ref sig .tc := ⟨.hbm, 243, rfl⟩
abbrev main_v51 : Ref sig .tc := ⟨.hbm, 244, rfl⟩
abbrev main_v52 : Ref sig .tc := ⟨.hbm, 245, rfl⟩
abbrev main_v53 : Ref sig .tc := ⟨.hbm, 246, rfl⟩
abbrev main_v54 : Ref sig .tc := ⟨.hbm, 247, rfl⟩
abbrev main_c_26 : Ref sig .tc := ⟨.hbm, 248, rfl⟩
abbrev main_c_27 : Ref sig .tc := ⟨.hbm, 249, rfl⟩
abbrev main_call17_v0 : Ref sig .tc := ⟨.hbm, 250, rfl⟩
abbrev main_call17_v1 : Ref sig .tc := ⟨.hbm, 251, rfl⟩
abbrev main_call17_v2 : Ref sig .tc := ⟨.hbm, 252, rfl⟩
abbrev main_call17_v3 : Ref sig .tc := ⟨.hbm, 253, rfl⟩
abbrev main_call17_v4 : Ref sig .tc := ⟨.hbm, 254, rfl⟩
abbrev main_v55 : Ref sig .tc := ⟨.hbm, 255, rfl⟩
abbrev main_call18_c : Ref sig .tc := ⟨.hbm, 256, rfl⟩
abbrev main_call18_v0 : Ref sig .tc := ⟨.hbm, 257, rfl⟩
abbrev main_call18_v1 : Ref sig .tc := ⟨.hbm, 258, rfl⟩
abbrev main_call18_c_0 : Ref sig .tc := ⟨.hbm, 259, rfl⟩
abbrev main_call18_v2 : Ref sig .tc := ⟨.hbm, 260, rfl⟩
abbrev main_call18_v3 : Ref sig .tc := ⟨.hbm, 261, rfl⟩
abbrev main_call18_v4 : Ref sig .tc := ⟨.hbm, 262, rfl⟩
abbrev main_call18_v5 : Ref sig .tc := ⟨.hbm, 263, rfl⟩
abbrev main_call18_c_1 : Ref sig .tc := ⟨.hbm, 264, rfl⟩
abbrev main_call18_c_2 : Ref sig .tc := ⟨.hbm, 265, rfl⟩
abbrev main_call18_v6 : Ref sig .tc := ⟨.hbm, 266, rfl⟩
abbrev main_call18_v7 : Ref sig .tc := ⟨.hbm, 267, rfl⟩
abbrev main_call18_v8 : Ref sig .tc := ⟨.hbm, 268, rfl⟩
abbrev main_call18_v9 : Ref sig .tc := ⟨.hbm, 269, rfl⟩
abbrev main_call18_v10 : Ref sig .tc := ⟨.hbm, 270, rfl⟩
abbrev main_call18_v11 : Ref sig .tc := ⟨.hbm, 271, rfl⟩
abbrev main_call18_c_3 : Ref sig .tc := ⟨.hbm, 272, rfl⟩
abbrev main_call18_v12 : Ref sig .tc := ⟨.hbm, 273, rfl⟩
abbrev main_call18_v13 : Ref sig .tc := ⟨.hbm, 274, rfl⟩
abbrev main_call18_v14 : Ref sig .tc := ⟨.hbm, 275, rfl⟩
abbrev main_call18_cst : Ref sig .tc := ⟨.hbm, 276, rfl⟩
abbrev main_call18_v15 : Ref sig .tc := ⟨.hbm, 277, rfl⟩
abbrev main_v56 : Ref sig .tc := ⟨.hbm, 278, rfl⟩
abbrev main_v57 : Ref sig .tc := ⟨.hbm, 279, rfl⟩
abbrev main_v58 : Ref sig .tc := ⟨.hbm, 280, rfl⟩
abbrev main_v59 : Ref sig .tc := ⟨.hbm, 281, rfl⟩
abbrev main_c_28 : Ref sig .tc := ⟨.hbm, 282, rfl⟩
abbrev main_c_29 : Ref sig .tc := ⟨.hbm, 283, rfl⟩
abbrev main_call19_v0 : Ref sig .tc := ⟨.hbm, 284, rfl⟩
abbrev main_call19_v1 : Ref sig .tc := ⟨.hbm, 285, rfl⟩
abbrev main_call19_v2 : Ref sig .tc := ⟨.hbm, 286, rfl⟩
abbrev main_call19_v3 : Ref sig .tc := ⟨.hbm, 287, rfl⟩
abbrev main_call19_v4 : Ref sig .tc := ⟨.hbm, 288, rfl⟩
abbrev main_v60 : Ref sig .tc := ⟨.hbm, 289, rfl⟩
abbrev main_call20_c : Ref sig .tc := ⟨.hbm, 290, rfl⟩
abbrev main_call20_v0 : Ref sig .tc := ⟨.hbm, 291, rfl⟩
abbrev main_call20_v1 : Ref sig .tc := ⟨.hbm, 292, rfl⟩
abbrev main_call20_c_0 : Ref sig .tc := ⟨.hbm, 293, rfl⟩
abbrev main_call20_v2 : Ref sig .tc := ⟨.hbm, 294, rfl⟩
abbrev main_call20_v3 : Ref sig .tc := ⟨.hbm, 295, rfl⟩
abbrev main_call20_v4 : Ref sig .tc := ⟨.hbm, 296, rfl⟩
abbrev main_call20_v5 : Ref sig .tc := ⟨.hbm, 297, rfl⟩
abbrev main_call20_c_1 : Ref sig .tc := ⟨.hbm, 298, rfl⟩
abbrev main_call20_c_2 : Ref sig .tc := ⟨.hbm, 299, rfl⟩
abbrev main_call20_v6 : Ref sig .tc := ⟨.hbm, 300, rfl⟩
abbrev main_call20_v7 : Ref sig .tc := ⟨.hbm, 301, rfl⟩
abbrev main_call20_v8 : Ref sig .tc := ⟨.hbm, 302, rfl⟩
abbrev main_call20_v9 : Ref sig .tc := ⟨.hbm, 303, rfl⟩
abbrev main_call20_v10 : Ref sig .tc := ⟨.hbm, 304, rfl⟩
abbrev main_call20_v11 : Ref sig .tc := ⟨.hbm, 305, rfl⟩
abbrev main_call20_c_3 : Ref sig .tc := ⟨.hbm, 306, rfl⟩
abbrev main_call20_v12 : Ref sig .tc := ⟨.hbm, 307, rfl⟩
abbrev main_call20_v13 : Ref sig .tc := ⟨.hbm, 308, rfl⟩
abbrev main_call20_v14 : Ref sig .tc := ⟨.hbm, 309, rfl⟩
abbrev main_call20_cst : Ref sig .tc := ⟨.hbm, 310, rfl⟩
abbrev main_call20_v15 : Ref sig .tc := ⟨.hbm, 311, rfl⟩
abbrev main_v61 : Ref sig .tc := ⟨.hbm, 312, rfl⟩
abbrev main_v62 : Ref sig .tc := ⟨.hbm, 313, rfl⟩
abbrev main_v63 : Ref sig .tc := ⟨.hbm, 314, rfl⟩
abbrev main_v64 : Ref sig .tc := ⟨.hbm, 315, rfl⟩
abbrev main_c_30 : Ref sig .tc := ⟨.hbm, 316, rfl⟩
abbrev main_c_31 : Ref sig .tc := ⟨.hbm, 317, rfl⟩
abbrev main_call21_v0 : Ref sig .tc := ⟨.hbm, 318, rfl⟩
abbrev main_call21_v1 : Ref sig .tc := ⟨.hbm, 319, rfl⟩
abbrev main_call21_v2 : Ref sig .tc := ⟨.hbm, 320, rfl⟩
abbrev main_call21_v3 : Ref sig .tc := ⟨.hbm, 321, rfl⟩
abbrev main_call21_v4 : Ref sig .tc := ⟨.hbm, 322, rfl⟩
abbrev main_v65 : Ref sig .tc := ⟨.hbm, 323, rfl⟩
abbrev main_call22_c : Ref sig .tc := ⟨.hbm, 324, rfl⟩
abbrev main_call22_v0 : Ref sig .tc := ⟨.hbm, 325, rfl⟩
abbrev main_call22_v1 : Ref sig .tc := ⟨.hbm, 326, rfl⟩
abbrev main_call22_c_0 : Ref sig .tc := ⟨.hbm, 327, rfl⟩
abbrev main_call22_v2 : Ref sig .tc := ⟨.hbm, 328, rfl⟩
abbrev main_call22_v3 : Ref sig .tc := ⟨.hbm, 329, rfl⟩
abbrev main_call22_v4 : Ref sig .tc := ⟨.hbm, 330, rfl⟩
abbrev main_call22_v5 : Ref sig .tc := ⟨.hbm, 331, rfl⟩
abbrev main_call22_c_1 : Ref sig .tc := ⟨.hbm, 332, rfl⟩
abbrev main_call22_c_2 : Ref sig .tc := ⟨.hbm, 333, rfl⟩
abbrev main_call22_v6 : Ref sig .tc := ⟨.hbm, 334, rfl⟩
abbrev main_call22_v7 : Ref sig .tc := ⟨.hbm, 335, rfl⟩
abbrev main_call22_v8 : Ref sig .tc := ⟨.hbm, 336, rfl⟩
abbrev main_call22_v9 : Ref sig .tc := ⟨.hbm, 337, rfl⟩
abbrev main_call22_v10 : Ref sig .tc := ⟨.hbm, 338, rfl⟩
abbrev main_call22_v11 : Ref sig .tc := ⟨.hbm, 339, rfl⟩
abbrev main_call22_c_3 : Ref sig .tc := ⟨.hbm, 340, rfl⟩
abbrev main_call22_v12 : Ref sig .tc := ⟨.hbm, 341, rfl⟩
abbrev main_call22_v13 : Ref sig .tc := ⟨.hbm, 342, rfl⟩
abbrev main_call22_v14 : Ref sig .tc := ⟨.hbm, 343, rfl⟩
abbrev main_call22_cst : Ref sig .tc := ⟨.hbm, 344, rfl⟩
abbrev main_call22_v15 : Ref sig .tc := ⟨.hbm, 345, rfl⟩
abbrev main_v66 : Ref sig .tc := ⟨.hbm, 346, rfl⟩
abbrev main_v67 : Ref sig .tc := ⟨.hbm, 347, rfl⟩
abbrev main_v68 : Ref sig .tc := ⟨.hbm, 348, rfl⟩
abbrev main_v69 : Ref sig .tc := ⟨.hbm, 349, rfl⟩
abbrev main_v70 : Ref sig .tc := ⟨.hbm, 350, rfl⟩
abbrev main_v71 : Ref sig .tc := ⟨.hbm, 351, rfl⟩
abbrev main_c_32 : Ref sig .tc := ⟨.hbm, 352, rfl⟩
abbrev main_c_33 : Ref sig .tc := ⟨.hbm, 353, rfl⟩
abbrev main_call23_v0 : Ref sig .tc := ⟨.hbm, 354, rfl⟩
abbrev main_call23_v1 : Ref sig .tc := ⟨.hbm, 355, rfl⟩
abbrev main_call23_v2 : Ref sig .tc := ⟨.hbm, 356, rfl⟩
abbrev main_call23_v3 : Ref sig .tc := ⟨.hbm, 357, rfl⟩
abbrev main_call23_v4 : Ref sig .tc := ⟨.hbm, 358, rfl⟩
abbrev main_v72 : Ref sig .tc := ⟨.hbm, 359, rfl⟩
abbrev main_call24_c : Ref sig .tc := ⟨.hbm, 360, rfl⟩
abbrev main_call24_v0 : Ref sig .tc := ⟨.hbm, 361, rfl⟩
abbrev main_call24_v1 : Ref sig .tc := ⟨.hbm, 362, rfl⟩
abbrev main_call24_c_0 : Ref sig .tc := ⟨.hbm, 363, rfl⟩
abbrev main_call24_v2 : Ref sig .tc := ⟨.hbm, 364, rfl⟩
abbrev main_call24_v3 : Ref sig .tc := ⟨.hbm, 365, rfl⟩
abbrev main_call24_v4 : Ref sig .tc := ⟨.hbm, 366, rfl⟩
abbrev main_call24_v5 : Ref sig .tc := ⟨.hbm, 367, rfl⟩
abbrev main_call24_c_1 : Ref sig .tc := ⟨.hbm, 368, rfl⟩
abbrev main_call24_c_2 : Ref sig .tc := ⟨.hbm, 369, rfl⟩
abbrev main_call24_v6 : Ref sig .tc := ⟨.hbm, 370, rfl⟩
abbrev main_call24_v7 : Ref sig .tc := ⟨.hbm, 371, rfl⟩
abbrev main_call24_v8 : Ref sig .tc := ⟨.hbm, 372, rfl⟩
abbrev main_call24_v9 : Ref sig .tc := ⟨.hbm, 373, rfl⟩
abbrev main_call24_v10 : Ref sig .tc := ⟨.hbm, 374, rfl⟩
abbrev main_call24_v11 : Ref sig .tc := ⟨.hbm, 375, rfl⟩
abbrev main_call24_c_3 : Ref sig .tc := ⟨.hbm, 376, rfl⟩
abbrev main_call24_v12 : Ref sig .tc := ⟨.hbm, 377, rfl⟩
abbrev main_call24_v13 : Ref sig .tc := ⟨.hbm, 378, rfl⟩
abbrev main_call24_v14 : Ref sig .tc := ⟨.hbm, 379, rfl⟩
abbrev main_call24_cst : Ref sig .tc := ⟨.hbm, 380, rfl⟩
abbrev main_call24_v15 : Ref sig .tc := ⟨.hbm, 381, rfl⟩
abbrev main_v73 : Ref sig .tc := ⟨.hbm, 382, rfl⟩
abbrev main_v74 : Ref sig .tc := ⟨.hbm, 383, rfl⟩
abbrev main_v75 : Ref sig .tc := ⟨.hbm, 384, rfl⟩
abbrev main_v76 : Ref sig .tc := ⟨.hbm, 385, rfl⟩
abbrev main_v77 : Ref sig .tc := ⟨.hbm, 386, rfl⟩
abbrev main_v78 : Ref sig .tc := ⟨.hbm, 387, rfl⟩
abbrev main_c_34 : Ref sig .tc := ⟨.hbm, 388, rfl⟩
abbrev main_c_35 : Ref sig .tc := ⟨.hbm, 389, rfl⟩
abbrev main_call25_v0 : Ref sig .tc := ⟨.hbm, 390, rfl⟩
abbrev main_call25_v1 : Ref sig .tc := ⟨.hbm, 391, rfl⟩
abbrev main_call25_v2 : Ref sig .tc := ⟨.hbm, 392, rfl⟩
abbrev main_call25_v3 : Ref sig .tc := ⟨.hbm, 393, rfl⟩
abbrev main_call25_v4 : Ref sig .tc := ⟨.hbm, 394, rfl⟩
abbrev main_v79 : Ref sig .tc := ⟨.hbm, 395, rfl⟩
abbrev main_call26_c : Ref sig .tc := ⟨.hbm, 396, rfl⟩
abbrev main_call26_v0 : Ref sig .tc := ⟨.hbm, 397, rfl⟩
abbrev main_call26_v1 : Ref sig .tc := ⟨.hbm, 398, rfl⟩
abbrev main_call26_c_0 : Ref sig .tc := ⟨.hbm, 399, rfl⟩
abbrev main_call26_v2 : Ref sig .tc := ⟨.hbm, 400, rfl⟩
abbrev main_call26_v3 : Ref sig .tc := ⟨.hbm, 401, rfl⟩
abbrev main_call26_v4 : Ref sig .tc := ⟨.hbm, 402, rfl⟩
abbrev main_call26_v5 : Ref sig .tc := ⟨.hbm, 403, rfl⟩
abbrev main_call26_c_1 : Ref sig .tc := ⟨.hbm, 404, rfl⟩
abbrev main_call26_c_2 : Ref sig .tc := ⟨.hbm, 405, rfl⟩
abbrev main_call26_v6 : Ref sig .tc := ⟨.hbm, 406, rfl⟩
abbrev main_call26_v7 : Ref sig .tc := ⟨.hbm, 407, rfl⟩
abbrev main_call26_v8 : Ref sig .tc := ⟨.hbm, 408, rfl⟩
abbrev main_call26_v9 : Ref sig .tc := ⟨.hbm, 409, rfl⟩
abbrev main_call26_v10 : Ref sig .tc := ⟨.hbm, 410, rfl⟩
abbrev main_call26_v11 : Ref sig .tc := ⟨.hbm, 411, rfl⟩
abbrev main_call26_c_3 : Ref sig .tc := ⟨.hbm, 412, rfl⟩
abbrev main_call26_v12 : Ref sig .tc := ⟨.hbm, 413, rfl⟩
abbrev main_call26_v13 : Ref sig .tc := ⟨.hbm, 414, rfl⟩
abbrev main_call26_v14 : Ref sig .tc := ⟨.hbm, 415, rfl⟩
abbrev main_call26_cst : Ref sig .tc := ⟨.hbm, 416, rfl⟩
abbrev main_call26_v15 : Ref sig .tc := ⟨.hbm, 417, rfl⟩
abbrev main_v80 : Ref sig .tc := ⟨.hbm, 418, rfl⟩
abbrev main_v81 : Ref sig .tc := ⟨.hbm, 419, rfl⟩
abbrev main_v82 : Ref sig .tc := ⟨.hbm, 420, rfl⟩
abbrev main_v83 : Ref sig .tc := ⟨.hbm, 421, rfl⟩
abbrev main_v84 : Ref sig .tc := ⟨.hbm, 422, rfl⟩
abbrev main_v85 : Ref sig .tc := ⟨.hbm, 423, rfl⟩
abbrev main_c_36 : Ref sig .tc := ⟨.hbm, 424, rfl⟩
abbrev main_c_37 : Ref sig .tc := ⟨.hbm, 425, rfl⟩
abbrev main_call27_v0 : Ref sig .tc := ⟨.hbm, 426, rfl⟩
abbrev main_call27_v1 : Ref sig .tc := ⟨.hbm, 427, rfl⟩
abbrev main_call27_v2 : Ref sig .tc := ⟨.hbm, 428, rfl⟩
abbrev main_call27_v3 : Ref sig .tc := ⟨.hbm, 429, rfl⟩
abbrev main_call27_v4 : Ref sig .tc := ⟨.hbm, 430, rfl⟩
abbrev main_v86 : Ref sig .tc := ⟨.hbm, 431, rfl⟩
abbrev main_call28_c : Ref sig .tc := ⟨.hbm, 432, rfl⟩
abbrev main_call28_v0 : Ref sig .tc := ⟨.hbm, 433, rfl⟩
abbrev main_call28_v1 : Ref sig .tc := ⟨.hbm, 434, rfl⟩
abbrev main_call28_c_0 : Ref sig .tc := ⟨.hbm, 435, rfl⟩
abbrev main_call28_v2 : Ref sig .tc := ⟨.hbm, 436, rfl⟩
abbrev main_call28_v3 : Ref sig .tc := ⟨.hbm, 437, rfl⟩
abbrev main_call28_v4 : Ref sig .tc := ⟨.hbm, 438, rfl⟩
abbrev main_call28_v5 : Ref sig .tc := ⟨.hbm, 439, rfl⟩
abbrev main_call28_c_1 : Ref sig .tc := ⟨.hbm, 440, rfl⟩
abbrev main_call28_c_2 : Ref sig .tc := ⟨.hbm, 441, rfl⟩
abbrev main_call28_v6 : Ref sig .tc := ⟨.hbm, 442, rfl⟩
abbrev main_call28_v7 : Ref sig .tc := ⟨.hbm, 443, rfl⟩
abbrev main_call28_v8 : Ref sig .tc := ⟨.hbm, 444, rfl⟩
abbrev main_call28_v9 : Ref sig .tc := ⟨.hbm, 445, rfl⟩
abbrev main_call28_v10 : Ref sig .tc := ⟨.hbm, 446, rfl⟩
abbrev main_call28_v11 : Ref sig .tc := ⟨.hbm, 447, rfl⟩
abbrev main_call28_c_3 : Ref sig .tc := ⟨.hbm, 448, rfl⟩
abbrev main_call28_v12 : Ref sig .tc := ⟨.hbm, 449, rfl⟩
abbrev main_call28_v13 : Ref sig .tc := ⟨.hbm, 450, rfl⟩
abbrev main_call28_v14 : Ref sig .tc := ⟨.hbm, 451, rfl⟩
abbrev main_call28_cst : Ref sig .tc := ⟨.hbm, 452, rfl⟩
abbrev main_call28_v15 : Ref sig .tc := ⟨.hbm, 453, rfl⟩
abbrev main_v87 : Ref sig .tc := ⟨.hbm, 454, rfl⟩
abbrev main_v88 : Ref sig .tc := ⟨.hbm, 455, rfl⟩
abbrev main_v89 : Ref sig .tc := ⟨.hbm, 456, rfl⟩
abbrev main_v90 : Ref sig .tc := ⟨.hbm, 457, rfl⟩
abbrev main_v91 : Ref sig .tc := ⟨.hbm, 458, rfl⟩
abbrev main_v92 : Ref sig .tc := ⟨.hbm, 459, rfl⟩
abbrev main_c_38 : Ref sig .tc := ⟨.hbm, 460, rfl⟩
abbrev main_c_39 : Ref sig .tc := ⟨.hbm, 461, rfl⟩
abbrev main_call29_v0 : Ref sig .tc := ⟨.hbm, 462, rfl⟩
abbrev main_call29_v1 : Ref sig .tc := ⟨.hbm, 463, rfl⟩
abbrev main_call29_v2 : Ref sig .tc := ⟨.hbm, 464, rfl⟩
abbrev main_call29_v3 : Ref sig .tc := ⟨.hbm, 465, rfl⟩
abbrev main_call29_v4 : Ref sig .tc := ⟨.hbm, 466, rfl⟩
abbrev main_v93 : Ref sig .tc := ⟨.hbm, 467, rfl⟩
abbrev main_call30_c : Ref sig .tc := ⟨.hbm, 468, rfl⟩
abbrev main_call30_v0 : Ref sig .tc := ⟨.hbm, 469, rfl⟩
abbrev main_call30_v1 : Ref sig .tc := ⟨.hbm, 470, rfl⟩
abbrev main_call30_c_0 : Ref sig .tc := ⟨.hbm, 471, rfl⟩
abbrev main_call30_v2 : Ref sig .tc := ⟨.hbm, 472, rfl⟩
abbrev main_call30_v3 : Ref sig .tc := ⟨.hbm, 473, rfl⟩
abbrev main_call30_v4 : Ref sig .tc := ⟨.hbm, 474, rfl⟩
abbrev main_call30_v5 : Ref sig .tc := ⟨.hbm, 475, rfl⟩
abbrev main_call30_c_1 : Ref sig .tc := ⟨.hbm, 476, rfl⟩
abbrev main_call30_c_2 : Ref sig .tc := ⟨.hbm, 477, rfl⟩
abbrev main_call30_v6 : Ref sig .tc := ⟨.hbm, 478, rfl⟩
abbrev main_call30_v7 : Ref sig .tc := ⟨.hbm, 479, rfl⟩
abbrev main_call30_v8 : Ref sig .tc := ⟨.hbm, 480, rfl⟩
abbrev main_call30_v9 : Ref sig .tc := ⟨.hbm, 481, rfl⟩
abbrev main_call30_v10 : Ref sig .tc := ⟨.hbm, 482, rfl⟩
abbrev main_call30_v11 : Ref sig .tc := ⟨.hbm, 483, rfl⟩
abbrev main_call30_c_3 : Ref sig .tc := ⟨.hbm, 484, rfl⟩
abbrev main_call30_v12 : Ref sig .tc := ⟨.hbm, 485, rfl⟩
abbrev main_call30_v13 : Ref sig .tc := ⟨.hbm, 486, rfl⟩
abbrev main_call30_v14 : Ref sig .tc := ⟨.hbm, 487, rfl⟩
abbrev main_call30_cst : Ref sig .tc := ⟨.hbm, 488, rfl⟩
abbrev main_call30_v15 : Ref sig .tc := ⟨.hbm, 489, rfl⟩
abbrev main_v94 : Ref sig .tc := ⟨.hbm, 490, rfl⟩
abbrev main_v95 : Ref sig .tc := ⟨.hbm, 491, rfl⟩
abbrev main_v96 : Ref sig .tc := ⟨.hbm, 492, rfl⟩
abbrev main_v97 : Ref sig .tc := ⟨.hbm, 493, rfl⟩
abbrev main_v98 : Ref sig .tc := ⟨.hbm, 494, rfl⟩
abbrev main_v99 : Ref sig .tc := ⟨.hbm, 495, rfl⟩
abbrev main_c_40 : Ref sig .tc := ⟨.hbm, 496, rfl⟩
abbrev main_c_41 : Ref sig .tc := ⟨.hbm, 497, rfl⟩
abbrev main_call31_v0 : Ref sig .tc := ⟨.hbm, 498, rfl⟩
abbrev main_call31_v1 : Ref sig .tc := ⟨.hbm, 499, rfl⟩
abbrev main_call31_v2 : Ref sig .tc := ⟨.hbm, 500, rfl⟩
abbrev main_call31_v3 : Ref sig .tc := ⟨.hbm, 501, rfl⟩
abbrev main_call31_v4 : Ref sig .tc := ⟨.hbm, 502, rfl⟩
abbrev main_v100 : Ref sig .tc := ⟨.hbm, 503, rfl⟩
abbrev main_call32_c : Ref sig .tc := ⟨.hbm, 504, rfl⟩
abbrev main_call32_v0 : Ref sig .tc := ⟨.hbm, 505, rfl⟩
abbrev main_call32_v1 : Ref sig .tc := ⟨.hbm, 506, rfl⟩
abbrev main_call32_c_0 : Ref sig .tc := ⟨.hbm, 507, rfl⟩
abbrev main_call32_v2 : Ref sig .tc := ⟨.hbm, 508, rfl⟩
abbrev main_call32_v3 : Ref sig .tc := ⟨.hbm, 509, rfl⟩
abbrev main_call32_v4 : Ref sig .tc := ⟨.hbm, 510, rfl⟩
abbrev main_call32_v5 : Ref sig .tc := ⟨.hbm, 511, rfl⟩
abbrev main_call32_c_1 : Ref sig .tc := ⟨.hbm, 512, rfl⟩
abbrev main_call32_c_2 : Ref sig .tc := ⟨.hbm, 513, rfl⟩
abbrev main_call32_v6 : Ref sig .tc := ⟨.hbm, 514, rfl⟩
abbrev main_call32_v7 : Ref sig .tc := ⟨.hbm, 515, rfl⟩
abbrev main_call32_v8 : Ref sig .tc := ⟨.hbm, 516, rfl⟩
abbrev main_call32_v9 : Ref sig .tc := ⟨.hbm, 517, rfl⟩
abbrev main_call32_v10 : Ref sig .tc := ⟨.hbm, 518, rfl⟩
abbrev main_call32_v11 : Ref sig .tc := ⟨.hbm, 519, rfl⟩
abbrev main_call32_c_3 : Ref sig .tc := ⟨.hbm, 520, rfl⟩
abbrev main_call32_v12 : Ref sig .tc := ⟨.hbm, 521, rfl⟩
abbrev main_call32_v13 : Ref sig .tc := ⟨.hbm, 522, rfl⟩
abbrev main_call32_v14 : Ref sig .tc := ⟨.hbm, 523, rfl⟩
abbrev main_call32_cst : Ref sig .tc := ⟨.hbm, 524, rfl⟩
abbrev main_call32_v15 : Ref sig .tc := ⟨.hbm, 525, rfl⟩
abbrev main_v101 : Ref sig .tc := ⟨.hbm, 526, rfl⟩
abbrev main_v102 : Ref sig .tc := ⟨.hbm, 527, rfl⟩
abbrev main_v103 : Ref sig .tc := ⟨.hbm, 528, rfl⟩
abbrev main_v104 : Ref sig .tc := ⟨.hbm, 529, rfl⟩
abbrev main_v105 : Ref sig .tc := ⟨.hbm, 530, rfl⟩
abbrev main_v106 : Ref sig .tc := ⟨.hbm, 531, rfl⟩
abbrev main_c_42 : Ref sig .tc := ⟨.hbm, 532, rfl⟩
abbrev main_c_43 : Ref sig .tc := ⟨.hbm, 533, rfl⟩
abbrev main_call33_v0 : Ref sig .tc := ⟨.hbm, 534, rfl⟩
abbrev main_call33_v1 : Ref sig .tc := ⟨.hbm, 535, rfl⟩
abbrev main_call33_v2 : Ref sig .tc := ⟨.hbm, 536, rfl⟩
abbrev main_call33_v3 : Ref sig .tc := ⟨.hbm, 537, rfl⟩
abbrev main_call33_v4 : Ref sig .tc := ⟨.hbm, 538, rfl⟩
abbrev main_v107 : Ref sig .tc := ⟨.hbm, 539, rfl⟩
abbrev main_call34_c : Ref sig .tc := ⟨.hbm, 540, rfl⟩
abbrev main_call34_v0 : Ref sig .tc := ⟨.hbm, 541, rfl⟩
abbrev main_call34_v1 : Ref sig .tc := ⟨.hbm, 542, rfl⟩
abbrev main_call34_c_0 : Ref sig .tc := ⟨.hbm, 543, rfl⟩
abbrev main_call34_v2 : Ref sig .tc := ⟨.hbm, 544, rfl⟩
abbrev main_call34_v3 : Ref sig .tc := ⟨.hbm, 545, rfl⟩
abbrev main_call34_v4 : Ref sig .tc := ⟨.hbm, 546, rfl⟩
abbrev main_call34_v5 : Ref sig .tc := ⟨.hbm, 547, rfl⟩
abbrev main_call34_c_1 : Ref sig .tc := ⟨.hbm, 548, rfl⟩
abbrev main_call34_c_2 : Ref sig .tc := ⟨.hbm, 549, rfl⟩
abbrev main_call34_v6 : Ref sig .tc := ⟨.hbm, 550, rfl⟩
abbrev main_call34_v7 : Ref sig .tc := ⟨.hbm, 551, rfl⟩
abbrev main_call34_v8 : Ref sig .tc := ⟨.hbm, 552, rfl⟩
abbrev main_call34_v9 : Ref sig .tc := ⟨.hbm, 553, rfl⟩
abbrev main_call34_v10 : Ref sig .tc := ⟨.hbm, 554, rfl⟩
abbrev main_call34_v11 : Ref sig .tc := ⟨.hbm, 555, rfl⟩
abbrev main_call34_c_3 : Ref sig .tc := ⟨.hbm, 556, rfl⟩
abbrev main_call34_v12 : Ref sig .tc := ⟨.hbm, 557, rfl⟩
abbrev main_call34_v13 : Ref sig .tc := ⟨.hbm, 558, rfl⟩
abbrev main_call34_v14 : Ref sig .tc := ⟨.hbm, 559, rfl⟩
abbrev main_call34_cst : Ref sig .tc := ⟨.hbm, 560, rfl⟩
abbrev main_call34_v15 : Ref sig .tc := ⟨.hbm, 561, rfl⟩
abbrev main_v108 : Ref sig .tc := ⟨.hbm, 562, rfl⟩
abbrev main_v109 : Ref sig .tc := ⟨.hbm, 563, rfl⟩
abbrev main_v110 : Ref sig .tc := ⟨.hbm, 564, rfl⟩
abbrev main_v111 : Ref sig .tc := ⟨.hbm, 565, rfl⟩
abbrev main_v112 : Ref sig .tc := ⟨.hbm, 566, rfl⟩
abbrev main_v113 : Ref sig .tc := ⟨.hbm, 567, rfl⟩
abbrev main_c_44 : Ref sig .tc := ⟨.hbm, 568, rfl⟩
abbrev main_c_45 : Ref sig .tc := ⟨.hbm, 569, rfl⟩
abbrev main_call35_v0 : Ref sig .tc := ⟨.hbm, 570, rfl⟩
abbrev main_call35_v1 : Ref sig .tc := ⟨.hbm, 571, rfl⟩
abbrev main_call35_v2 : Ref sig .tc := ⟨.hbm, 572, rfl⟩
abbrev main_call35_v3 : Ref sig .tc := ⟨.hbm, 573, rfl⟩
abbrev main_call35_v4 : Ref sig .tc := ⟨.hbm, 574, rfl⟩
abbrev main_v114 : Ref sig .tc := ⟨.hbm, 575, rfl⟩
abbrev main_call36_c : Ref sig .tc := ⟨.hbm, 576, rfl⟩
abbrev main_call36_v0 : Ref sig .tc := ⟨.hbm, 577, rfl⟩
abbrev main_call36_v1 : Ref sig .tc := ⟨.hbm, 578, rfl⟩
abbrev main_call36_c_0 : Ref sig .tc := ⟨.hbm, 579, rfl⟩
abbrev main_call36_v2 : Ref sig .tc := ⟨.hbm, 580, rfl⟩
abbrev main_call36_v3 : Ref sig .tc := ⟨.hbm, 581, rfl⟩
abbrev main_call36_v4 : Ref sig .tc := ⟨.hbm, 582, rfl⟩
abbrev main_call36_v5 : Ref sig .tc := ⟨.hbm, 583, rfl⟩
abbrev main_call36_c_1 : Ref sig .tc := ⟨.hbm, 584, rfl⟩
abbrev main_call36_c_2 : Ref sig .tc := ⟨.hbm, 585, rfl⟩
abbrev main_call36_v6 : Ref sig .tc := ⟨.hbm, 586, rfl⟩
abbrev main_call36_v7 : Ref sig .tc := ⟨.hbm, 587, rfl⟩
abbrev main_call36_v8 : Ref sig .tc := ⟨.hbm, 588, rfl⟩
abbrev main_call36_v9 : Ref sig .tc := ⟨.hbm, 589, rfl⟩
abbrev main_call36_v10 : Ref sig .tc := ⟨.hbm, 590, rfl⟩
abbrev main_call36_v11 : Ref sig .tc := ⟨.hbm, 591, rfl⟩
abbrev main_call36_c_3 : Ref sig .tc := ⟨.hbm, 592, rfl⟩
abbrev main_call36_v12 : Ref sig .tc := ⟨.hbm, 593, rfl⟩
abbrev main_call36_v13 : Ref sig .tc := ⟨.hbm, 594, rfl⟩
abbrev main_call36_v14 : Ref sig .tc := ⟨.hbm, 595, rfl⟩
abbrev main_call36_cst : Ref sig .tc := ⟨.hbm, 596, rfl⟩
abbrev main_call36_v15 : Ref sig .tc := ⟨.hbm, 597, rfl⟩
abbrev main_v115 : Ref sig .tc := ⟨.hbm, 598, rfl⟩
abbrev main_v116 : Ref sig .tc := ⟨.hbm, 599, rfl⟩
abbrev main_v117 : Ref sig .tc := ⟨.hbm, 600, rfl⟩
abbrev main_v118 : Ref sig .tc := ⟨.hbm, 601, rfl⟩
abbrev main_v119 : Ref sig .tc := ⟨.hbm, 602, rfl⟩
abbrev main_v120 : Ref sig .tc := ⟨.hbm, 603, rfl⟩
abbrev main_c_46 : Ref sig .tc := ⟨.hbm, 604, rfl⟩
abbrev main_c_47 : Ref sig .tc := ⟨.hbm, 605, rfl⟩
abbrev main_call37_v0 : Ref sig .tc := ⟨.hbm, 606, rfl⟩
abbrev main_call37_v1 : Ref sig .tc := ⟨.hbm, 607, rfl⟩
abbrev main_call37_v2 : Ref sig .tc := ⟨.hbm, 608, rfl⟩
abbrev main_call37_v3 : Ref sig .tc := ⟨.hbm, 609, rfl⟩
abbrev main_call37_v4 : Ref sig .tc := ⟨.hbm, 610, rfl⟩
abbrev main_v121 : Ref sig .tc := ⟨.hbm, 611, rfl⟩
abbrev main_call38_c : Ref sig .tc := ⟨.hbm, 612, rfl⟩
abbrev main_call38_v0 : Ref sig .tc := ⟨.hbm, 613, rfl⟩
abbrev main_call38_v1 : Ref sig .tc := ⟨.hbm, 614, rfl⟩
abbrev main_call38_c_0 : Ref sig .tc := ⟨.hbm, 615, rfl⟩
abbrev main_call38_v2 : Ref sig .tc := ⟨.hbm, 616, rfl⟩
abbrev main_call38_v3 : Ref sig .tc := ⟨.hbm, 617, rfl⟩
abbrev main_call38_v4 : Ref sig .tc := ⟨.hbm, 618, rfl⟩
abbrev main_call38_v5 : Ref sig .tc := ⟨.hbm, 619, rfl⟩
abbrev main_call38_c_1 : Ref sig .tc := ⟨.hbm, 620, rfl⟩
abbrev main_call38_c_2 : Ref sig .tc := ⟨.hbm, 621, rfl⟩
abbrev main_call38_v6 : Ref sig .tc := ⟨.hbm, 622, rfl⟩
abbrev main_call38_v7 : Ref sig .tc := ⟨.hbm, 623, rfl⟩
abbrev main_call38_v8 : Ref sig .tc := ⟨.hbm, 624, rfl⟩
abbrev main_call38_v9 : Ref sig .tc := ⟨.hbm, 625, rfl⟩
abbrev main_call38_v10 : Ref sig .tc := ⟨.hbm, 626, rfl⟩
abbrev main_call38_v11 : Ref sig .tc := ⟨.hbm, 627, rfl⟩
abbrev main_call38_c_3 : Ref sig .tc := ⟨.hbm, 628, rfl⟩
abbrev main_call38_v12 : Ref sig .tc := ⟨.hbm, 629, rfl⟩
abbrev main_call38_v13 : Ref sig .tc := ⟨.hbm, 630, rfl⟩
abbrev main_call38_v14 : Ref sig .tc := ⟨.hbm, 631, rfl⟩
abbrev main_call38_cst : Ref sig .tc := ⟨.hbm, 632, rfl⟩
abbrev main_call38_v15 : Ref sig .tc := ⟨.hbm, 633, rfl⟩
abbrev main_v122 : Ref sig .tc := ⟨.hbm, 634, rfl⟩
abbrev main_v123 : Ref sig .tc := ⟨.hbm, 635, rfl⟩
abbrev main_v124 : Ref sig .tc := ⟨.hbm, 636, rfl⟩
abbrev main_v125 : Ref sig .tc := ⟨.hbm, 637, rfl⟩
abbrev main_v126 : Ref sig .tc := ⟨.hbm, 638, rfl⟩
abbrev main_v127 : Ref sig .tc := ⟨.hbm, 639, rfl⟩
abbrev main_c_48 : Ref sig .tc := ⟨.hbm, 640, rfl⟩
abbrev main_c_49 : Ref sig .tc := ⟨.hbm, 641, rfl⟩
abbrev main_call39_v0 : Ref sig .tc := ⟨.hbm, 642, rfl⟩
abbrev main_call39_v1 : Ref sig .tc := ⟨.hbm, 643, rfl⟩
abbrev main_call39_v2 : Ref sig .tc := ⟨.hbm, 644, rfl⟩
abbrev main_call39_v3 : Ref sig .tc := ⟨.hbm, 645, rfl⟩
abbrev main_call39_v4 : Ref sig .tc := ⟨.hbm, 646, rfl⟩
abbrev main_v128 : Ref sig .tc := ⟨.hbm, 647, rfl⟩
abbrev main_call40_c : Ref sig .tc := ⟨.hbm, 648, rfl⟩
abbrev main_call40_v0 : Ref sig .tc := ⟨.hbm, 649, rfl⟩
abbrev main_call40_v1 : Ref sig .tc := ⟨.hbm, 650, rfl⟩
abbrev main_call40_c_0 : Ref sig .tc := ⟨.hbm, 651, rfl⟩
abbrev main_call40_v2 : Ref sig .tc := ⟨.hbm, 652, rfl⟩
abbrev main_call40_v3 : Ref sig .tc := ⟨.hbm, 653, rfl⟩
abbrev main_call40_v4 : Ref sig .tc := ⟨.hbm, 654, rfl⟩
abbrev main_call40_v5 : Ref sig .tc := ⟨.hbm, 655, rfl⟩
abbrev main_call40_c_1 : Ref sig .tc := ⟨.hbm, 656, rfl⟩
abbrev main_call40_c_2 : Ref sig .tc := ⟨.hbm, 657, rfl⟩
abbrev main_call40_v6 : Ref sig .tc := ⟨.hbm, 658, rfl⟩
abbrev main_call40_v7 : Ref sig .tc := ⟨.hbm, 659, rfl⟩
abbrev main_call40_v8 : Ref sig .tc := ⟨.hbm, 660, rfl⟩
abbrev main_call40_v9 : Ref sig .tc := ⟨.hbm, 661, rfl⟩
abbrev main_call40_v10 : Ref sig .tc := ⟨.hbm, 662, rfl⟩
abbrev main_call40_v11 : Ref sig .tc := ⟨.hbm, 663, rfl⟩
abbrev main_call40_c_3 : Ref sig .tc := ⟨.hbm, 664, rfl⟩
abbrev main_call40_v12 : Ref sig .tc := ⟨.hbm, 665, rfl⟩
abbrev main_call40_v13 : Ref sig .tc := ⟨.hbm, 666, rfl⟩
abbrev main_call40_v14 : Ref sig .tc := ⟨.hbm, 667, rfl⟩
abbrev main_call40_cst : Ref sig .tc := ⟨.hbm, 668, rfl⟩
abbrev main_call40_v15 : Ref sig .tc := ⟨.hbm, 669, rfl⟩
abbrev main_v129 : Ref sig .tc := ⟨.hbm, 670, rfl⟩
abbrev main_v130 : Ref sig .tc := ⟨.hbm, 671, rfl⟩
abbrev main_v131 : Ref sig .tc := ⟨.hbm, 672, rfl⟩
abbrev main_v132 : Ref sig .tc := ⟨.hbm, 673, rfl⟩
abbrev main_v133 : Ref sig .tc := ⟨.hbm, 674, rfl⟩
abbrev main_v134 : Ref sig .tc := ⟨.hbm, 675, rfl⟩
abbrev main_c_50 : Ref sig .tc := ⟨.hbm, 676, rfl⟩
abbrev main_c_51 : Ref sig .tc := ⟨.hbm, 677, rfl⟩
abbrev main_call41_v0 : Ref sig .tc := ⟨.hbm, 678, rfl⟩
abbrev main_call41_v1 : Ref sig .tc := ⟨.hbm, 679, rfl⟩
abbrev main_call41_v2 : Ref sig .tc := ⟨.hbm, 680, rfl⟩
abbrev main_call41_v3 : Ref sig .tc := ⟨.hbm, 681, rfl⟩
abbrev main_call41_v4 : Ref sig .tc := ⟨.hbm, 682, rfl⟩
abbrev main_v135 : Ref sig .tc := ⟨.hbm, 683, rfl⟩
abbrev main_call42_c : Ref sig .tc := ⟨.hbm, 684, rfl⟩
abbrev main_call42_v0 : Ref sig .tc := ⟨.hbm, 685, rfl⟩
abbrev main_call42_v1 : Ref sig .tc := ⟨.hbm, 686, rfl⟩
abbrev main_call42_c_0 : Ref sig .tc := ⟨.hbm, 687, rfl⟩
abbrev main_call42_v2 : Ref sig .tc := ⟨.hbm, 688, rfl⟩
abbrev main_call42_v3 : Ref sig .tc := ⟨.hbm, 689, rfl⟩
abbrev main_call42_v4 : Ref sig .tc := ⟨.hbm, 690, rfl⟩
abbrev main_call42_v5 : Ref sig .tc := ⟨.hbm, 691, rfl⟩
abbrev main_call42_c_1 : Ref sig .tc := ⟨.hbm, 692, rfl⟩
abbrev main_call42_c_2 : Ref sig .tc := ⟨.hbm, 693, rfl⟩
abbrev main_call42_v6 : Ref sig .tc := ⟨.hbm, 694, rfl⟩
abbrev main_call42_v7 : Ref sig .tc := ⟨.hbm, 695, rfl⟩
abbrev main_call42_v8 : Ref sig .tc := ⟨.hbm, 696, rfl⟩
abbrev main_call42_v9 : Ref sig .tc := ⟨.hbm, 697, rfl⟩
abbrev main_call42_v10 : Ref sig .tc := ⟨.hbm, 698, rfl⟩
abbrev main_call42_v11 : Ref sig .tc := ⟨.hbm, 699, rfl⟩
abbrev main_call42_c_3 : Ref sig .tc := ⟨.hbm, 700, rfl⟩
abbrev main_call42_v12 : Ref sig .tc := ⟨.hbm, 701, rfl⟩
abbrev main_call42_v13 : Ref sig .tc := ⟨.hbm, 702, rfl⟩
abbrev main_call42_v14 : Ref sig .tc := ⟨.hbm, 703, rfl⟩
abbrev main_call42_cst : Ref sig .tc := ⟨.hbm, 704, rfl⟩
abbrev main_call42_v15 : Ref sig .tc := ⟨.hbm, 705, rfl⟩
abbrev main_v136 : Ref sig .tc := ⟨.hbm, 706, rfl⟩
abbrev main_v137 : Ref sig .tc := ⟨.hbm, 707, rfl⟩
abbrev main_v138 : Ref sig .tc := ⟨.hbm, 708, rfl⟩
abbrev main_v139 : Ref sig .tc := ⟨.hbm, 709, rfl⟩
abbrev main_v140 : Ref sig .tc := ⟨.hbm, 710, rfl⟩
abbrev main_v141 : Ref sig .tc := ⟨.hbm, 711, rfl⟩
abbrev main_c_52 : Ref sig .tc := ⟨.hbm, 712, rfl⟩
abbrev main_c_53 : Ref sig .tc := ⟨.hbm, 713, rfl⟩
abbrev main_call43_v0 : Ref sig .tc := ⟨.hbm, 714, rfl⟩
abbrev main_call43_v1 : Ref sig .tc := ⟨.hbm, 715, rfl⟩
abbrev main_call43_v2 : Ref sig .tc := ⟨.hbm, 716, rfl⟩
abbrev main_call43_v3 : Ref sig .tc := ⟨.hbm, 717, rfl⟩
abbrev main_call43_v4 : Ref sig .tc := ⟨.hbm, 718, rfl⟩
abbrev main_v142 : Ref sig .tc := ⟨.hbm, 719, rfl⟩
abbrev main_call44_c : Ref sig .tc := ⟨.hbm, 720, rfl⟩
abbrev main_call44_v0 : Ref sig .tc := ⟨.hbm, 721, rfl⟩
abbrev main_call44_v1 : Ref sig .tc := ⟨.hbm, 722, rfl⟩
abbrev main_call44_c_0 : Ref sig .tc := ⟨.hbm, 723, rfl⟩
abbrev main_call44_v2 : Ref sig .tc := ⟨.hbm, 724, rfl⟩
abbrev main_call44_v3 : Ref sig .tc := ⟨.hbm, 725, rfl⟩
abbrev main_call44_v4 : Ref sig .tc := ⟨.hbm, 726, rfl⟩
abbrev main_call44_v5 : Ref sig .tc := ⟨.hbm, 727, rfl⟩
abbrev main_call44_c_1 : Ref sig .tc := ⟨.hbm, 728, rfl⟩
abbrev main_call44_c_2 : Ref sig .tc := ⟨.hbm, 729, rfl⟩
abbrev main_call44_v6 : Ref sig .tc := ⟨.hbm, 730, rfl⟩
abbrev main_call44_v7 : Ref sig .tc := ⟨.hbm, 731, rfl⟩
abbrev main_call44_v8 : Ref sig .tc := ⟨.hbm, 732, rfl⟩
abbrev main_call44_v9 : Ref sig .tc := ⟨.hbm, 733, rfl⟩
abbrev main_call44_v10 : Ref sig .tc := ⟨.hbm, 734, rfl⟩
abbrev main_call44_v11 : Ref sig .tc := ⟨.hbm, 735, rfl⟩
abbrev main_call44_c_3 : Ref sig .tc := ⟨.hbm, 736, rfl⟩
abbrev main_call44_v12 : Ref sig .tc := ⟨.hbm, 737, rfl⟩
abbrev main_call44_v13 : Ref sig .tc := ⟨.hbm, 738, rfl⟩
abbrev main_call44_v14 : Ref sig .tc := ⟨.hbm, 739, rfl⟩
abbrev main_call44_cst : Ref sig .tc := ⟨.hbm, 740, rfl⟩
abbrev main_call44_v15 : Ref sig .tc := ⟨.hbm, 741, rfl⟩
abbrev main_v143 : Ref sig .tc := ⟨.hbm, 742, rfl⟩
abbrev main_v144 : Ref sig .tc := ⟨.hbm, 743, rfl⟩
abbrev main_v145 : Ref sig .tc := ⟨.hbm, 744, rfl⟩
abbrev main_v146 : Ref sig .tc := ⟨.hbm, 745, rfl⟩
abbrev main_v147 : Ref sig .tc := ⟨.hbm, 746, rfl⟩
abbrev main_v148 : Ref sig .tc := ⟨.hbm, 747, rfl⟩
abbrev main_c_54 : Ref sig .tc := ⟨.hbm, 748, rfl⟩
abbrev main_c_55 : Ref sig .tc := ⟨.hbm, 749, rfl⟩
abbrev main_call45_v0 : Ref sig .tc := ⟨.hbm, 750, rfl⟩
abbrev main_call45_v1 : Ref sig .tc := ⟨.hbm, 751, rfl⟩
abbrev main_call45_v2 : Ref sig .tc := ⟨.hbm, 752, rfl⟩
abbrev main_call45_v3 : Ref sig .tc := ⟨.hbm, 753, rfl⟩
abbrev main_call45_v4 : Ref sig .tc := ⟨.hbm, 754, rfl⟩
abbrev main_v149 : Ref sig .tc := ⟨.hbm, 755, rfl⟩
abbrev main_call46_c : Ref sig .tc := ⟨.hbm, 756, rfl⟩
abbrev main_call46_v0 : Ref sig .tc := ⟨.hbm, 757, rfl⟩
abbrev main_call46_v1 : Ref sig .tc := ⟨.hbm, 758, rfl⟩
abbrev main_call46_c_0 : Ref sig .tc := ⟨.hbm, 759, rfl⟩
abbrev main_call46_v2 : Ref sig .tc := ⟨.hbm, 760, rfl⟩
abbrev main_call46_v3 : Ref sig .tc := ⟨.hbm, 761, rfl⟩
abbrev main_call46_v4 : Ref sig .tc := ⟨.hbm, 762, rfl⟩
abbrev main_call46_v5 : Ref sig .tc := ⟨.hbm, 763, rfl⟩
abbrev main_call46_c_1 : Ref sig .tc := ⟨.hbm, 764, rfl⟩
abbrev main_call46_c_2 : Ref sig .tc := ⟨.hbm, 765, rfl⟩
abbrev main_call46_v6 : Ref sig .tc := ⟨.hbm, 766, rfl⟩
abbrev main_call46_v7 : Ref sig .tc := ⟨.hbm, 767, rfl⟩
abbrev main_call46_v8 : Ref sig .tc := ⟨.hbm, 768, rfl⟩
abbrev main_call46_v9 : Ref sig .tc := ⟨.hbm, 769, rfl⟩
abbrev main_call46_v10 : Ref sig .tc := ⟨.hbm, 770, rfl⟩
abbrev main_call46_v11 : Ref sig .tc := ⟨.hbm, 771, rfl⟩
abbrev main_call46_c_3 : Ref sig .tc := ⟨.hbm, 772, rfl⟩
abbrev main_call46_v12 : Ref sig .tc := ⟨.hbm, 773, rfl⟩
abbrev main_call46_v13 : Ref sig .tc := ⟨.hbm, 774, rfl⟩
abbrev main_call46_v14 : Ref sig .tc := ⟨.hbm, 775, rfl⟩
abbrev main_call46_cst : Ref sig .tc := ⟨.hbm, 776, rfl⟩
abbrev main_call46_v15 : Ref sig .tc := ⟨.hbm, 777, rfl⟩
abbrev main_v150 : Ref sig .tc := ⟨.hbm, 778, rfl⟩
abbrev main_v151 : Ref sig .tc := ⟨.hbm, 779, rfl⟩
abbrev main_v152 : Ref sig .tc := ⟨.hbm, 780, rfl⟩
abbrev main_v153 : Ref sig .tc := ⟨.hbm, 781, rfl⟩
abbrev main_v154 : Ref sig .tc := ⟨.hbm, 782, rfl⟩
abbrev main_v155 : Ref sig .tc := ⟨.hbm, 783, rfl⟩
abbrev main_c_56 : Ref sig .tc := ⟨.hbm, 784, rfl⟩
abbrev main_c_57 : Ref sig .tc := ⟨.hbm, 785, rfl⟩
abbrev main_call47_v0 : Ref sig .tc := ⟨.hbm, 786, rfl⟩
abbrev main_call47_v1 : Ref sig .tc := ⟨.hbm, 787, rfl⟩
abbrev main_call47_v2 : Ref sig .tc := ⟨.hbm, 788, rfl⟩
abbrev main_call47_v3 : Ref sig .tc := ⟨.hbm, 789, rfl⟩
abbrev main_call47_v4 : Ref sig .tc := ⟨.hbm, 790, rfl⟩
abbrev main_v156 : Ref sig .tc := ⟨.hbm, 791, rfl⟩
abbrev main_call48_c : Ref sig .tc := ⟨.hbm, 792, rfl⟩
abbrev main_call48_v0 : Ref sig .tc := ⟨.hbm, 793, rfl⟩
abbrev main_call48_v1 : Ref sig .tc := ⟨.hbm, 794, rfl⟩
abbrev main_call48_c_0 : Ref sig .tc := ⟨.hbm, 795, rfl⟩
abbrev main_call48_v2 : Ref sig .tc := ⟨.hbm, 796, rfl⟩
abbrev main_call48_v3 : Ref sig .tc := ⟨.hbm, 797, rfl⟩
abbrev main_call48_v4 : Ref sig .tc := ⟨.hbm, 798, rfl⟩
abbrev main_call48_v5 : Ref sig .tc := ⟨.hbm, 799, rfl⟩
abbrev main_call48_c_1 : Ref sig .tc := ⟨.hbm, 800, rfl⟩
abbrev main_call48_c_2 : Ref sig .tc := ⟨.hbm, 801, rfl⟩
abbrev main_call48_v6 : Ref sig .tc := ⟨.hbm, 802, rfl⟩
abbrev main_call48_v7 : Ref sig .tc := ⟨.hbm, 803, rfl⟩
abbrev main_call48_v8 : Ref sig .tc := ⟨.hbm, 804, rfl⟩
abbrev main_call48_v9 : Ref sig .tc := ⟨.hbm, 805, rfl⟩
abbrev main_call48_v10 : Ref sig .tc := ⟨.hbm, 806, rfl⟩
abbrev main_call48_v11 : Ref sig .tc := ⟨.hbm, 807, rfl⟩
abbrev main_call48_c_3 : Ref sig .tc := ⟨.hbm, 808, rfl⟩
abbrev main_call48_v12 : Ref sig .tc := ⟨.hbm, 809, rfl⟩
abbrev main_call48_v13 : Ref sig .tc := ⟨.hbm, 810, rfl⟩
abbrev main_call48_v14 : Ref sig .tc := ⟨.hbm, 811, rfl⟩
abbrev main_call48_cst : Ref sig .tc := ⟨.hbm, 812, rfl⟩
abbrev main_call48_v15 : Ref sig .tc := ⟨.hbm, 813, rfl⟩
abbrev main_v157 : Ref sig .tc := ⟨.hbm, 814, rfl⟩
abbrev main_v158 : Ref sig .tc := ⟨.hbm, 815, rfl⟩
abbrev main_v159 : Ref sig .tc := ⟨.hbm, 816, rfl⟩
abbrev main_v160 : Ref sig .tc := ⟨.hbm, 817, rfl⟩
abbrev main_v161 : Ref sig .tc := ⟨.hbm, 818, rfl⟩
abbrev main_v162 : Ref sig .tc := ⟨.hbm, 819, rfl⟩
abbrev main_c_58 : Ref sig .tc := ⟨.hbm, 820, rfl⟩
abbrev main_c_59 : Ref sig .tc := ⟨.hbm, 821, rfl⟩
abbrev main_call49_v0 : Ref sig .tc := ⟨.hbm, 822, rfl⟩
abbrev main_call49_v1 : Ref sig .tc := ⟨.hbm, 823, rfl⟩
abbrev main_call49_v2 : Ref sig .tc := ⟨.hbm, 824, rfl⟩
abbrev main_call49_v3 : Ref sig .tc := ⟨.hbm, 825, rfl⟩
abbrev main_call49_v4 : Ref sig .tc := ⟨.hbm, 826, rfl⟩
abbrev main_v163 : Ref sig .tc := ⟨.hbm, 827, rfl⟩
abbrev main_call50_c : Ref sig .tc := ⟨.hbm, 828, rfl⟩
abbrev main_call50_v0 : Ref sig .tc := ⟨.hbm, 829, rfl⟩
abbrev main_call50_v1 : Ref sig .tc := ⟨.hbm, 830, rfl⟩
abbrev main_call50_c_0 : Ref sig .tc := ⟨.hbm, 831, rfl⟩
abbrev main_call50_v2 : Ref sig .tc := ⟨.hbm, 832, rfl⟩
abbrev main_call50_v3 : Ref sig .tc := ⟨.hbm, 833, rfl⟩
abbrev main_call50_v4 : Ref sig .tc := ⟨.hbm, 834, rfl⟩
abbrev main_call50_v5 : Ref sig .tc := ⟨.hbm, 835, rfl⟩
abbrev main_call50_c_1 : Ref sig .tc := ⟨.hbm, 836, rfl⟩
abbrev main_call50_c_2 : Ref sig .tc := ⟨.hbm, 837, rfl⟩
abbrev main_call50_v6 : Ref sig .tc := ⟨.hbm, 838, rfl⟩
abbrev main_call50_v7 : Ref sig .tc := ⟨.hbm, 839, rfl⟩
abbrev main_call50_v8 : Ref sig .tc := ⟨.hbm, 840, rfl⟩
abbrev main_call50_v9 : Ref sig .tc := ⟨.hbm, 841, rfl⟩
abbrev main_call50_v10 : Ref sig .tc := ⟨.hbm, 842, rfl⟩
abbrev main_call50_v11 : Ref sig .tc := ⟨.hbm, 843, rfl⟩
abbrev main_call50_c_3 : Ref sig .tc := ⟨.hbm, 844, rfl⟩
abbrev main_call50_v12 : Ref sig .tc := ⟨.hbm, 845, rfl⟩
abbrev main_call50_v13 : Ref sig .tc := ⟨.hbm, 846, rfl⟩
abbrev main_call50_v14 : Ref sig .tc := ⟨.hbm, 847, rfl⟩
abbrev main_call50_cst : Ref sig .tc := ⟨.hbm, 848, rfl⟩
abbrev main_call50_v15 : Ref sig .tc := ⟨.hbm, 849, rfl⟩
abbrev main_v164 : Ref sig .tc := ⟨.hbm, 850, rfl⟩
abbrev main_v165 : Ref sig .tc := ⟨.hbm, 851, rfl⟩
abbrev main_v166 : Ref sig .tc := ⟨.hbm, 852, rfl⟩
abbrev main_v167 : Ref sig .tc := ⟨.hbm, 853, rfl⟩
abbrev main_v168 : Ref sig .tc := ⟨.hbm, 854, rfl⟩
abbrev main_v169 : Ref sig .tc := ⟨.hbm, 855, rfl⟩
abbrev main_c_60 : Ref sig .tc := ⟨.hbm, 856, rfl⟩
abbrev main_c_61 : Ref sig .tc := ⟨.hbm, 857, rfl⟩
abbrev main_call51_v0 : Ref sig .tc := ⟨.hbm, 858, rfl⟩
abbrev main_call51_v1 : Ref sig .tc := ⟨.hbm, 859, rfl⟩
abbrev main_call51_v2 : Ref sig .tc := ⟨.hbm, 860, rfl⟩
abbrev main_call51_v3 : Ref sig .tc := ⟨.hbm, 861, rfl⟩
abbrev main_call51_v4 : Ref sig .tc := ⟨.hbm, 862, rfl⟩
abbrev main_v170 : Ref sig .tc := ⟨.hbm, 863, rfl⟩
abbrev main_call52_c : Ref sig .tc := ⟨.hbm, 864, rfl⟩
abbrev main_call52_v0 : Ref sig .tc := ⟨.hbm, 865, rfl⟩
abbrev main_call52_v1 : Ref sig .tc := ⟨.hbm, 866, rfl⟩
abbrev main_call52_c_0 : Ref sig .tc := ⟨.hbm, 867, rfl⟩
abbrev main_call52_v2 : Ref sig .tc := ⟨.hbm, 868, rfl⟩
abbrev main_call52_v3 : Ref sig .tc := ⟨.hbm, 869, rfl⟩
abbrev main_call52_v4 : Ref sig .tc := ⟨.hbm, 870, rfl⟩
abbrev main_call52_v5 : Ref sig .tc := ⟨.hbm, 871, rfl⟩
abbrev main_call52_c_1 : Ref sig .tc := ⟨.hbm, 872, rfl⟩
abbrev main_call52_c_2 : Ref sig .tc := ⟨.hbm, 873, rfl⟩
abbrev main_call52_v6 : Ref sig .tc := ⟨.hbm, 874, rfl⟩
abbrev main_call52_v7 : Ref sig .tc := ⟨.hbm, 875, rfl⟩
abbrev main_call52_v8 : Ref sig .tc := ⟨.hbm, 876, rfl⟩
abbrev main_call52_v9 : Ref sig .tc := ⟨.hbm, 877, rfl⟩
abbrev main_call52_v10 : Ref sig .tc := ⟨.hbm, 878, rfl⟩
abbrev main_call52_v11 : Ref sig .tc := ⟨.hbm, 879, rfl⟩
abbrev main_call52_c_3 : Ref sig .tc := ⟨.hbm, 880, rfl⟩
abbrev main_call52_v12 : Ref sig .tc := ⟨.hbm, 881, rfl⟩
abbrev main_call52_v13 : Ref sig .tc := ⟨.hbm, 882, rfl⟩
abbrev main_call52_v14 : Ref sig .tc := ⟨.hbm, 883, rfl⟩
abbrev main_call52_cst : Ref sig .tc := ⟨.hbm, 884, rfl⟩
abbrev main_call52_v15 : Ref sig .tc := ⟨.hbm, 885, rfl⟩
abbrev main_v171 : Ref sig .tc := ⟨.hbm, 886, rfl⟩
abbrev main_v172 : Ref sig .tc := ⟨.hbm, 887, rfl⟩
abbrev main_v173 : Ref sig .tc := ⟨.hbm, 888, rfl⟩
abbrev main_v174 : Ref sig .tc := ⟨.hbm, 889, rfl⟩
abbrev main_v175 : Ref sig .tc := ⟨.hbm, 890, rfl⟩
abbrev main_v176 : Ref sig .tc := ⟨.hbm, 891, rfl⟩
abbrev main_c_62 : Ref sig .tc := ⟨.hbm, 892, rfl⟩
abbrev main_c_63 : Ref sig .tc := ⟨.hbm, 893, rfl⟩
abbrev main_call53_v0 : Ref sig .tc := ⟨.hbm, 894, rfl⟩
abbrev main_call53_v1 : Ref sig .tc := ⟨.hbm, 895, rfl⟩
abbrev main_call53_v2 : Ref sig .tc := ⟨.hbm, 896, rfl⟩
abbrev main_call53_v3 : Ref sig .tc := ⟨.hbm, 897, rfl⟩
abbrev main_call53_v4 : Ref sig .tc := ⟨.hbm, 898, rfl⟩
abbrev main_v177 : Ref sig .tc := ⟨.hbm, 899, rfl⟩
abbrev main_call54_c : Ref sig .tc := ⟨.hbm, 900, rfl⟩
abbrev main_call54_v0 : Ref sig .tc := ⟨.hbm, 901, rfl⟩
abbrev main_call54_v1 : Ref sig .tc := ⟨.hbm, 902, rfl⟩
abbrev main_call54_c_0 : Ref sig .tc := ⟨.hbm, 903, rfl⟩
abbrev main_call54_v2 : Ref sig .tc := ⟨.hbm, 904, rfl⟩
abbrev main_call54_v3 : Ref sig .tc := ⟨.hbm, 905, rfl⟩
abbrev main_call54_v4 : Ref sig .tc := ⟨.hbm, 906, rfl⟩
abbrev main_call54_v5 : Ref sig .tc := ⟨.hbm, 907, rfl⟩
abbrev main_call54_c_1 : Ref sig .tc := ⟨.hbm, 908, rfl⟩
abbrev main_call54_c_2 : Ref sig .tc := ⟨.hbm, 909, rfl⟩
abbrev main_call54_v6 : Ref sig .tc := ⟨.hbm, 910, rfl⟩
abbrev main_call54_v7 : Ref sig .tc := ⟨.hbm, 911, rfl⟩
abbrev main_call54_v8 : Ref sig .tc := ⟨.hbm, 912, rfl⟩
abbrev main_call54_v9 : Ref sig .tc := ⟨.hbm, 913, rfl⟩
abbrev main_call54_v10 : Ref sig .tc := ⟨.hbm, 914, rfl⟩
abbrev main_call54_v11 : Ref sig .tc := ⟨.hbm, 915, rfl⟩
abbrev main_call54_c_3 : Ref sig .tc := ⟨.hbm, 916, rfl⟩
abbrev main_call54_v12 : Ref sig .tc := ⟨.hbm, 917, rfl⟩
abbrev main_call54_v13 : Ref sig .tc := ⟨.hbm, 918, rfl⟩
abbrev main_call54_v14 : Ref sig .tc := ⟨.hbm, 919, rfl⟩
abbrev main_call54_cst : Ref sig .tc := ⟨.hbm, 920, rfl⟩
abbrev main_call54_v15 : Ref sig .tc := ⟨.hbm, 921, rfl⟩
abbrev main_v178 : Ref sig .tc := ⟨.hbm, 922, rfl⟩
abbrev main_v179 : Ref sig .tc := ⟨.hbm, 923, rfl⟩
abbrev main_v180 : Ref sig .tc := ⟨.hbm, 924, rfl⟩
abbrev main_v181 : Ref sig .tc := ⟨.hbm, 925, rfl⟩
abbrev main_v182 : Ref sig .tc := ⟨.hbm, 926, rfl⟩
abbrev main_v183 : Ref sig .tc := ⟨.hbm, 927, rfl⟩
abbrev main_c_64 : Ref sig .tc := ⟨.hbm, 928, rfl⟩
abbrev main_c_65 : Ref sig .tc := ⟨.hbm, 929, rfl⟩
abbrev main_call55_v0 : Ref sig .tc := ⟨.hbm, 930, rfl⟩
abbrev main_call55_v1 : Ref sig .tc := ⟨.hbm, 931, rfl⟩
abbrev main_call55_v2 : Ref sig .tc := ⟨.hbm, 932, rfl⟩
abbrev main_call55_v3 : Ref sig .tc := ⟨.hbm, 933, rfl⟩
abbrev main_call55_v4 : Ref sig .tc := ⟨.hbm, 934, rfl⟩
abbrev main_v184 : Ref sig .tc := ⟨.hbm, 935, rfl⟩
abbrev main_call56_c : Ref sig .tc := ⟨.hbm, 936, rfl⟩
abbrev main_call56_v0 : Ref sig .tc := ⟨.hbm, 937, rfl⟩
abbrev main_call56_v1 : Ref sig .tc := ⟨.hbm, 938, rfl⟩
abbrev main_call56_c_0 : Ref sig .tc := ⟨.hbm, 939, rfl⟩
abbrev main_call56_v2 : Ref sig .tc := ⟨.hbm, 940, rfl⟩
abbrev main_call56_v3 : Ref sig .tc := ⟨.hbm, 941, rfl⟩
abbrev main_call56_v4 : Ref sig .tc := ⟨.hbm, 942, rfl⟩
abbrev main_call56_v5 : Ref sig .tc := ⟨.hbm, 943, rfl⟩
abbrev main_call56_c_1 : Ref sig .tc := ⟨.hbm, 944, rfl⟩
abbrev main_call56_c_2 : Ref sig .tc := ⟨.hbm, 945, rfl⟩
abbrev main_call56_v6 : Ref sig .tc := ⟨.hbm, 946, rfl⟩
abbrev main_call56_v7 : Ref sig .tc := ⟨.hbm, 947, rfl⟩
abbrev main_call56_v8 : Ref sig .tc := ⟨.hbm, 948, rfl⟩
abbrev main_call56_v9 : Ref sig .tc := ⟨.hbm, 949, rfl⟩
abbrev main_call56_v10 : Ref sig .tc := ⟨.hbm, 950, rfl⟩
abbrev main_call56_v11 : Ref sig .tc := ⟨.hbm, 951, rfl⟩
abbrev main_call56_c_3 : Ref sig .tc := ⟨.hbm, 952, rfl⟩
abbrev main_call56_v12 : Ref sig .tc := ⟨.hbm, 953, rfl⟩
abbrev main_call56_v13 : Ref sig .tc := ⟨.hbm, 954, rfl⟩
abbrev main_call56_v14 : Ref sig .tc := ⟨.hbm, 955, rfl⟩
abbrev main_call56_cst : Ref sig .tc := ⟨.hbm, 956, rfl⟩
abbrev main_call56_v15 : Ref sig .tc := ⟨.hbm, 957, rfl⟩
abbrev main_v185 : Ref sig .tc := ⟨.hbm, 958, rfl⟩
abbrev main_v186 : Ref sig .tc := ⟨.hbm, 959, rfl⟩
abbrev main_v187 : Ref sig .tc := ⟨.hbm, 960, rfl⟩
abbrev main_v188 : Ref sig .tc := ⟨.hbm, 961, rfl⟩
abbrev main_v189 : Ref sig .tc := ⟨.hbm, 962, rfl⟩
abbrev main_v190 : Ref sig .tc := ⟨.hbm, 963, rfl⟩
abbrev main_c_66 : Ref sig .tc := ⟨.hbm, 964, rfl⟩
abbrev main_c_67 : Ref sig .tc := ⟨.hbm, 965, rfl⟩
abbrev main_call57_v0 : Ref sig .tc := ⟨.hbm, 966, rfl⟩
abbrev main_call57_v1 : Ref sig .tc := ⟨.hbm, 967, rfl⟩
abbrev main_call57_v2 : Ref sig .tc := ⟨.hbm, 968, rfl⟩
abbrev main_call57_v3 : Ref sig .tc := ⟨.hbm, 969, rfl⟩
abbrev main_call57_v4 : Ref sig .tc := ⟨.hbm, 970, rfl⟩
abbrev main_v191 : Ref sig .tc := ⟨.hbm, 971, rfl⟩
abbrev main_call58_c : Ref sig .tc := ⟨.hbm, 972, rfl⟩
abbrev main_call58_v0 : Ref sig .tc := ⟨.hbm, 973, rfl⟩
abbrev main_call58_v1 : Ref sig .tc := ⟨.hbm, 974, rfl⟩
abbrev main_call58_c_0 : Ref sig .tc := ⟨.hbm, 975, rfl⟩
abbrev main_call58_v2 : Ref sig .tc := ⟨.hbm, 976, rfl⟩
abbrev main_call58_v3 : Ref sig .tc := ⟨.hbm, 977, rfl⟩
abbrev main_call58_v4 : Ref sig .tc := ⟨.hbm, 978, rfl⟩
abbrev main_call58_v5 : Ref sig .tc := ⟨.hbm, 979, rfl⟩
abbrev main_call58_c_1 : Ref sig .tc := ⟨.hbm, 980, rfl⟩
abbrev main_call58_c_2 : Ref sig .tc := ⟨.hbm, 981, rfl⟩
abbrev main_call58_v6 : Ref sig .tc := ⟨.hbm, 982, rfl⟩
abbrev main_call58_v7 : Ref sig .tc := ⟨.hbm, 983, rfl⟩
abbrev main_call58_v8 : Ref sig .tc := ⟨.hbm, 984, rfl⟩
abbrev main_call58_v9 : Ref sig .tc := ⟨.hbm, 985, rfl⟩
abbrev main_call58_v10 : Ref sig .tc := ⟨.hbm, 986, rfl⟩
abbrev main_call58_v11 : Ref sig .tc := ⟨.hbm, 987, rfl⟩
abbrev main_call58_c_3 : Ref sig .tc := ⟨.hbm, 988, rfl⟩
abbrev main_call58_v12 : Ref sig .tc := ⟨.hbm, 989, rfl⟩
abbrev main_call58_v13 : Ref sig .tc := ⟨.hbm, 990, rfl⟩
abbrev main_call58_v14 : Ref sig .tc := ⟨.hbm, 991, rfl⟩
abbrev main_call58_cst : Ref sig .tc := ⟨.hbm, 992, rfl⟩
abbrev main_call58_v15 : Ref sig .tc := ⟨.hbm, 993, rfl⟩
abbrev main_v192 : Ref sig .tc := ⟨.hbm, 994, rfl⟩
abbrev main_v193 : Ref sig .tc := ⟨.hbm, 995, rfl⟩
abbrev main_v194 : Ref sig .tc := ⟨.hbm, 996, rfl⟩
abbrev main_v195 : Ref sig .tc := ⟨.hbm, 997, rfl⟩
abbrev main_v196 : Ref sig .tc := ⟨.hbm, 998, rfl⟩
abbrev main_v197 : Ref sig .tc := ⟨.hbm, 999, rfl⟩
abbrev main_v198 : Ref sig .tc := ⟨.hbm, 1000, rfl⟩
abbrev main_v199 : Ref sig .tc := ⟨.hbm, 1001, rfl⟩
abbrev main_v200 : Ref sig .tc := ⟨.hbm, 1002, rfl⟩
abbrev main_v201 : Ref sig .tc := ⟨.hbm, 1003, rfl⟩
abbrev main_v202 : Ref sig .tc := ⟨.hbm, 1004, rfl⟩
abbrev main_c_68 : Ref sig .tc := ⟨.hbm, 1005, rfl⟩
abbrev main_c_69 : Ref sig .tc := ⟨.hbm, 1006, rfl⟩
abbrev main_call59_v0 : Ref sig .tc := ⟨.hbm, 1007, rfl⟩
abbrev main_call59_v1 : Ref sig .tc := ⟨.hbm, 1008, rfl⟩
abbrev main_call59_v2 : Ref sig .tc := ⟨.hbm, 1009, rfl⟩
abbrev main_call59_v3 : Ref sig .tc := ⟨.hbm, 1010, rfl⟩
abbrev main_call59_v4 : Ref sig .tc := ⟨.hbm, 1011, rfl⟩
abbrev main_v203 : Ref sig .tc := ⟨.hbm, 1012, rfl⟩
abbrev main_call60_c : Ref sig .tc := ⟨.hbm, 1013, rfl⟩
abbrev main_call60_v0 : Ref sig .tc := ⟨.hbm, 1014, rfl⟩
abbrev main_call60_v1 : Ref sig .tc := ⟨.hbm, 1015, rfl⟩
abbrev main_call60_c_0 : Ref sig .tc := ⟨.hbm, 1016, rfl⟩
abbrev main_call60_v2 : Ref sig .tc := ⟨.hbm, 1017, rfl⟩
abbrev main_call60_v3 : Ref sig .tc := ⟨.hbm, 1018, rfl⟩
abbrev main_call60_v4 : Ref sig .tc := ⟨.hbm, 1019, rfl⟩
abbrev main_call60_v5 : Ref sig .tc := ⟨.hbm, 1020, rfl⟩
abbrev main_call60_c_1 : Ref sig .tc := ⟨.hbm, 1021, rfl⟩
abbrev main_call60_c_2 : Ref sig .tc := ⟨.hbm, 1022, rfl⟩
abbrev main_call60_v6 : Ref sig .tc := ⟨.hbm, 1023, rfl⟩
abbrev main_call60_v7 : Ref sig .tc := ⟨.hbm, 1024, rfl⟩
abbrev main_call60_v8 : Ref sig .tc := ⟨.hbm, 1025, rfl⟩
abbrev main_call60_v9 : Ref sig .tc := ⟨.hbm, 1026, rfl⟩
abbrev main_call60_v10 : Ref sig .tc := ⟨.hbm, 1027, rfl⟩
abbrev main_call60_v11 : Ref sig .tc := ⟨.hbm, 1028, rfl⟩
abbrev main_call60_c_3 : Ref sig .tc := ⟨.hbm, 1029, rfl⟩
abbrev main_call60_v12 : Ref sig .tc := ⟨.hbm, 1030, rfl⟩
abbrev main_call60_v13 : Ref sig .tc := ⟨.hbm, 1031, rfl⟩
abbrev main_call60_v14 : Ref sig .tc := ⟨.hbm, 1032, rfl⟩
abbrev main_call60_cst : Ref sig .tc := ⟨.hbm, 1033, rfl⟩
abbrev main_call60_v15 : Ref sig .tc := ⟨.hbm, 1034, rfl⟩
abbrev main_v204 : Ref sig .tc := ⟨.hbm, 1035, rfl⟩
abbrev main_v205 : Ref sig .tc := ⟨.hbm, 1036, rfl⟩
abbrev main_v206 : Ref sig .tc := ⟨.hbm, 1037, rfl⟩
abbrev main_v207 : Ref sig .tc := ⟨.hbm, 1038, rfl⟩
abbrev main_c_70 : Ref sig .tc := ⟨.hbm, 1039, rfl⟩
abbrev main_c_71 : Ref sig .tc := ⟨.hbm, 1040, rfl⟩
abbrev main_call61_v0 : Ref sig .tc := ⟨.hbm, 1041, rfl⟩
abbrev main_call61_v1 : Ref sig .tc := ⟨.hbm, 1042, rfl⟩
abbrev main_call61_v2 : Ref sig .tc := ⟨.hbm, 1043, rfl⟩
abbrev main_call61_v3 : Ref sig .tc := ⟨.hbm, 1044, rfl⟩
abbrev main_call61_v4 : Ref sig .tc := ⟨.hbm, 1045, rfl⟩
abbrev main_v208 : Ref sig .tc := ⟨.hbm, 1046, rfl⟩
abbrev main_call62_c : Ref sig .tc := ⟨.hbm, 1047, rfl⟩
abbrev main_call62_v0 : Ref sig .tc := ⟨.hbm, 1048, rfl⟩
abbrev main_call62_v1 : Ref sig .tc := ⟨.hbm, 1049, rfl⟩
abbrev main_call62_c_0 : Ref sig .tc := ⟨.hbm, 1050, rfl⟩
abbrev main_call62_v2 : Ref sig .tc := ⟨.hbm, 1051, rfl⟩
abbrev main_call62_v3 : Ref sig .tc := ⟨.hbm, 1052, rfl⟩
abbrev main_call62_v4 : Ref sig .tc := ⟨.hbm, 1053, rfl⟩
abbrev main_call62_v5 : Ref sig .tc := ⟨.hbm, 1054, rfl⟩
abbrev main_call62_c_1 : Ref sig .tc := ⟨.hbm, 1055, rfl⟩
abbrev main_call62_c_2 : Ref sig .tc := ⟨.hbm, 1056, rfl⟩
abbrev main_call62_v6 : Ref sig .tc := ⟨.hbm, 1057, rfl⟩
abbrev main_call62_v7 : Ref sig .tc := ⟨.hbm, 1058, rfl⟩
abbrev main_call62_v8 : Ref sig .tc := ⟨.hbm, 1059, rfl⟩
abbrev main_call62_v9 : Ref sig .tc := ⟨.hbm, 1060, rfl⟩
abbrev main_call62_v10 : Ref sig .tc := ⟨.hbm, 1061, rfl⟩
abbrev main_call62_v11 : Ref sig .tc := ⟨.hbm, 1062, rfl⟩
abbrev main_call62_c_3 : Ref sig .tc := ⟨.hbm, 1063, rfl⟩
abbrev main_call62_v12 : Ref sig .tc := ⟨.hbm, 1064, rfl⟩
abbrev main_call62_v13 : Ref sig .tc := ⟨.hbm, 1065, rfl⟩
abbrev main_call62_v14 : Ref sig .tc := ⟨.hbm, 1066, rfl⟩
abbrev main_call62_cst : Ref sig .tc := ⟨.hbm, 1067, rfl⟩
abbrev main_call62_v15 : Ref sig .tc := ⟨.hbm, 1068, rfl⟩
abbrev main_v209 : Ref sig .tc := ⟨.hbm, 1069, rfl⟩
abbrev main_v210 : Ref sig .tc := ⟨.hbm, 1070, rfl⟩
abbrev main_v211 : Ref sig .tc := ⟨.hbm, 1071, rfl⟩
abbrev main_v212 : Ref sig .tc := ⟨.hbm, 1072, rfl⟩
abbrev main_c_72 : Ref sig .tc := ⟨.hbm, 1073, rfl⟩
abbrev main_v213 : Ref sig .tc := ⟨.hbm, 1074, rfl⟩
abbrev main_c_73 : Ref sig .tc := ⟨.hbm, 1075, rfl⟩
abbrev main_v214 : Ref sig .tc := ⟨.hbm, 1076, rfl⟩
abbrev main_v215 : Ref sig .tc := ⟨.hbm, 1077, rfl⟩
abbrev main_c_74 : Ref sig .tc := ⟨.hbm, 1078, rfl⟩
abbrev main_call63_v0 : Ref sig .tc := ⟨.hbm, 1079, rfl⟩
abbrev main_call63_v1 : Ref sig .tc := ⟨.hbm, 1080, rfl⟩
abbrev main_v216 : Ref sig .tc := ⟨.hbm, 1081, rfl⟩
abbrev main_c_75 : Ref sig .tc := ⟨.hbm, 1082, rfl⟩
abbrev main_v217 : Ref sig .tc := ⟨.hbm, 1083, rfl⟩
abbrev main_v218 : Ref sig .tc := ⟨.hbm, 1084, rfl⟩
abbrev main_c_76 : Ref sig .tc := ⟨.hbm, 1085, rfl⟩
abbrev main_call64_v0 : Ref sig .tc := ⟨.hbm, 1086, rfl⟩
abbrev main_call64_v1 : Ref sig .tc := ⟨.hbm, 1087, rfl⟩
abbrev main_v219 : Ref sig .tc := ⟨.hbm, 1088, rfl⟩
abbrev main_c_77 : Ref sig .tc := ⟨.hbm, 1089, rfl⟩
abbrev main_v220 : Ref sig .tc := ⟨.hbm, 1090, rfl⟩
abbrev main_v221 : Ref sig .tc := ⟨.hbm, 1091, rfl⟩
abbrev main_c_78 : Ref sig .tc := ⟨.hbm, 1092, rfl⟩
abbrev main_call65_v0 : Ref sig .tc := ⟨.hbm, 1093, rfl⟩
abbrev main_call65_v1 : Ref sig .tc := ⟨.hbm, 1094, rfl⟩
abbrev main_v222 : Ref sig .tc := ⟨.hbm, 1095, rfl⟩
abbrev main_c_79 : Ref sig .tc := ⟨.hbm, 1096, rfl⟩
abbrev main_v223 : Ref sig .tc := ⟨.hbm, 1097, rfl⟩
abbrev main_v224 : Ref sig .tc := ⟨.hbm, 1098, rfl⟩
abbrev main_c_80 : Ref sig .tc := ⟨.hbm, 1099, rfl⟩
abbrev main_call66_v0 : Ref sig .tc := ⟨.hbm, 1100, rfl⟩
abbrev main_call66_v1 : Ref sig .tc := ⟨.hbm, 1101, rfl⟩
abbrev main_v225 : Ref sig .tc := ⟨.hbm, 1102, rfl⟩
abbrev main_c_81 : Ref sig .tc := ⟨.hbm, 1103, rfl⟩
abbrev main_v226 : Ref sig .tc := ⟨.hbm, 1104, rfl⟩
abbrev main_v227 : Ref sig .tc := ⟨.hbm, 1105, rfl⟩
abbrev main_c_82 : Ref sig .tc := ⟨.hbm, 1106, rfl⟩
abbrev main_call67_v0 : Ref sig .tc := ⟨.hbm, 1107, rfl⟩
abbrev main_call67_v1 : Ref sig .tc := ⟨.hbm, 1108, rfl⟩
abbrev main_v228 : Ref sig .tc := ⟨.hbm, 1109, rfl⟩
abbrev main_c_83 : Ref sig .tc := ⟨.hbm, 1110, rfl⟩
abbrev main_v229 : Ref sig .tc := ⟨.hbm, 1111, rfl⟩
abbrev main_v230 : Ref sig .tc := ⟨.hbm, 1112, rfl⟩
abbrev main_c_84 : Ref sig .tc := ⟨.hbm, 1113, rfl⟩
abbrev main_call68_v0 : Ref sig .tc := ⟨.hbm, 1114, rfl⟩
abbrev main_call68_v1 : Ref sig .tc := ⟨.hbm, 1115, rfl⟩
abbrev main_v231 : Ref sig .tc := ⟨.hbm, 1116, rfl⟩
abbrev main_c_85 : Ref sig .tc := ⟨.hbm, 1117, rfl⟩
abbrev main_v232 : Ref sig .tc := ⟨.hbm, 1118, rfl⟩
abbrev main_v233 : Ref sig .tc := ⟨.hbm, 1119, rfl⟩
abbrev main_c_86 : Ref sig .tc := ⟨.hbm, 1120, rfl⟩
abbrev main_call69_v0 : Ref sig .tc := ⟨.hbm, 1121, rfl⟩
abbrev main_call69_v1 : Ref sig .tc := ⟨.hbm, 1122, rfl⟩
abbrev main_v234 : Ref sig .tc := ⟨.hbm, 1123, rfl⟩
abbrev main_c_87 : Ref sig .tc := ⟨.hbm, 1124, rfl⟩
abbrev main_c_88 : Ref sig .tc := ⟨.hbm, 1125, rfl⟩
abbrev main_call70_v0 : Ref sig .tc := ⟨.hbm, 1126, rfl⟩
abbrev main_call70_v1 : Ref sig .tc := ⟨.hbm, 1127, rfl⟩
abbrev main_call70_v2 : Ref sig .tc := ⟨.hbm, 1128, rfl⟩
abbrev main_call70_v3 : Ref sig .tc := ⟨.hbm, 1129, rfl⟩
abbrev main_call70_v4 : Ref sig .tc := ⟨.hbm, 1130, rfl⟩
abbrev main_v235 : Ref sig .tc := ⟨.hbm, 1131, rfl⟩
abbrev main_call71_c : Ref sig .tc := ⟨.hbm, 1132, rfl⟩
abbrev main_call71_v0 : Ref sig .tc := ⟨.hbm, 1133, rfl⟩
abbrev main_call71_v1 : Ref sig .tc := ⟨.hbm, 1134, rfl⟩
abbrev main_call71_c_0 : Ref sig .tc := ⟨.hbm, 1135, rfl⟩
abbrev main_call71_v2 : Ref sig .tc := ⟨.hbm, 1136, rfl⟩
abbrev main_call71_v3 : Ref sig .tc := ⟨.hbm, 1137, rfl⟩
abbrev main_call71_v4 : Ref sig .tc := ⟨.hbm, 1138, rfl⟩
abbrev main_call71_v5 : Ref sig .tc := ⟨.hbm, 1139, rfl⟩
abbrev main_call71_c_1 : Ref sig .tc := ⟨.hbm, 1140, rfl⟩
abbrev main_call71_c_2 : Ref sig .tc := ⟨.hbm, 1141, rfl⟩
abbrev main_call71_v6 : Ref sig .tc := ⟨.hbm, 1142, rfl⟩
abbrev main_call71_v7 : Ref sig .tc := ⟨.hbm, 1143, rfl⟩
abbrev main_call71_v8 : Ref sig .tc := ⟨.hbm, 1144, rfl⟩
abbrev main_call71_v9 : Ref sig .tc := ⟨.hbm, 1145, rfl⟩
abbrev main_call71_v10 : Ref sig .tc := ⟨.hbm, 1146, rfl⟩
abbrev main_call71_v11 : Ref sig .tc := ⟨.hbm, 1147, rfl⟩
abbrev main_call71_c_3 : Ref sig .tc := ⟨.hbm, 1148, rfl⟩
abbrev main_call71_v12 : Ref sig .tc := ⟨.hbm, 1149, rfl⟩
abbrev main_call71_v13 : Ref sig .tc := ⟨.hbm, 1150, rfl⟩
abbrev main_call71_v14 : Ref sig .tc := ⟨.hbm, 1151, rfl⟩
abbrev main_call71_cst : Ref sig .tc := ⟨.hbm, 1152, rfl⟩
abbrev main_call71_v15 : Ref sig .tc := ⟨.hbm, 1153, rfl⟩
abbrev main_v236 : Ref sig .tc := ⟨.hbm, 1154, rfl⟩
abbrev main_v237 : Ref sig .tc := ⟨.hbm, 1155, rfl⟩
abbrev main_v238 : Ref sig .tc := ⟨.hbm, 1156, rfl⟩
abbrev main_v239 : Ref sig .tc := ⟨.hbm, 1157, rfl⟩
abbrev main_c_89 : Ref sig .tc := ⟨.hbm, 1158, rfl⟩
abbrev main_c_90 : Ref sig .tc := ⟨.hbm, 1159, rfl⟩
abbrev main_call72_v0 : Ref sig .tc := ⟨.hbm, 1160, rfl⟩
abbrev main_call72_v1 : Ref sig .tc := ⟨.hbm, 1161, rfl⟩
abbrev main_call72_v2 : Ref sig .tc := ⟨.hbm, 1162, rfl⟩
abbrev main_call72_v3 : Ref sig .tc := ⟨.hbm, 1163, rfl⟩
abbrev main_call72_v4 : Ref sig .tc := ⟨.hbm, 1164, rfl⟩
abbrev main_v240 : Ref sig .tc := ⟨.hbm, 1165, rfl⟩
abbrev main_call73_c : Ref sig .tc := ⟨.hbm, 1166, rfl⟩
abbrev main_call73_v0 : Ref sig .tc := ⟨.hbm, 1167, rfl⟩
abbrev main_call73_v1 : Ref sig .tc := ⟨.hbm, 1168, rfl⟩
abbrev main_call73_c_0 : Ref sig .tc := ⟨.hbm, 1169, rfl⟩
abbrev main_call73_v2 : Ref sig .tc := ⟨.hbm, 1170, rfl⟩
abbrev main_call73_v3 : Ref sig .tc := ⟨.hbm, 1171, rfl⟩
abbrev main_call73_v4 : Ref sig .tc := ⟨.hbm, 1172, rfl⟩
abbrev main_call73_v5 : Ref sig .tc := ⟨.hbm, 1173, rfl⟩
abbrev main_call73_c_1 : Ref sig .tc := ⟨.hbm, 1174, rfl⟩
abbrev main_call73_c_2 : Ref sig .tc := ⟨.hbm, 1175, rfl⟩
abbrev main_call73_v6 : Ref sig .tc := ⟨.hbm, 1176, rfl⟩
abbrev main_call73_v7 : Ref sig .tc := ⟨.hbm, 1177, rfl⟩
abbrev main_call73_v8 : Ref sig .tc := ⟨.hbm, 1178, rfl⟩
abbrev main_call73_v9 : Ref sig .tc := ⟨.hbm, 1179, rfl⟩
abbrev main_call73_v10 : Ref sig .tc := ⟨.hbm, 1180, rfl⟩
abbrev main_call73_v11 : Ref sig .tc := ⟨.hbm, 1181, rfl⟩
abbrev main_call73_c_3 : Ref sig .tc := ⟨.hbm, 1182, rfl⟩
abbrev main_call73_v12 : Ref sig .tc := ⟨.hbm, 1183, rfl⟩
abbrev main_call73_v13 : Ref sig .tc := ⟨.hbm, 1184, rfl⟩
abbrev main_call73_v14 : Ref sig .tc := ⟨.hbm, 1185, rfl⟩
abbrev main_call73_cst : Ref sig .tc := ⟨.hbm, 1186, rfl⟩
abbrev main_call73_v15 : Ref sig .tc := ⟨.hbm, 1187, rfl⟩
abbrev main_v241 : Ref sig .tc := ⟨.hbm, 1188, rfl⟩
abbrev main_v242 : Ref sig .tc := ⟨.hbm, 1189, rfl⟩
abbrev main_v243 : Ref sig .tc := ⟨.hbm, 1190, rfl⟩
abbrev main_v244 : Ref sig .tc := ⟨.hbm, 1191, rfl⟩
abbrev main_c_91 : Ref sig .tc := ⟨.hbm, 1192, rfl⟩
abbrev main_c_92 : Ref sig .tc := ⟨.hbm, 1193, rfl⟩
abbrev main_call74_v0 : Ref sig .tc := ⟨.hbm, 1194, rfl⟩
abbrev main_call74_v1 : Ref sig .tc := ⟨.hbm, 1195, rfl⟩
abbrev main_call74_v2 : Ref sig .tc := ⟨.hbm, 1196, rfl⟩
abbrev main_call74_v3 : Ref sig .tc := ⟨.hbm, 1197, rfl⟩
abbrev main_call74_v4 : Ref sig .tc := ⟨.hbm, 1198, rfl⟩
abbrev main_v245 : Ref sig .tc := ⟨.hbm, 1199, rfl⟩
abbrev main_call75_c : Ref sig .tc := ⟨.hbm, 1200, rfl⟩
abbrev main_call75_v0 : Ref sig .tc := ⟨.hbm, 1201, rfl⟩
abbrev main_call75_v1 : Ref sig .tc := ⟨.hbm, 1202, rfl⟩
abbrev main_call75_c_0 : Ref sig .tc := ⟨.hbm, 1203, rfl⟩
abbrev main_call75_v2 : Ref sig .tc := ⟨.hbm, 1204, rfl⟩
abbrev main_call75_v3 : Ref sig .tc := ⟨.hbm, 1205, rfl⟩
abbrev main_call75_v4 : Ref sig .tc := ⟨.hbm, 1206, rfl⟩
abbrev main_call75_v5 : Ref sig .tc := ⟨.hbm, 1207, rfl⟩
abbrev main_call75_c_1 : Ref sig .tc := ⟨.hbm, 1208, rfl⟩
abbrev main_call75_c_2 : Ref sig .tc := ⟨.hbm, 1209, rfl⟩
abbrev main_call75_v6 : Ref sig .tc := ⟨.hbm, 1210, rfl⟩
abbrev main_call75_v7 : Ref sig .tc := ⟨.hbm, 1211, rfl⟩
abbrev main_call75_v8 : Ref sig .tc := ⟨.hbm, 1212, rfl⟩
abbrev main_call75_v9 : Ref sig .tc := ⟨.hbm, 1213, rfl⟩
abbrev main_call75_v10 : Ref sig .tc := ⟨.hbm, 1214, rfl⟩
abbrev main_call75_v11 : Ref sig .tc := ⟨.hbm, 1215, rfl⟩
abbrev main_call75_c_3 : Ref sig .tc := ⟨.hbm, 1216, rfl⟩
abbrev main_call75_v12 : Ref sig .tc := ⟨.hbm, 1217, rfl⟩
abbrev main_call75_v13 : Ref sig .tc := ⟨.hbm, 1218, rfl⟩
abbrev main_call75_v14 : Ref sig .tc := ⟨.hbm, 1219, rfl⟩
abbrev main_call75_cst : Ref sig .tc := ⟨.hbm, 1220, rfl⟩
abbrev main_call75_v15 : Ref sig .tc := ⟨.hbm, 1221, rfl⟩
abbrev main_v246 : Ref sig .tc := ⟨.hbm, 1222, rfl⟩
abbrev main_v247 : Ref sig .tc := ⟨.hbm, 1223, rfl⟩
abbrev main_v248 : Ref sig .tc := ⟨.hbm, 1224, rfl⟩
abbrev main_v249 : Ref sig .tc := ⟨.hbm, 1225, rfl⟩
abbrev main_c_93 : Ref sig .tc := ⟨.hbm, 1226, rfl⟩
abbrev main_c_94 : Ref sig .tc := ⟨.hbm, 1227, rfl⟩
abbrev main_call76_v0 : Ref sig .tc := ⟨.hbm, 1228, rfl⟩
abbrev main_call76_v1 : Ref sig .tc := ⟨.hbm, 1229, rfl⟩
abbrev main_call76_v2 : Ref sig .tc := ⟨.hbm, 1230, rfl⟩
abbrev main_call76_v3 : Ref sig .tc := ⟨.hbm, 1231, rfl⟩
abbrev main_call76_v4 : Ref sig .tc := ⟨.hbm, 1232, rfl⟩
abbrev main_v250 : Ref sig .tc := ⟨.hbm, 1233, rfl⟩
abbrev main_call77_c : Ref sig .tc := ⟨.hbm, 1234, rfl⟩
abbrev main_call77_v0 : Ref sig .tc := ⟨.hbm, 1235, rfl⟩
abbrev main_call77_v1 : Ref sig .tc := ⟨.hbm, 1236, rfl⟩
abbrev main_call77_c_0 : Ref sig .tc := ⟨.hbm, 1237, rfl⟩
abbrev main_call77_v2 : Ref sig .tc := ⟨.hbm, 1238, rfl⟩
abbrev main_call77_v3 : Ref sig .tc := ⟨.hbm, 1239, rfl⟩
abbrev main_call77_v4 : Ref sig .tc := ⟨.hbm, 1240, rfl⟩
abbrev main_call77_v5 : Ref sig .tc := ⟨.hbm, 1241, rfl⟩
abbrev main_call77_c_1 : Ref sig .tc := ⟨.hbm, 1242, rfl⟩
abbrev main_call77_c_2 : Ref sig .tc := ⟨.hbm, 1243, rfl⟩
abbrev main_call77_v6 : Ref sig .tc := ⟨.hbm, 1244, rfl⟩
abbrev main_call77_v7 : Ref sig .tc := ⟨.hbm, 1245, rfl⟩
abbrev main_call77_v8 : Ref sig .tc := ⟨.hbm, 1246, rfl⟩
abbrev main_call77_v9 : Ref sig .tc := ⟨.hbm, 1247, rfl⟩
abbrev main_call77_v10 : Ref sig .tc := ⟨.hbm, 1248, rfl⟩
abbrev main_call77_v11 : Ref sig .tc := ⟨.hbm, 1249, rfl⟩
abbrev main_call77_c_3 : Ref sig .tc := ⟨.hbm, 1250, rfl⟩
abbrev main_call77_v12 : Ref sig .tc := ⟨.hbm, 1251, rfl⟩
abbrev main_call77_v13 : Ref sig .tc := ⟨.hbm, 1252, rfl⟩
abbrev main_call77_v14 : Ref sig .tc := ⟨.hbm, 1253, rfl⟩
abbrev main_call77_cst : Ref sig .tc := ⟨.hbm, 1254, rfl⟩
abbrev main_call77_v15 : Ref sig .tc := ⟨.hbm, 1255, rfl⟩
abbrev main_v251 : Ref sig .tc := ⟨.hbm, 1256, rfl⟩
abbrev main_v252 : Ref sig .tc := ⟨.hbm, 1257, rfl⟩
abbrev main_v253 : Ref sig .tc := ⟨.hbm, 1258, rfl⟩
abbrev main_v254 : Ref sig .tc := ⟨.hbm, 1259, rfl⟩
abbrev main_v255 : Ref sig .tc := ⟨.hbm, 1260, rfl⟩
abbrev main_v256 : Ref sig .tc := ⟨.hbm, 1261, rfl⟩
abbrev main_v257 : Ref sig .tc := ⟨.hbm, 1262, rfl⟩
abbrev main_v258 : Ref sig .tc := ⟨.hbm, 1263, rfl⟩
abbrev main_v259 : Ref sig .tc := ⟨.hbm, 1264, rfl⟩
abbrev main_v260 : Ref sig .tc := ⟨.hbm, 1265, rfl⟩
abbrev main_v261 : Ref sig .tc := ⟨.hbm, 1266, rfl⟩
abbrev main_v262 : Ref sig .tc := ⟨.hbm, 1267, rfl⟩

abbrev nD : Nat := 1
abbrev τ : Topo := Topo.v7x

variable {F : FTy → Type} [FloatOps F]
-- ==== Proof.Tables.lean ====
/-
  The two tables that the kernel's wrapper builds before the launch, written as one expression of the arguments: the
  discrete table (128 lanes by 64 outputs) and the bond weights (79 columns by 64 outputs).
-/
module

public import proofs.«01_k».proof.Proof.Gen.KernelIdeal
public import Idealize.ShloMosaic.PureOps.Ideal.Laws

@[expose] public section

noncomputable section

namespace Cert.Tables

open Cert.KernelIdeal Cert.KernelIdeal.Gen Idealize.ShloMosaic

/-- The padding value: the integer zero as a float. -/
def zeroPad : FVec Ideal S_ .f32 := sitofp .f32 (constantI S_ 32 0#32)

/-- The element rows: rows 1 … 6 of the table less row 0. -/
def elementDiff (e : FVec Ideal S7x4 .f32) : FVec Ideal S6x4 .f32 :=
  subf (extractStridedSlice S6x4 ![1, 0] e slices_S7x4_S6x4_1_0)
    (broadcastInDim S6x4 ![0, 1] bcast_S1x4_S6x4_0_1 (extractStridedSlice S1x4 ![0, 0] e slices_S7x4_S1x4_0_0))

/-- The ring-size rows: rows 0 … 5 of the table less row 6. -/
def ringsizeDiff (r : FVec Ideal S7x4 .f32) : FVec Ideal S6x4 .f32 :=
  subf (extractStridedSlice S6x4 ![0, 0] r slices_S7x4_S6x4_0_0)
    (broadcastInDim S6x4 ![0, 1] bcast_S1x4_S6x4_0_1 (extractStridedSlice S1x4 ![6, 0] r slices_S7x4_S1x4_6_0))

/-- The flags' rows: each flag's two rows through its two rows of the reducing matrix. -/
def flagRows (ft : FVec Ideal S18x2x2 .f32) (rw : FVec Ideal S36x4 .f32) : FVec Ideal S36x4 .f32 :=
  shapeCast S36x4 (Host.dotGeneral dot_S18x2x2_S18x2x4_S18x2x4_2_1_1_2_0_0 none ft
    (shapeCast S18x2x4 rw shapeCasts_S36x4_S18x2x4)) shapeCasts_S18x2x4_S36x4

/-- The always-hot row: element row 0, ring-size row 6 and the reducing bias, each at its columns. -/
def constRow (e r : FVec Ideal S7x4 .f32) (b : FVec Ideal S4 .f32) : FVec Ideal S1x52 .f32 :=
  addf (addf
    (pad S1x52 ![0, 0] ![0, 48] ![0, 0] (extractStridedSlice S1x4 ![0, 0] e slices_S7x4_S1x4_0_0) zeroPad pads_S1x4_S1x52_000_0480 h_S_)
    (pad S1x52 ![0, 36] ![0, 12] ![0, 0] (extractStridedSlice S1x4 ![6, 0] r slices_S7x4_S1x4_6_0) zeroPad pads_S1x4_S1x52_000_36120 h_S_))
    (pad S1x52 ![0, 28] ![0, 20] ![0, 0] (broadcastInDim S1x4 ![1] bcast_S4_S1x4_1 b) zeroPad pads_S1x4_S1x52_000_28200 h_S_)

/-- The 129 lanes' rows over the 52 discrete columns. -/
def laneRows (a1 a2 : FVec Ideal S7x4 .f32) (a3 : FVec Ideal S2x4 .f32) (a4 : FVec Ideal S8x4 .f32) (a5 : FVec Ideal S2x4 .f32)
    (a6 : FVec Ideal S6x4 .f32) (a7 : FVec Ideal S5x4 .f32) (a8 : FVec Ideal S18x2x2 .f32) (a9 a10 : FVec Ideal S2x2 .f32)
    (a11 : FVec Ideal S7x4 .f32) (a12 : FVec Ideal S5x4 .f32) (a13 : FVec Ideal S8x4 .f32) (a14 : FVec Ideal S27x4 .f32)
    (a15 : FVec Ideal S36x4 .f32) (a16 : FVec Ideal S4 .f32) : FVec Ideal S129x52 .f32 :=
  concatenate S129x52 0
    [⟨S6x52, pad S6x52 ![0, 0] ![0, 48] ![0, 0] (elementDiff a1) zeroPad pads_S6x4_S6x52_000_0480 h_S_⟩,
     ⟨S7x52, pad S7x52 ![0, 4] ![0, 44] ![0, 0] a2 zeroPad pads_S7x4_S7x52_000_4440 h_S_⟩,
     ⟨S2x52, pad S2x52 ![0, 8] ![0, 40] ![0, 0] a3 zeroPad pads_S2x4_S2x52_000_8400 h_S_⟩,
     ⟨S8x52, pad S8x52 ![0, 12] ![0, 36] ![0, 0] a4 zeroPad pads_S8x4_S8x52_000_12360 h_S_⟩,
     ⟨S2x52, pad S2x52 ![0, 16] ![0, 32] ![0, 0] a5 zeroPad pads_S2x4_S2x52_000_16320 h_S_⟩,
     ⟨S6x52, pad S6x52 ![0, 20] ![0, 28] ![0, 0] a6 zeroPad pads_S6x4_S6x52_000_20280 h_S_⟩,
     ⟨S5x52, pad S5x52 ![0, 24] ![0, 24] ![0, 0] a7 zeroPad pads_S5x4_S5x52_000_24240 h_S_⟩,
     ⟨S36x52, pad S36x52 ![0, 28] ![0, 20] ![0, 0] (flagRows a8 a15) zeroPad pads_S36x4_S36x52_000_28200 h_S_⟩,
     ⟨S2x52, pad S2x52 ![0, 32] ![0, 18] ![0, 0] a9 zeroPad pads_S2x2_S2x52_000_32180 h_S_⟩,
     ⟨S2x52, pad S2x52 ![0, 34] ![0, 16] ![0, 0] a10 zeroPad pads_S2x2_S2x52_000_34160 h_S_⟩,
     ⟨S6x52, pad S6x52 ![0, 36] ![0, 12] ![0, 0] (ringsizeDiff a11) zeroPad pads_S6x4_S6x52_000_36120 h_S_⟩,
     ⟨S5x52, pad S5x52 ![0, 40] ![0, 8] ![0, 0] a12 zeroPad pads_S5x4_S5x52_000_4080 h_S_⟩,
     ⟨S8x52, pad S8x52 ![0, 44] ![0, 4] ![0, 0] a13 zeroPad pads_S8x4_S8x52_000_4440 h_S_⟩,
     ⟨S27x52, pad S27x52 ![0, 48] ![0, 0] ![0, 0] a14 zeroPad pads_S27x4_S27x52_000_4800 h_S_⟩,
     ⟨S1x52, constRow a1 a11 a16⟩,
     ⟨S6x52, broadcastInDim S6x52 ![] bcast_S_S6x52 (constant S_ .f32 0x00000000#32)⟩]
    concatenates_S6x52_S7x52_S2x52_S8x52_S2x52_S6x52_S5x52_S36x52_S2x52_S2x52_S6x52_S5x52_S8x52_S27x52_S1x52_S6x52_S129x52_d0

/-- A two-word start index. -/
def start2 (p q : BitVec 32) : IVec S2 32 :=
  concatenate S2 0 [⟨S1, broadcastInDim S1 ![] bcast_S_S1 (constantI S_ 32 p)⟩, ⟨S1, broadcastInDim S1 ![] bcast_S_S1 (constantI S_ 32 q)⟩]
    concatenates_S1_S1_S2_d0

/-- The discrete table of lane rows `g`: each lane's row through the discrete weights `w`, the discrete bias `b` added to the
    always-hot lane, and the bond bias `bb` set in that lane's last 16 columns. -/
def discTable (g : FVec Ideal S129x52 .f32) (w : FVec Ideal S52x48 .f32) (b : FVec Ideal S48 .f32) (bb : FVec Ideal S16 .f32) :
    FVec Ideal S128x64 .f32 :=
  Host.scatter scatter_S128x64_S2_S16_0_0_01_0 (fun _ b => b)
    (pad S128x64 ![0, 0] ![0, 16] ![0, 0]
      (Host.scatter scatter_S128x48_S1_S48_0_0_0_0 FloatOps.addf
        (Host.dotGeneral dot_S128x52_S52x48_S128x48_1_0_0_1_n_n none
          (extractStridedSlice S128x52 ![0, 0] g slices_S129x52_S128x52_0_0) w)
        (broadcastInDim S1 ![] bcast_S_S1 (constantI S_ 32 122#32)) b)
      zeroPad pads_S128x48_S128x64_000_0160 h_S_)
    (start2 122#32 48#32) bb

/-- The bond weights `w` set in the rows of the bond columns and the last 16 outputs, zero elsewhere. -/
def bondTable (w : FVec Ideal S48x16 .f32) : FVec Ideal S79x64 .f32 :=
  Host.scatter scatter_S79x64_S2_S48x16_01_n_01_0 (fun _ b => b)
    (broadcastInDim S79x64 ![] bcast_S_S79x64 (constant S_ .f32 0x00000000#32)) (start2 31#32 48#32) w

end Cert.Tables

end
-- ==== Proof.HostValue.lean ====
/-
  What the launch finds in memory: the wrapper's tables and the kernel's constants, as expressions of the arguments.
-/
module

public import proofs.«01_k».proof.Proof.Tables
public import proofs.«01_k».proof.Proof.Gen.KernelIdeal.Frame
public import Idealize.ShloMosaic.Lib.StableHlo.Run
public import Idealize.ShloMosaic.Lib.Tactic
public import Idealize.ShloMosaic.Lib.Claim
public import Idealize.ShloMosaic.Lib.StableHlo.RunRead

@[expose] public section

noncomputable section

namespace Cert.HostValue

open Cert.KernelIdeal Cert.KernelIdeal.Gen Cert.Tables Idealize.ShloMosaic Idealize.ShloMosaic.TcCoe Idealize.SL.Sem

variable (m : (ℓ : Loc nD τ sig) → Buf (Elt Ideal) ℓ) (c : Dev nD)

/-- The lower ends of the clips. -/
theorem V_lower : V m c main_c = (fun i => lit0 (S1x32.rowMajor i) : Buf (Elt Ideal) ((c : Thread nD τ).loc main_c)) := by
  after_reads_simp

/-- The upper ends of the clips. -/
theorem V_upper : V m c main_c_0 = (fun i => lit1 (S1x32.rowMajor i) : Buf (Elt Ideal) ((c : Thread nD τ).loc main_c_0)) := by
  after_reads_simp

/-- The matrix selecting each lane's feature. -/
theorem V_selector : V m c main_cst = (fun i => FloatOps.ofBits (F := Ideal) .f32 (lit2 (S32x128.rowMajor i))
    : Buf (Elt Ideal) ((c : Thread nD τ).loc main_cst)) := by
  after_reads_simp

/-- The value each lane looks for. -/
theorem V_lanes : V m c main_cst_1 = (fun i => FloatOps.ofBits (F := Ideal) .f32 (lit3 (S1x128.rowMajor i))
    : Buf (Elt Ideal) ((c : Thread nD τ).loc main_cst_1)) := by
  after_reads_simp

/-- The bond weights. -/
theorem V_bond : V m c main_v48 = bondTable (m ((c : Thread nD τ).loc main_arg17)) := by
  after_reads_simp
  rfl

/-- Equal pieces before equal lists make equal lists. -/
theorem piece_congr {α : Type} {s : Shape} {x y : s.Idx → α} {xs ys : List ((s : Shape) × (s.Idx → α))} (h : x = y)
    (h' : xs = ys) : (⟨s, x⟩ :: xs : List ((s : Shape) × (s.Idx → α))) = ⟨s, y⟩ :: ys := by subst h h'; rfl

/-- The lanes' rows: each piece of the concatenation is its operand's read. -/
theorem V_laneRows : V m c main_v34 = laneRows
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) := by
  simp (disch := decide) only [StableHlo.readAfter, StableHlo.nary_result']
  unfold laneRows
  refine StableHlo.concatenate_congr _ _ ?_ _ _
  refine piece_congr (show StableHlo.upto _ _ _ (Proc.devRef .tc main_v7) = _ from by after_reads_simp; rfl) ?_
  refine piece_congr (show StableHlo.upto _ _ _ (Proc.devRef .tc main_v8) = _ from by after_reads_simp; rfl) ?_
  refine piece_congr (show StableHlo.upto _ _ _ (Proc.devRef .tc main_v9) = _ from by after_reads_simp; rfl) ?_
  refine piece_congr (show StableHlo.upto _ _ _ (Proc.devRef .tc main_v10) = _ from by after_reads_simp; rfl) ?_
  refine piece_congr (show StableHlo.upto _ _ _ (Proc.devRef .tc main_v11) = _ from by after_reads_simp; rfl) ?_
  refine piece_congr (show StableHlo.upto _ _ _ (Proc.devRef .tc main_v12) = _ from by after_reads_simp; rfl) ?_
  refine piece_congr (show StableHlo.upto _ _ _ (Proc.devRef .tc main_v13) = _ from by after_reads_simp; rfl) ?_
  refine piece_congr (show StableHlo.upto _ _ _ (Proc.devRef .tc main_v14) = _ from by after_reads_simp; rfl) ?_
  refine piece_congr (show StableHlo.upto _ _ _ (Proc.devRef .tc main_v15) = _ from by after_reads_simp; rfl) ?_
  refine piece_congr (show StableHlo.upto _ _ _ (Proc.devRef .tc main_v16) = _ from by after_reads_simp; rfl) ?_
  refine piece_congr (show StableHlo.upto _ _ _ (Proc.devRef .tc main_v21) = _ from by after_reads_simp; rfl) ?_
  refine piece_congr (show StableHlo.upto _ _ _ (Proc.devRef .tc main_v22) = _ from by after_reads_simp; rfl) ?_
  refine piece_congr (show StableHlo.upto _ _ _ (Proc.devRef .tc main_v23) = _ from by after_reads_simp; rfl) ?_
  refine piece_congr (show StableHlo.upto _ _ _ (Proc.devRef .tc main_v24) = _ from by after_reads_simp; rfl) ?_
  refine piece_congr (show StableHlo.upto _ _ _ (Proc.devRef .tc main_v32) = _ from by after_reads_simp; rfl) ?_
  refine piece_congr (show StableHlo.upto _ _ _ (Proc.devRef .tc main_v33) = _ from by after_reads_simp) ?_
  rfl

end Cert.HostValue

end
-- ==== Proof.HostDisc.lean ====
/-
  What the launch finds in memory as the discrete table.
-/
module

public import proofs.«01_k».proof.Proof.HostValue

@[expose] public section

noncomputable section

namespace Cert.HostValue

open Cert.KernelIdeal Cert.KernelIdeal.Gen Cert.Tables Idealize.ShloMosaic Idealize.ShloMosaic.TcCoe Idealize.SL.Sem

variable (m : (ℓ : Loc nD τ sig) → Buf (Elt Ideal) ℓ) (c : Dev nD)

set_option maxHeartbeats 2000000 in
/-- The discrete table. -/
theorem V_disc : V m c main_v43 = discTable (laneRows
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)))
    (m ((c : Thread nD τ).loc main_arg19)) (m ((c : Thread nD τ).loc main_arg20)) (m ((c : Thread nD τ).loc main_arg18)) := by
  have h := V_laneRows m c
  simp (disch := decide) only [StableHlo.readAfter, StableHlo.nary_result'] at h
  after_reads_simp
  rw [h]
  clear h
  generalize laneRows _ _ _ _ _ _ _ _ _ _ _ _ _ _ _ _ = g
  change _ = discTable g (m (c, Proc.tc.devRef main_arg19)) (m (c, Proc.tc.devRef main_arg20)) (m (c, Proc.tc.devRef main_arg18))
  unfold discTable start2
  generalize Host.scatter scatter_S128x48_S1_S48_0_0_0_0 (FloatOps.addf (F := Ideal) (φ := .f32)) _ _ _ = s
  refine congrArg₂ (fun X Y => Host.scatter scatter_S128x64_S2_S16_0_0_01_0 (fun _ b => b) X Y (m (c, Proc.tc.devRef main_arg18)))
    (show _ = pad S128x64 ![0, 0] ![0, 16] ![0, 0] s zeroPad pads_S128x48_S128x64_000_0160 h_S_ by rfl) ?_
  refine StableHlo.concatenate_congr _ _ ?_ _ _
  refine piece_congr (show StableHlo.upto _ _ _ (Proc.devRef .tc main_v40) = _ from by after_reads_simp) ?_
  refine piece_congr (show StableHlo.upto _ _ _ (Proc.devRef .tc main_v41) = _ from by after_reads_simp) ?_
  rfl

end Cert.HostValue

end
-- ==== Proof.Reads.lean ====
/-
  Two-dimensional arrays read at natural-number coordinates (`at2`, zero outside the array), and the layout operations and
  products of both programs read that way. At any extents; nothing here names a program.
-/
module

public import Idealize.ShloMosaic.Lib.ValueIdx
public import Idealize.ShloMosaic.Lib.MatmulPlain
public import Idealize.ShloMosaic.Lib.Pipeline.Value
public import Idealize.ShloMosaic.Lib.KernelVsHost
public import Mathlib.Algebra.BigOperators.Fin

@[expose] public section

noncomputable section

namespace Cert.Reads

open Idealize.ShloMosaic Idealize.ShloMosaic.ValueIdx Finset

variable {n m : ℕ}

/-- Entry `(i, k)` of a matrix, zero outside it. -/
def at2 (x : FVec Ideal ⟨2, ![n, m]⟩ .f32) (i k : ℕ) : EReal :=
  if h : i < n ∧ k < m then x (ix2 ⟨i, h.1⟩ ⟨k, h.2⟩) else 0

/-- Entry `k` of a vector, zero outside it. -/
def at1 (x : FVec Ideal ⟨1, ![m]⟩ .f32) (k : ℕ) : EReal := if h : k < m then x (ix1 ⟨k, h⟩) else 0

/-- Inside the matrix it is the entry. -/
theorem at2_eq (x : FVec Ideal ⟨2, ![n, m]⟩ .f32) {i k : ℕ} (hi : i < n) (hk : k < m) :
    at2 x i k = x (ix2 ⟨i, hi⟩ ⟨k, hk⟩) := dif_pos ⟨hi, hk⟩

/-- Inside the vector it is the entry. -/
theorem at1_eq (x : FVec Ideal ⟨1, ![m]⟩ .f32) {k : ℕ} (hk : k < m) : at1 x k = x (ix1 ⟨k, hk⟩) := dif_pos hk

/-- An entry, read by natural numbers. -/
theorem ix2_eq (x : FVec Ideal ⟨2, ![n, m]⟩ .f32) (i : Fin n) (k : Fin m) : x (ix2 i k) = at2 x i.val k.val :=
  (at2_eq x i.isLt k.isLt).symm

/-- Matrices with the same entries are equal. -/
theorem at2_ext (x y : FVec Ideal ⟨2, ![n, m]⟩ .f32) (h : ∀ i < n, ∀ k < m, at2 x i k = at2 y i k) : x = y := by
  funext j
  rw [eq_ix2 j]
  exact (ix2_eq x (j 0) (j 1)).trans ((h _ (j 0).isLt _ (j 1).isLt).trans (ix2_eq y (j 0) (j 1)).symm)

/-- Addition, entry by entry. -/
theorem at2_addf (x y : FVec Ideal ⟨2, ![n, m]⟩ .f32) {i k : ℕ} (hi : i < n) (hk : k < m) :
    at2 (addf x y) i k = at2 x i k + at2 y i k := by
  rw [at2_eq _ hi hk, at2_eq _ hi hk, at2_eq _ hi hk]; rfl

/-- Subtraction, entry by entry. -/
theorem at2_subf (x y : FVec Ideal ⟨2, ![n, m]⟩ .f32) {i k : ℕ} (hi : i < n) (hk : k < m) :
    at2 (subf x y) i k = at2 x i k - at2 y i k := by
  rw [at2_eq _ hi hk, at2_eq _ hi hk, at2_eq _ hi hk]; rfl

/-- A product's sum over the contracted axis, by natural numbers. -/
theorem sum_dot {M K N : ℕ} (l : FVec Ideal ⟨2, ![M, K]⟩ .f32) (r : FVec Ideal ⟨2, ![K, N]⟩ .f32) {i c : ℕ} (hi : i < M) (hc : c < N) :
    (∑ k : Fin K, (l (ix2 ⟨i, hi⟩ k) : EReal) * r (ix2 k ⟨c, hc⟩)) = ∑ k ∈ range K, at2 l i k * at2 r k c := by
  rw [Finset.sum_range]
  refine Finset.sum_congr rfl fun k _ => ?_
  rw [at2_eq l hi k.isLt, at2_eq r k.isLt hc]

/-- The host's product of two matrices. -/
theorem at2_hostDot {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) {i c : ℕ} (hi : i < M) (hc : c < N) :
    at2 (Host.dotGeneral d none l r) i c = ∑ k ∈ range K, at2 l i k * at2 r k c := by
  subst hd
  rw [← sum_dot l r hi hc, at2_eq _ hi hc]
  simp only [Host.dotGeneral]
  have h0 := Ideal.matmul_plain_apply (M := M) (K := K) (N := N) none l r (fun _ => (0 : EReal)) ⟨i, hi⟩ ⟨c, hc⟩
  rw [zero_add] at h0
  rw [← h0, Ideal.matmul_apply, Ideal.dotGeneral_apply]
  exact (zero_add _).symm

/-- The kernel's product of two matrices, from a zero accumulator. -/
theorem at2_matmul {M K N : ℕ} (d : DotDims ⟨2, ![M, K]⟩ ⟨2, ![K, N]⟩ ⟨2, ![M, N]⟩) (hd : d = DotDims.plain M K N)
    (p : Option ContractPrecision) (l : FVec Ideal ⟨2, ![M, K]⟩ .f32) (r : FVec Ideal ⟨2, ![K, N]⟩ .f32)
    (acc : FVec Ideal ⟨2, ![M, N]⟩ .f32) (ha : ∀ j, acc j = (0 : EReal)) {i c : ℕ} (hi : i < M) (hc : c < N) :
    at2 (FloatOps.matmul d p l r acc) i c = ∑ k ∈ range K, at2 l i k * at2 r k c := by
  subst hd
  rw [← sum_dot l r hi hc, at2_eq _ hi hc, Ideal.matmul_plain_apply, ha, zero_add]

/-- A slice at unit strides. -/
theorem at2_slice {n' m' a b : ℕ} (x : FVec Ideal ⟨2, ![n, m]⟩ .f32) (h : (⟨2, ![n, m]⟩ : Shape).Slices ![a, b] ⟨2, ![n', m']⟩)
    (hn : a + n' ≤ n) (hm : b + m' ≤ m) {i k : ℕ} (hi : i < n') (hk : k < m') :
    at2 (extractStridedSlice ⟨2, ![n', m']⟩ ![a, b] x h) i k = at2 x (a + i) (b + k) := by
  rw [at2_eq _ hi hk, at2_eq _ (by omega) (by omega)]
  unfold extractStridedSlice
  refine congrArg x (funext fun d => Fin.ext ?_)
  match d with
  | ⟨0, _⟩ => rfl
  | ⟨1, _⟩ => rfl

/-- A pad of columns: the operand in its window, the padding value elsewhere. -/
theorem at2_pad {M lo hi : ℕ} (x : FVec Ideal ⟨2, ![n, m]⟩ .f32) (v : FVec Ideal ⟨0, ![]⟩ .f32)
    (h : (⟨2, ![n, m]⟩ : Shape).Pads ![0, lo] ![0, hi] ![0, 0] ⟨2, ![n, M]⟩) (hu : 0 < (⟨0, ![]⟩ : Shape).numel)
    (hv : v (Shape.Idx.first hu) = (0 : EReal)) {i k : ℕ} (hi' : i < n) (hk : k < M) :
    at2 (pad ⟨2, ![n, M]⟩ ![0, lo] ![0, hi] ![0, 0] x v h hu) i k = if lo ≤ k ∧ k < lo + m then at2 x i (k - lo) else 0 := by
  rw [at2_eq _ hi' hk]
  by_cases hc : lo ≤ k ∧ k < lo + m
  · rw [if_pos hc, at2_eq x hi' (show k - lo < m by omega)]
    refine pad_apply_of_inside _ _ _ _ _ _ _ _ _ fun a => ?_
    match a with
    | ⟨0, _⟩ => show i = 0 + i * (0 + 1); omega
    | ⟨1, _⟩ => show k = lo + (k - lo) * (0 + 1); omega
  · rw [if_neg hc, ← hv]
    refine pad_apply_of_not_inside _ _ _ _ _ _ _ _ 1 fun hh => hc ?_
    obtain ⟨h1, -, h3⟩ := hh
    change lo ≤ k at h1
    change (k - lo) / (0 + 1) < m at h3
    rw [Nat.zero_add, Nat.div_one] at h3
    omega

/-- Pieces side by side along the columns: piece `p`, whose columns start at `pre`. -/
theorem at2_concatCols {M w : ℕ} {xs : List ((s : Shape) × (s.Idx → Ideal .f32))}
    {h : Shape.Concatenates (xs.map (·.1)) ⟨2, ![n, M]⟩ 1} {V : FVec Ideal ⟨2, ![n, M]⟩ .f32}
    (hV : V = concatenate ⟨2, ![n, M]⟩ 1 xs h) (p : ℕ) (hp : p < xs.length) (X : FVec Ideal ⟨2, ![n, w]⟩ .f32)
    (hx : xs[p] = ⟨⟨2, ![n, w]⟩, X⟩) (pre : ℕ)
    (hpre : (((xs.take p).map (·.1)).map fun s => if h : s.rank = 2 then s.size ((1 : Fin 2).cast h.symm) else 0).sum = pre)
    (hle : pre + w ≤ M) {i q : ℕ} (hi : i < n) (hq : q < w) :
    at2 V i (pre + q) = at2 X i q := by
  rw [hV, at2_eq _ hi (by omega), at2_eq _ hi hq]
  refine concatenate_apply_piece (t := ⟨2, ![n, M]⟩) 1 xs h _ p hp ⟨2, ![n, w]⟩ X hx rfl pre hpre _ (fun b hb => ?_) ?_
  · match b with
    | ⟨0, _⟩ => rfl
    | ⟨1, _⟩ => exact absurd rfl hb
  · rfl

/-- Pieces one under the other: piece `p`, whose rows start at `pre`. -/
theorem at2_concatRows {N w : ℕ} {xs : List ((s : Shape) × (s.Idx → Ideal .f32))}
    {h : Shape.Concatenates (xs.map (·.1)) ⟨2, ![N, m]⟩ 0} {V : FVec Ideal ⟨2, ![N, m]⟩ .f32}
    (hV : V = concatenate ⟨2, ![N, m]⟩ 0 xs h) (p : ℕ) (hp : p < xs.length) (X : FVec Ideal ⟨2, ![w, m]⟩ .f32)
    (hx : xs[p] = ⟨⟨2, ![w, m]⟩, X⟩) (pre : ℕ)
    (hpre : (((xs.take p).map (·.1)).map fun s => if h : s.rank = 2 then s.size ((0 : Fin 2).cast h.symm) else 0).sum = pre)
    (hle : pre + w ≤ N) {j k : ℕ} (hj : j < w) (hk : k < m) :
    at2 V (pre + j) k = at2 X j k := by
  rw [hV, at2_eq _ (by omega) hk, at2_eq _ hj hk]
  refine concatenate_apply_piece (t := ⟨2, ![N, m]⟩) 0 xs h _ p hp ⟨2, ![w, m]⟩ X hx rfl pre hpre _ (fun b hb => ?_) ?_
  · match b with
    | ⟨0, _⟩ => exact absurd rfl hb
    | ⟨1, _⟩ => rfl
  · rfl

/-- The extents of a list of matrices along the rows (`a = 0`) or the columns (`a = 1`). -/
def extents (a : Fin 2) (ss : List Shape) : List ℕ :=
  ss.map fun s => if h : s.rank = 2 then s.size (a.cast h.symm) else 0

/-- Where piece `p` starts, from the pieces' shapes alone. -/
theorem start_of {xs : List ((s : Shape) × (s.Idx → Ideal .f32))} (a : Fin 2) (ss : List Shape) {p pre : ℕ}
    (hss : xs.map (·.1) = ss) (h : ((extents a ss).take p).sum = pre) :
    (((xs.take p).map (·.1)).map fun s => if h : s.rank = 2 then s.size (a.cast h.symm) else 0).sum = pre := by
  rw [List.map_take, hss, List.map_take]
  exact h

/-- One row repeated. -/
theorem at2_repeatRow (hm : m ≠ 1) (x : FVec Ideal ⟨2, ![1, m]⟩ .f32) (h : (⟨2, ![1, m]⟩ : Shape).BroadcastsInDim ⟨2, ![n, m]⟩ ![0, 1])
    {i k : ℕ} (hi : i < n) (hk : k < m) :
    at2 (broadcastInDim ⟨2, ![n, m]⟩ ![0, 1] h x) i k = at2 x 0 k := by
  rw [at2_eq _ hi hk, at2_eq x Nat.one_pos hk]
  refine broadcastInDim_apply _ _ _ _ _ fun a => ?_
  match a with
  | ⟨0, _⟩ => rfl
  | ⟨1, _⟩ => show k = if m = 1 then 0 else k; rw [if_neg hm]

/-- A vector as one row. -/
theorem at2_row (hm : m ≠ 1) (b : FVec Ideal ⟨1, ![m]⟩ .f32) (h : (⟨1, ![m]⟩ : Shape).BroadcastsInDim ⟨2, ![1, m]⟩ ![1])
    {k : ℕ} (hk : k < m) : at2 (broadcastInDim ⟨2, ![1, m]⟩ ![1] h b) 0 k = at1 b k := by
  rw [at2_eq _ Nat.one_pos hk, at1_eq b hk]
  refine broadcastInDim_apply _ _ _ _ _ fun a => ?_
  match a with
  | ⟨0, _⟩ => show k = if m = 1 then 0 else k; rw [if_neg hm]

end Cert.Reads

end
-- ==== Proof.Scatters.lean ====
/-
  The wrapper's two tables read at an entry: its three scatters land each update at one entry, so the discrete table is a
  product with a bias on lane 122, and the bond table is the bond weights in one corner and zero elsewhere.
-/
module

public import proofs.«01_k».proof.Proof.Tables
public import proofs.«01_k».proof.Proof.Reads
public import Idealize.ShloMosaic.Lib.Routing.OpsPair

@[expose] public section

noncomputable section

namespace Cert.Scatters

open Idealize.ShloMosaic Idealize.ShloMosaic.ValueIdx Cert.KernelIdeal Cert.KernelIdeal.Gen Cert.Tables Cert.Reads Finset

/-- A fold that acts at no entry of the list keeps its start. -/
theorem foldl_none {ι α : Type} (p : ι → Prop) [DecidablePred p] (f : α → ι → α) (l : List ι) (a : α) (h : ∀ n ∈ l, ¬ p n) :
    l.foldl (fun a n => if p n then f a n else a) a = a := by
  induction l generalizing a with
  | nil => rfl
  | cons x l ih =>
    rw [List.foldl_cons, if_neg (h x List.mem_cons_self)]
    exact ih a fun n hn => h n (List.mem_cons_of_mem _ hn)

/-- A fold that acts at exactly one entry of a list without repeats acts once. -/
theorem foldl_once {ι α : Type} (p : ι → Prop) [DecidablePred p] (f : α → ι → α) (l : List ι) (hl : l.Nodup) (a : α) (k : ι)
    (hk : k ∈ l) (h : ∀ n ∈ l, p n ↔ n = k) : l.foldl (fun a n => if p n then f a n else a) a = f a k := by
  induction l generalizing a with
  | nil => cases hk
  | cons x l ih =>
    rw [List.nodup_cons] at hl
    rw [List.foldl_cons]
    by_cases e : x = k
    · subst e
      rw [if_pos ((h x List.mem_cons_self).2 rfl)]
      refine foldl_none p f l _ fun n hn q => hl.1 ?_
      rw [← (h n (List.mem_cons_of_mem _ hn)).1 q]
      exact hn
    · rw [if_neg fun q => e ((h x List.mem_cons_self).1 q)]
      exact ih hl.2 a ((List.mem_cons.1 hk).resolve_left fun q => e q.symm) fun n hn => h n (List.mem_cons_of_mem _ hn)

/-- A scatter whose update `k` alone lands at `ι`. -/
theorem scatter_hit {α : Type} {s si u : Shape} {w : ℕ} (d : ScatterDims s si u) (f : α → α → α) (x0 : s.Idx → α) (idx : IVec si w)
    (upd : u.Idx → α) (ι : s.Idx) (k : u.Idx) (h : ∀ k', d.resultIdx? k' idx = some ι ↔ k' = k) :
    Host.scatter d f x0 idx upd ι = f (x0 ι) (upd k) := by
  rw [Routing.scatter_at]
  refine (foldl_once (fun n => d.resultIdx? (u.rowMajor.symm n) idx = some ι) (fun a n => f a (upd (u.rowMajor.symm n))) _
    (List.nodup_finRange _) _ (u.rowMajor k) (List.mem_finRange _) fun n _ => (h _).trans ?_).trans ?_
  · exact Equiv.symm_apply_eq _
  · rw [Equiv.symm_apply_apply]

/-- A scatter none of whose updates lands at `ι`. -/
theorem scatter_miss {α : Type} {s si u : Shape} {w : ℕ} (d : ScatterDims s si u) (f : α → α → α) (x0 : s.Idx → α) (idx : IVec si w)
    (upd : u.Idx → α) (ι : s.Idx) (h : ∀ k', ¬ d.resultIdx? k' idx = some ι) : Host.scatter d f x0 idx upd ι = x0 ι := by
  rw [Routing.scatter_at]
  exact foldl_none (fun n => d.resultIdx? (u.rowMajor.symm n) idx = some ι) (fun a n => f a (upd (u.rowMajor.symm n))) _ _
    fun n _ => h _

/-- The two words of a start index. -/
theorem start2_zero (p q : BitVec 32) : start2 p q (ix1 (0 : Fin 2)) = p := rfl

theorem start2_one (p q : BitVec 32) : start2 p q (ix1 (1 : Fin 2)) = q := rfl

/-! ## Where the updates land -/

/-- The discrete bias lands on lane 122, each entry in its own column. -/
theorem lands_bias (k : Fin 48) (l : Fin 128) (c : Fin 48) :
    scatter_S128x48_S1_S48_0_0_0_0.resultIdx? (ix1 k) (broadcastInDim S1 ![] bcast_S_S1 (constantI S_ 32 122#32))
      = some (ix2 l c) ↔ l.val = 122 ∧ k.val = c.val := by
  rw [Routing.resultIdx?_ix2]
  have e0 : scatter_S128x48_S1_S48_0_0_0_0.start (ix1 k) (broadcastInDim S1 ![] bcast_S_S1 (constantI S_ 32 122#32)) 0 = 122 := rfl
  have e1 : scatter_S128x48_S1_S48_0_0_0_0.start (ix1 k) (broadcastInDim S1 ![] bcast_S_S1 (constantI S_ 32 122#32)) 1 = 0 := rfl
  have w0 : scatter_S128x48_S1_S48_0_0_0_0.window (ix1 k) 0 = 0 := rfl
  have w1 : scatter_S128x48_S1_S48_0_0_0_0.window (ix1 k) 1 = k.val := rfl
  rw [e0, e1, w0, w1]
  omega

/-- The bond bias lands on lane 122, entry `k` in column `48 + k`. -/
theorem lands_bondBias (k : Fin 16) (l : Fin 128) (c : Fin 64) :
    scatter_S128x64_S2_S16_0_0_01_0.resultIdx? (ix1 k) (start2 122#32 48#32) = some (ix2 l c)
      ↔ l.val = 122 ∧ 48 + k.val = c.val := by
  rw [Routing.resultIdx?_ix2]
  have e0 : scatter_S128x64_S2_S16_0_0_01_0.start (ix1 k) (start2 122#32 48#32) 0 = 122 := rfl
  have e1 : scatter_S128x64_S2_S16_0_0_01_0.start (ix1 k) (start2 122#32 48#32) 1 = 48 := rfl
  have w0 : scatter_S128x64_S2_S16_0_0_01_0.window (ix1 k) 0 = 0 := rfl
  have w1 : scatter_S128x64_S2_S16_0_0_01_0.window (ix1 k) 1 = k.val := rfl
  rw [e0, e1, w0, w1]
  omega

/-- The bond weights land 31 rows down and 48 columns along. -/
theorem lands_bond (p : Fin 48) (q : Fin 16) (k : Fin 79) (c : Fin 64) :
    scatter_S79x64_S2_S48x16_01_n_01_0.resultIdx? (ix2 p q) (start2 31#32 48#32) = some (ix2 k c)
      ↔ 31 + p.val = k.val ∧ 48 + q.val = c.val := by
  rw [Routing.resultIdx?_ix2]
  have e0 : scatter_S79x64_S2_S48x16_01_n_01_0.start (ix2 p q) (start2 31#32 48#32) 0 = 31 := rfl
  have e1 : scatter_S79x64_S2_S48x16_01_n_01_0.start (ix2 p q) (start2 31#32 48#32) 1 = 48 := rfl
  have w0 : scatter_S79x64_S2_S48x16_01_n_01_0.window (ix2 p q) 0 = p.val := rfl
  have w1 : scatter_S79x64_S2_S48x16_01_n_01_0.window (ix2 p q) 1 = q.val := rfl
  rw [e0, e1, w0, w1]
  omega

/-! ## The tables -/

/-- The padding value is zero. -/
theorem zeroPad_eq : zeroPad (Shape.Idx.first h_S_) = (0 : EReal) := by
  show (((((0#32 : BitVec 32).toInt : ℤ) : ℝ)) : EReal) = 0
  simp

variable (g : FVec Ideal S129x52 .f32) (w : FVec Ideal S52x48 .f32) (b : FVec Ideal S48 .f32) (bb : FVec Ideal S16 .f32)

/-- THE DISCRETE TABLE, columns 0–47: lane `l`'s row through the weights, plus the bias on lane 122. -/
theorem discTable_at {l c : ℕ} (hl : l < 128) (hc : c < 48) :
    at2 (discTable g w b bb : FVec Ideal ⟨2, ![128, 64]⟩ .f32) l c
      = (∑ k ∈ range 52, at2 g l k * at2 w k c) + if l = 122 then at1 b c else 0 := by
  have hc' : c < 64 := by omega
  have dot : at2 (Host.dotGeneral dot_S128x52_S52x48_S128x48_1_0_0_1_n_n none
      (extractStridedSlice S128x52 ![0, 0] g slices_S129x52_S128x52_0_0) w : FVec Ideal ⟨2, ![128, 48]⟩ .f32) l c
      = ∑ k ∈ range 52, at2 g l k * at2 w k c := by
    refine (at2_hostDot dot_S128x52_S52x48_S128x48_1_0_0_1_n_n rfl _ w hl hc).trans (sum_congr rfl fun k hk => ?_)
    refine congrArg (· * at2 w k c) ((at2_slice g slices_S129x52_S128x52_0_0 (by decide) (by decide) hl (mem_range.mp hk)).trans ?_)
    rw [Nat.zero_add, Nat.zero_add]
  rw [← dot, at2_eq _ hl hc', at2_eq _ hl hc]
  unfold discTable
  rw [scatter_miss _ _ _ _ _ _ fun k => by
    obtain ⟨a, rfl⟩ : ∃ a : Fin 16, k = ix1 a := ⟨k 0, eq_ix1 k⟩
    rw [lands_bondBias]
    show ¬ (l = 122 ∧ 48 + a.val = c)
    omega]
  refine ((at2_eq _ hl hc').symm.trans ((at2_pad _ zeroPad pads_S128x48_S128x64_000_0160 h_S_ zeroPad_eq hl hc').trans ?_))
  rw [if_pos (by omega), Nat.sub_zero, at2_eq _ hl hc]
  by_cases h : l = 122
  · rw [if_pos h, at1_eq b hc, scatter_hit _ _ _ _ _ _ (ix1 (⟨c, hc⟩ : Fin 48)) fun k => by
      obtain ⟨a, rfl⟩ : ∃ a : Fin 48, k = ix1 a := ⟨k 0, eq_ix1 k⟩
      rw [lands_bias]
      constructor
      · intro q; exact congrArg ix1 (Fin.ext q.2)
      · intro q; exact ⟨h, congrArg (fun z : S48.Idx => (z 0).val) q⟩]
    rfl
  · rw [if_neg h, scatter_miss _ _ _ _ _ _ fun k => by
      obtain ⟨a, rfl⟩ : ∃ a : Fin 48, k = ix1 a := ⟨k 0, eq_ix1 k⟩
      rw [lands_bias]
      exact fun q => h q.1]
    exact (add_zero _).symm

/-- THE DISCRETE TABLE, columns 48–63: the bond bias on lane 122, zero elsewhere. -/
theorem discTable_bond {l c : ℕ} (hl : l < 128) (hc : c < 16) :
    at2 (discTable g w b bb : FVec Ideal ⟨2, ![128, 64]⟩ .f32) l (48 + c) = if l = 122 then at1 bb c else 0 := by
  have hc' : 48 + c < 64 := by omega
  rw [at2_eq _ hl hc']
  unfold discTable
  by_cases h : l = 122
  · rw [if_pos h, at1_eq bb hc, scatter_hit _ _ _ _ _ _ (ix1 (⟨c, hc⟩ : Fin 16)) fun k => by
      obtain ⟨a, rfl⟩ : ∃ a : Fin 16, k = ix1 a := ⟨k 0, eq_ix1 k⟩
      rw [lands_bondBias]
      constructor
      · intro q; exact congrArg ix1 (Fin.ext (Nat.add_left_cancel q.2))
      · intro q; exact ⟨h, congrArg (fun z : S16.Idx => 48 + (z 0).val) q⟩]
  · rw [if_neg h, scatter_miss _ _ _ _ _ _ fun k => by
      obtain ⟨a, rfl⟩ : ∃ a : Fin 16, k = ix1 a := ⟨k 0, eq_ix1 k⟩
      rw [lands_bondBias]
      exact fun q => h q.1]
    refine ((at2_eq _ hl hc').symm.trans ((at2_pad _ zeroPad pads_S128x48_S128x64_000_0160 h_S_ zeroPad_eq hl hc').trans ?_))
    rw [if_neg (by omega)]

/-- THE BOND TABLE: the bond weights from row 31 and column 48 on, zero elsewhere. -/
theorem bondTable_at (w : FVec Ideal S48x16 .f32) {k c : ℕ} (hk : k < 79) (hc : c < 64) :
    at2 (bondTable w : FVec Ideal ⟨2, ![79, 64]⟩ .f32) k c = if 31 ≤ k ∧ 48 ≤ c then at2 w (k - 31) (c - 48) else 0 := by
  rw [at2_eq _ hk hc]
  unfold bondTable
  by_cases h : 31 ≤ k ∧ 48 ≤ c
  · rw [if_pos h, at2_eq w (show k - 31 < 48 by omega) (show c - 48 < 16 by omega),
      scatter_hit _ _ _ _ _ _ (ix2 (⟨k - 31, by omega⟩ : Fin 48) (⟨c - 48, by omega⟩ : Fin 16)) fun p => by
        obtain ⟨a, b, rfl⟩ : ∃ (a : Fin 48) (b : Fin 16), p = ix2 a b := ⟨p 0, p 1, eq_ix2 p⟩
        rw [lands_bond]
        constructor
        · intro q
          have q1 : 31 + a.val = k := q.1
          have q2 : 48 + b.val = c := q.2
          exact congrArg₂ ix2 (Fin.ext (by show a.val = k - 31; omega)) (Fin.ext (by show b.val = c - 48; omega))
        · intro q
          have q1 : a.val = k - 31 := congrArg (fun z : S48x16.Idx => (z 0).val) q
          have q2 : b.val = c - 48 := congrArg (fun z : S48x16.Idx => (z 1).val) q
          show 31 + a.val = k ∧ 48 + b.val = c
          omega]
  · rw [if_neg h, scatter_miss _ _ _ _ _ _ fun p => by
      obtain ⟨a, b, rfl⟩ : ∃ (a : Fin 48) (b : Fin 16), p = ix2 a b := ⟨p 0, p 1, eq_ix2 p⟩
      rw [lands_bond]
      intro q
      have q1 : 31 + a.val = k := q.1
      have q2 : 48 + b.val = c := q.2
      omega]
    exact Ideal.ofBits_zero_f32

end Cert.Scatters

end
-- ==== Proof.Take.lean ====
/-
  What `jnp.take(table, idx, axis=0)` of the reference computes where every index is in range: row `idx[i]` of the table.
  The lowering of a take (wrap a negative index, gather, mask the rows that are out of range) is named once, `takeRows`
  for a table of rows and `takeFlat` for a vector; RefValue.lean says which arrays of the reference are instances.
-/
module

public import proofs.«01_k».proof.Proof.Gen.ReferenceIdeal
public import Idealize.ShloMosaic.Lib.ReduceAll
public import Idealize.ShloMosaic.Lib.ValueIdx
public import Idealize.ShloMosaic.Lib.Routing.OpsSearch
public import Idealize.ShloMosaic.Lib.Pipeline.Value

@[expose] public section

noncomputable section

namespace Cert.Take

open Idealize.ShloMosaic Idealize.ShloMosaic.ValueIdx Cert.ReferenceIdeal Cert.ReferenceIdeal.Gen

/-! ## One index word in range -/

/-- A word below `n < 2^31` is not negative, is at most `n - 1`, and reads the same signed and unsigned. -/
theorem word_facts (x : BitVec 32) (n : ℕ) (h : x.toNat < n) (hn : n < 2 ^ 31) :
    IntOp.cmpi .slt x 0#32 = 0#1 ∧ IntOp.cmpi .sge x 0#32 = 1#1
      ∧ IntOp.cmpi .sle x (BitVec.ofNat 32 (n - 1)) = 1#1 ∧ x.toInt = (x.toNat : ℤ) := by
  have hx : x.toNat < 2 ^ 31 := by omega
  have hi := StableHlo.Predicate.toInt_eq_toNat_of_lt hx
  refine ⟨?_, ?_, ?_, hi⟩
  · have : ¬ IntOp.cmpi .slt x 0#32 = 1#1 := by
      rw [StableHlo.Predicate.slt_iff_toNat hx (by decide)]; simp
    generalize IntOp.cmpi .slt x 0#32 = b at this ⊢
    revert b; decide
  · rw [StableHlo.Predicate.sge_iff_toNat hx (by decide)]; simp
  · have h2 : (BitVec.ofNat 32 (n - 1)).toNat = n - 1 := by
      rw [BitVec.toNat_ofNat]; exact Nat.mod_eq_of_lt (by omega)
    rw [StableHlo.Predicate.sle_iff_toNat hx (by omega), h2]; omega

/-! ## The gather of whole rows -/

/-- The dimension numbers of a gather of whole rows of an `n × w` table, one index per result row. -/
abbrev rowDims (N n w : ℕ) (wf : GatherDims.WF ⟨2, ![n, w]⟩ ⟨2, ![N, 1]⟩ ⟨2, ![N, w]⟩ [1] [0] [] [0] [] 1 ![1, w]) :
    GatherDims ⟨2, ![n, w]⟩ ⟨2, ![N, 1]⟩ ⟨2, ![N, w]⟩ where
  offsetDims := [1]
  collapsedSliceDims := [0]
  operandBatchingDims := []
  startIndicesBatchingDims := []
  startIndexMap := [0]
  indexVectorDim := 1
  sliceSizes := ![1, w]
  wf := wf

/-- The gather of rows at `(i, q)` is the table at row `idx[i, 0]`, where that word is in range, and column `q`. -/
theorem gather_rows {α : Type} {N n w : ℕ}
    (wf : GatherDims.WF ⟨2, ![n, w]⟩ ⟨2, ![N, 1]⟩ ⟨2, ![N, w]⟩ [1] [0] [] [0] [] 1 ![1, w])
    (T : (⟨2, ![n, w]⟩ : Shape).Idx → α) (idx : IVec ⟨2, ![N, 1]⟩ 32) (i : Fin N) (q : Fin w)
    (hn : n < 2 ^ 31) (h : (idx (ix2 i (0 : Fin 1))).toNat < n) :
    Host.gather (rowDims N n w wf) T idx (ix2 i q) = T (ix2 ⟨(idx (ix2 i (0 : Fin 1))).toNat, h⟩ q) := by
  unfold Host.gather
  refine congrArg T (funext fun a => Fin.ext ?_)
  match a with
  | ⟨0, _⟩ =>
    show (rowDims N n w wf).start (ix2 i q) idx 0 + (rowDims N n w wf).batchCoord (ix2 i q) 0
        + (rowDims N n w wf).offCoord (ix2 i q) 0 = (idx (ix2 i (0 : Fin 1))).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n w wf).startIndexMap from List.mem_singleton.mpr rfl)]
    have hsi : (rowDims N n w wf).siIdx (ix2 i q) ⟨List.idxOf (0 : Fin 2) (rowDims N n w wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi, (word_facts _ n h hn).2.2.2]
    show min ((idx (ix2 i (0 : Fin 1))).toNat : ℤ).toNat (n - 1) = _
    rw [Int.toNat_natCast]
    omega
  | ⟨1, _⟩ =>
    show (rowDims N n w wf).start (ix2 i q) idx 1 + (rowDims N n w wf).batchCoord (ix2 i q) 1
        + (rowDims N n w wf).offCoord (ix2 i q) 1 = q.val
    rw [GatherDims.batchCoord_eq_zero _ _ _ List.not_mem_nil]
    unfold GatherDims.start
    rw [dif_neg (show (1 : Fin 2) ∉ (rowDims N n w wf).startIndexMap from by simp)]
    simp only [Nat.zero_add, Nat.add_zero]
    rfl

/-! ## The whole take -/

section
variable (sz hi : BitVec 32) (ix : IVec S500000 32)

/-- The wrapped indices as a column: a negative index has the table's length `sz` added. -/
def takeStart : IVec S500000x1 32 :=
  broadcastInDim S500000x1 ![0] bcast_S500000_S500000x1_0
    (select (cmpi .slt ix (broadcastInDim S500000 ![] bcast_S_S500000 (constantI S_ 32 0#32)))
      (addi ix (broadcastInDim S500000 ![] bcast_S_S500000 (constantI S_ 32 sz))) ix)

/-- Whether each wrapped index lies between zero and the last row `hi`. -/
def takeOk : IVec S500000 1 :=
  Host.reduce IntOp.andi
    (andi (cmpi .sge (takeStart sz ix) (broadcastInDim S500000x1 ![] bcast_S_S500000x1 (constantI S_ 32 0#32)))
      (cmpi .sle (takeStart sz ix) (broadcastInDim S500000x1 ![0, 1] bcast_S1x1_S500000x1_0_1
        (broadcastInDim S1x1 ![1] bcast_S1_S1x1_1 (constantI S1 32 hi)))))
    (constantI S_ 1 1#1) reducesTo_S500000x1_S500000_d1 h_S_

/-- In-range indices are used as they are. -/
theorem takeStart_apply (n : ℕ) (hn : n < 2 ^ 31) (h : ∀ i, (ix i).toNat < n) (i : Fin 500000) (z : Fin 1) :
    takeStart sz ix (ix2 i z) = ix (ix1 i) := by
  unfold takeStart
  rw [broadcastInDim_apply _ _ _ _ (ix1 i) (fun a => match a with
    | ⟨0, _⟩ => by show i.val = if (500000 : ℕ) = 1 then 0 else i.val; rw [if_neg (by decide)])]
  show Scalar.select (IntOp.cmpi .slt (ix (ix1 i)) 0#32) _ (ix (ix1 i)) = ix (ix1 i)
  rw [(word_facts _ n (h _) hn).1]
  rfl

/-- In-range indices pass the range test. -/
theorem takeOk_apply (n : ℕ) (hn : n < 2 ^ 31) (hhi : hi = BitVec.ofNat 32 (n - 1)) (h : ∀ i, (ix i).toNat < n)
    (j : S500000.Idx) : takeOk sz hi ix j = 1#1 := by
  unfold takeOk
  refine Host.reduce_andi_one _ _ _ _ j rfl fun i => ?_
  obtain ⟨a, b, rfl⟩ : ∃ (a : Fin 500000) (b : Fin 1), i = ix2 a b := ⟨i 0, i 1, eq_ix2 i⟩
  show IntOp.andi (IntOp.cmpi .sge (takeStart sz ix (ix2 a b)) 0#32) (IntOp.cmpi .sle (takeStart sz ix (ix2 a b)) hi) = 1#1
  rw [takeStart_apply sz ix n hn h, (word_facts _ n (h _) hn).2.1, hhi, (word_facts _ n (h _) hn).2.2.1]
  rfl

end

/-- A take of whole rows, as the reference lowers it: gathered rows where the index is in range, a filler elsewhere. -/
def takeRows {F : FTy → Type} [FloatOps F] {n w : ℕ} (sz hi : BitVec 32)
    (wf : GatherDims.WF ⟨2, ![n, w]⟩ ⟨2, ![500000, 1]⟩ ⟨2, ![500000, w]⟩ [1] [0] [] [0] [] 1 ![1, w])
    (hm : S500000.BroadcastsInDim ⟨2, ![500000, w]⟩ ![0]) (hc : S_.BroadcastsInDim ⟨2, ![500000, w]⟩ ![])
    (T : FVec F ⟨2, ![n, w]⟩ .f32) (ix : IVec S500000 32) : FVec F ⟨2, ![500000, w]⟩ .f32 :=
  select (broadcastInDim ⟨2, ![500000, w]⟩ ![0] hm (takeOk sz hi ix))
    (Host.gather (rowDims 500000 n w wf) T (takeStart sz ix))
    (broadcastInDim ⟨2, ![500000, w]⟩ ![] hc (constant S_ .f32 0x7FC00000#32))

/-- THE TAKE OF ROWS: with every index in range, entry `(i, q)` is the table's row `ix[i]` at column `q`. -/
theorem takeRows_apply {F : FTy → Type} [FloatOps F] {n w : ℕ} (sz hi : BitVec 32)
    (wf : GatherDims.WF ⟨2, ![n, w]⟩ ⟨2, ![500000, 1]⟩ ⟨2, ![500000, w]⟩ [1] [0] [] [0] [] 1 ![1, w])
    (hm : S500000.BroadcastsInDim ⟨2, ![500000, w]⟩ ![0]) (hc : S_.BroadcastsInDim ⟨2, ![500000, w]⟩ ![])
    (T : FVec F ⟨2, ![n, w]⟩ .f32) (ix : IVec S500000 32) (hn : n < 2 ^ 31) (hhi : hi = BitVec.ofNat 32 (n - 1))
    (h : ∀ i, (ix i).toNat < n) (i : Fin 500000) (q : Fin w) :
    takeRows sz hi wf hm hc T ix (ix2 i q) = T (ix2 ⟨(ix (ix1 i)).toNat, h _⟩ q) := by
  unfold takeRows
  rw [select_apply]
  have e : broadcastInDim ⟨2, ![500000, w]⟩ ![0] hm (takeOk sz hi ix) (ix2 i q) = 1#1 := by
    rw [broadcastInDim_apply _ _ _ _ (ix1 i) (fun a => match a with
      | ⟨0, _⟩ => by show i.val = if (500000 : ℕ) = 1 then 0 else i.val; rw [if_neg (by decide)])]
    exact takeOk_apply sz hi ix n hn hhi h _
  have s : takeStart sz ix (ix2 i (0 : Fin 1)) = ix (ix1 i) := takeStart_apply sz ix n hn h i 0
  rw [e, select_one, gather_rows wf T _ i q hn (by rw [s]; exact h _)]
  refine congrArg T (funext fun a => ?_)
  match a with
  | ⟨0, _⟩ => exact Fin.ext (congrArg BitVec.toNat s)
  | ⟨1, _⟩ => rfl

/-- A take from a vector of words, as the reference lowers it. -/
def takeFlat (sz hi fill : BitVec 32) (T : IVec S17 32) (ix : IVec S500000 32) : IVec S500000 32 :=
  select (takeOk sz hi ix) (Host.gather gather_S17_S500000x1_S500000_n_0_n_n_0_1_1 T (takeStart sz ix))
    (broadcastInDim S500000 ![] bcast_S_S500000 (constantI S_ 32 fill))

/-- THE TAKE FROM A VECTOR: with every index in range, entry `i` is the vector's entry `ix[i]`. -/
theorem takeFlat_apply (fill : BitVec 32) (T : IVec S17 32) (ix : IVec S500000 32)
    (h : ∀ i, (ix i).toNat < 17) (i : Fin 500000) :
    takeFlat 17#32 16#32 fill T ix (ix1 i) = T (ix1 ⟨(ix (ix1 i)).toNat, h _⟩) := by
  unfold takeFlat
  rw [select_apply, takeOk_apply 17#32 16#32 ix 17 (by decide) rfl h, select_one]
  refine Routing.take_ap gather_S17_S500000x1_S500000_n_0_n_n_0_1_1 rfl rfl rfl rfl T (takeStart 17#32 ix) i (h _)
    (lt_trans (h _) (by decide)) ?_
  rw [takeStart_apply 17#32 ix 17 (by decide) h, BitVec.ofNat_toNat, BitVec.setWidth_eq]

end Cert.Take

end
-- ==== Proof.Words.lean ====
/-
  The integer side of the kernel and of the reference, one word at a time: clipping, the rows that the reference looks up
  and the values the kernel's lanes compare with. No arrays here.
-/
module

public import Idealize.ShloMosaic.Lib.ValueIdxCore
public import Idealize.ShloMosaic.PureOps.Ideal.Laws
public import Mathlib.Data.EReal.Basic

@[expose] public section

noncomputable section

namespace Cert.Words

open Idealize.ShloMosaic

/-- A word clipped between `lo` and `hi`, both signed. -/
def clip (lo hi x : BitVec 32) : BitVec 32 := IntOp.minsi hi (IntOp.maxsi lo x)

/-- The clipped word, read signed. -/
theorem clip_toInt (lo hi x : BitVec 32) : (clip lo hi x).toInt = min hi.toInt (max lo.toInt x.toInt) := by
  unfold clip IntOp.minsi IntOp.maxsi
  simp only [BitVec.slt_eq_decide, decide_eq_true_eq]
  split <;> split <;> omega

/-- A word whose signed reading is not negative reads the same unsigned. -/
theorem toNat_of_nonneg (x : BitVec 32) (h : 0 ≤ x.toInt) : (x.toNat : ℤ) = x.toInt := by
  rw [BitVec.toInt_eq_toNat_cond] at h ⊢
  have := x.isLt
  split_ifs at * <;> omega

/-- A word clipped between `0` and `n - 1`: its unsigned reading. -/
theorem clip_toNat (n : ℕ) (hn : 0 < n) (hn' : n < 2 ^ 31) (x : BitVec 32) :
    ((clip 0#32 (BitVec.ofNat 32 (n - 1)) x).toNat : ℤ) = (clip 0#32 (BitVec.ofNat 32 (n - 1)) x).toInt
      ∧ (clip 0#32 (BitVec.ofNat 32 (n - 1)) x).toNat < n := by
  have h1 : (BitVec.ofNat 32 (n - 1)).toInt = ((n - 1 : ℕ) : ℤ) := by
    rw [BitVec.toInt_eq_toNat_cond, BitVec.toNat_ofNat, Nat.mod_eq_of_lt (by omega), if_pos (by omega)]
  have h2 := clip_toInt 0#32 (BitVec.ofNat 32 (n - 1)) x
  rw [h1, show (0#32).toInt = 0 from rfl] at h2
  have h3 := toNat_of_nonneg (clip 0#32 (BitVec.ofNat 32 (n - 1)) x) (by omega)
  exact ⟨h3, by omega⟩

/-- Equality of two words, as an `i1`. -/
theorem cmpi_eq_self (x : BitVec 32) : IntOp.cmpi .eq x x = 1#1 := by simp [IntOp.cmpi]

theorem cmpi_eq_ne (x y : BitVec 32) (h : x ≠ y) : IntOp.cmpi .eq x y = 0#1 := by
  unfold IntOp.cmpi
  rw [show (x == y) = false from beq_false_of_ne h]
  rfl

/-! ## The elements' row -/

/-- The reference's table of elements at an atomic number `z`: 5, 6, 7, 8, 14, 15, 16 are rows 0 … 6, all else row 0. -/
def lut (z : BitVec 32) : BitVec 32 :=
  Scalar.select (IntOp.cmpi .eq z 16#32) 6#32 (Scalar.select (IntOp.cmpi .eq z 15#32) 5#32
    (Scalar.select (IntOp.cmpi .eq z 14#32) 4#32 (Scalar.select (IntOp.cmpi .eq z 8#32) 3#32
      (Scalar.select (IntOp.cmpi .eq z 7#32) 2#32 (Scalar.select (IntOp.cmpi .eq z 6#32) 1#32
        (Scalar.select (IntOp.cmpi .eq z 5#32) 0#32 0#32))))))

/-- An atomic number outside the table reads as zero. -/
def safe (x : BitVec 32) : BitVec 32 :=
  Scalar.select (IntOp.andi (IntOp.cmpi .sge x 0#32) (IntOp.cmpi .sle x 16#32)) x 0#32

/-- The row of the element table that the reference takes at atomic number `x`. -/
def elementRow (x : BitVec 32) : BitVec 32 := clip 0#32 6#32 (lut (safe x))

/-- An atomic number of the table is kept. -/
theorem safe_of_mem (x : BitVec 32) (h : 0 ≤ x.toInt ∧ x.toInt ≤ 16) : safe x = x := by
  have h1 : IntOp.cmpi .sge x 0#32 = 1#1 := by
    show BitVec.ofBool ((0#32).sle x) = 1#1
    rw [BitVec.sle_eq_decide, decide_eq_true (show (0#32).toInt ≤ x.toInt from h.1)]; rfl
  have h2 : IntOp.cmpi .sle x 16#32 = 1#1 := by
    show BitVec.ofBool (x.sle 16#32) = 1#1
    rw [BitVec.sle_eq_decide, decide_eq_true (show x.toInt ≤ (16#32).toInt from h.2)]; rfl
  unfold safe
  rw [h1, h2]
  exact if_pos rfl

/-- An atomic number off the table becomes zero. -/
theorem safe_of_not_mem (x : BitVec 32) (h : ¬ (0 ≤ x.toInt ∧ x.toInt ≤ 16)) : safe x = 0#32 := by
  have hz : IntOp.andi (IntOp.cmpi .sge x 0#32) (IntOp.cmpi .sle x 16#32) = 0#1 := by
    show BitVec.ofBool ((0#32).sle x) &&& BitVec.ofBool (x.sle 16#32) = 0#1
    rw [BitVec.sle_eq_decide, BitVec.sle_eq_decide]
    by_cases h1 : (0#32).toInt ≤ x.toInt
    · rw [decide_eq_true h1, decide_eq_false (show ¬ x.toInt ≤ (16#32).toInt from fun h2 => h ⟨h1, h2⟩)]; rfl
    · rw [decide_eq_false h1]
      cases decide (x.toInt ≤ (16#32).toInt) <;> rfl
  unfold safe
  rw [hz]
  exact if_neg (by decide)

/-- A safe atomic number indexes the table of 17. -/
theorem safe_lt (x : BitVec 32) : (safe x).toNat < 17 := by
  by_cases h : 0 ≤ x.toInt ∧ x.toInt ≤ 16
  · rw [safe_of_mem x h]
    have := toNat_of_nonneg x h.1
    omega
  · rw [safe_of_not_mem x h]; decide

/-- The atomic number of row `j + 1`. -/
def elementNo : ℕ → ℤ
  | 0 => 6 | 1 => 7 | 2 => 8 | 3 => 14 | 4 => 15 | 5 => 16 | _ => 0

/-- THE ELEMENT LANES: for `j < 6` the number `x` is the one of lane `j` exactly when the reference takes row `j + 1`;
    the row is at most 6. -/
theorem elementRow_spec (x : BitVec 32) :
    (elementRow x).toNat < 7 ∧ ∀ j < 6, (x.toInt = elementNo j ↔ (elementRow x).toNat = j + 1) := by
  have small : ∀ k : Fin 17, (elementRow (BitVec.ofNat 32 k.val)).toNat < 7 ∧ ∀ j < 6,
      ((BitVec.ofNat 32 k.val).toInt = elementNo j ↔ (elementRow (BitVec.ofNat 32 k.val)).toNat = j + 1) := by
    decide +kernel
  by_cases h : 0 ≤ x.toInt ∧ x.toInt ≤ 16
  · have h3 := toNat_of_nonneg x h.1
    have := small ⟨x.toNat, by omega⟩
    rwa [show BitVec.ofNat 32 x.toNat = x by simp] at this
  · have hs := safe_of_not_mem x h
    have h0 : elementRow x = 0#32 := by unfold elementRow; rw [hs]; decide +kernel
    rw [h0]
    refine ⟨by decide, fun j hj => ⟨fun he => absurd ?_ h, fun he => absurd he (by simp)⟩⟩
    rw [he]
    exact (by decide : ∀ j < 6, 0 ≤ elementNo j ∧ elementNo j ≤ 16) j hj

/-! ## The ring sizes' row -/

/-- The row of the ring-size table that the reference takes at `x`. -/
def ringRow (x : BitVec 32) : BitVec 32 := clip 0#32 6#32
  (Scalar.select (IntOp.cmpi .eq x 8#32) 6#32 (Scalar.select (IntOp.cmpi .eq x 7#32) 5#32
    (Scalar.select (IntOp.cmpi .eq x 6#32) 4#32 (Scalar.select (IntOp.cmpi .eq x 5#32) 3#32
      (Scalar.select (IntOp.cmpi .eq x 4#32) 2#32 (Scalar.select (IntOp.cmpi .eq x 3#32) 1#32
        (Scalar.select (IntOp.cmpi .eq x 0#32) 0#32 6#32)))))))

/-- The ring size of row `j`. -/
def ringNo : ℕ → ℤ
  | 0 => 0 | 1 => 3 | 2 => 4 | 3 => 5 | 4 => 6 | 5 => 7 | _ => 0

/-- THE RING-SIZE LANES: for `j < 6` the number `x` is the one of lane `j` exactly when the reference takes row `j`;
    the row is at most 6. -/
theorem ringRow_spec (x : BitVec 32) :
    (ringRow x).toNat < 7 ∧ ∀ j < 6, (x.toInt = ringNo j ↔ (ringRow x).toNat = j) := by
  have small : ∀ k : Fin 9, (ringRow (BitVec.ofNat 32 k.val)).toNat < 7 ∧ ∀ j < 6,
      ((BitVec.ofNat 32 k.val).toInt = ringNo j ↔ (ringRow (BitVec.ofNat 32 k.val)).toNat = j) := by
    decide +kernel
  by_cases h : 0 ≤ x.toInt ∧ x.toInt ≤ 8
  · have h3 := toNat_of_nonneg x h.1
    have := small ⟨x.toNat, by omega⟩
    rwa [show BitVec.ofNat 32 x.toNat = x by simp] at this
  · have hne : ∀ k : Fin 9, x ≠ BitVec.ofNat 32 k.val := by
      intro k hk
      apply h
      rw [hk]
      exact (by decide : ∀ k : Fin 9, 0 ≤ (BitVec.ofNat 32 k.val).toInt ∧ (BitVec.ofNat 32 k.val).toInt ≤ 8) k
    have h0 : ringRow x = 6#32 := by
      unfold ringRow
      rw [cmpi_eq_ne x 8#32 (hne 8), cmpi_eq_ne x 7#32 (hne 7), cmpi_eq_ne x 6#32 (hne 6), cmpi_eq_ne x 5#32 (hne 5),
        cmpi_eq_ne x 4#32 (hne 4), cmpi_eq_ne x 3#32 (hne 3), cmpi_eq_ne x 0#32 (hne 0)]
      decide +kernel
    rw [h0]
    refine ⟨by decide, fun j hj => ⟨fun he => absurd ?_ h, fun he => absurd he (by simp; omega)⟩⟩
    rw [he]
    exact (by decide : ∀ j < 6, 0 ≤ ringNo j ∧ ringNo j ≤ 8) j hj

/-! ## The ring flag's row -/

/-- THE RING LANES: the reference clips `x + 1` to `0 … 1`, the kernel `x` to `-1 … 0`; they agree, shifted by one, as long
    as `x + 1` does not wrap around. -/
theorem ring_spec (x : BitVec 32) (h : x.toInt < 2147483647) :
    ((clip 0#32 1#32 (IntOp.addi x 1#32)).toNat : ℤ) = (clip 4294967295#32 0#32 x).toInt + 1 := by
  have h1 : (IntOp.addi x 1#32).toInt = x.toInt + 1 := by
    unfold IntOp.addi
    have := BitVec.le_toInt x
    rw [BitVec.toInt_add, show (1#32).toInt = 1 from rfl]
    rw [Int.bmod_eq_of_le] <;> omega
  have h2 := (clip_toNat 2 (by decide) (by decide) (IntOp.addi x 1#32)).1
  rw [show BitVec.ofNat 32 (2 - 1) = 1#32 from rfl] at h2
  rw [h2, clip_toInt, clip_toInt, h1, show (1#32).toInt = 1 from rfl, show (0#32).toInt = 0 from rfl,
    show (4294967295#32).toInt = -1 from rfl]
  omega

/-! ## The number a bit pattern stands for -/

/-- The integer that a 32-bit float pattern stands for, where it stands for one below `2^24`. -/
def intOf (b : BitVec 32) : ℤ :=
  if b = 0#32 then 0
  else (if b.extractLsb' 31 1 == 1#1 then -1 else 1)
    * (((2 ^ 23 + (b.extractLsb' 0 23).toNat) / 2 ^ (150 - (b.extractLsb' 23 8).toNat) : ℕ) : ℤ)

/-- When a pattern stands for such an integer: zero, or an exponent of at most 150 whose fraction divides out. -/
def IsInt (b : BitVec 32) : Prop :=
  b = 0#32 ∨ ((b.extractLsb' 23 8).toNat ≠ 0 ∧ (b.extractLsb' 23 8).toNat ≤ 150
    ∧ 2 ^ (150 - (b.extractLsb' 23 8).toNat) ∣ 2 ^ 23 + (b.extractLsb' 0 23).toNat)

instance (b : BitVec 32) : Decidable (IsInt b) := by unfold IsInt; infer_instance

/-- Such a pattern denotes its integer. -/
theorem ofBits_int (b : BitVec 32) (h : IsInt b) : Ideal.ofBits .f32 b = (((intOf b : ℤ) : ℝ) : EReal) := by
  rcases h with rfl | ⟨h0, h150, hd⟩
  · rw [Ideal.ofBits_zero_f32]; simp [intOf]
  · have hb : b ≠ 0#32 := by rintro rfl; exact h0 rfl
    obtain ⟨q, hq⟩ := hd
    unfold intOf Ideal.ofBits Ideal.ieee
    simp only [if_neg hb]
    rw [if_neg (show ¬ (b.extractLsb' 23 8).toNat = 2 ^ 8 - 1 by omega), if_neg h0, hq,
      Nat.mul_div_cancel_left _ (by positivity)]
    congr 1
    have e : ((2 : ℝ) ^ (((b.extractLsb' 23 8).toNat : ℤ) - 127 - 23))
        = ((2 : ℝ) ^ (150 - (b.extractLsb' 23 8).toNat))⁻¹ := by
      rw [← zpow_natCast, ← zpow_neg]
      congr 1
      push_cast [h150]
      ring
    push_cast
    rw [e]
    have h2 : ((2 : ℝ) ^ (150 - (b.extractLsb' 23 8).toNat)) ≠ 0 := by positivity
    split <;> push_cast <;> field_simp

end Cert.Words

end
-- ==== Proof.RefIndex.lean ====
/-
  The arrays of indices the reference takes rows by, and each of its takes read at an entry: the table's row at the clamped
  (or looked-up) word of the atom's column.
-/
module

public import proofs.«01_k».proof.Proof.Take
public import proofs.«01_k».proof.Proof.Words
public import proofs.«01_k».proof.Proof.Reads
public import proofs.«01_k».proof.Proof.Gen.ReferenceIdeal.Read

@[expose] public section

noncomputable section

namespace Cert.RefIndex

open Idealize.ShloMosaic Idealize.ShloMosaic.ValueIdx Cert.ReferenceIdeal Cert.ReferenceIdeal.Gen Cert.ReferenceIdeal.Read
open Cert.Take Cert.Words Cert.Reads

/-- The integer word of feature `c` of atom `i`. -/
def word (x : FVec Ideal S500000x79 .f32) (i c : ℕ) : BitVec 32 := FloatOps.fptosi (F := Ideal) (φ := .f32) 32 (at2 x i c)

/-- Feature `c` of every atom, as integer words. -/
def colWord (c : ℕ) (h : S500000x79.Slices ![0, c] S500000x1) (x : FVec Ideal S500000x79 .f32) : IVec S500000 32 :=
  fptosi 32 (shapeCast S500000 (extractStridedSlice S500000x1 ![0, c] x h) shapeCasts_S500000x1_S500000)

/-- Its entry `i`. -/
theorem colWord_apply (c : ℕ) (hc : c < 79) (h : S500000x79.Slices ![0, c] S500000x1) (x : FVec Ideal S500000x79 .f32)
    (i : Fin 500000) : colWord c h x (ix1 i) = word x i.val c := by
  have e : shapeCast S500000 (extractStridedSlice S500000x1 ![0, c] x h) shapeCasts_S500000x1_S500000 (ix1 i)
      = extractStridedSlice S500000x1 ![0, c] x h (ix2 i (0 : Fin 1)) :=
    shapeCast_apply _ _ (ix1 i) (ix2 i (0 : Fin 1)) (by
      rw [Shape.rowMajor_val_two, Shape.rowMajor_val_one]
      show i.val * 1 + 0 = i.val
      omega)
  unfold colWord word
  show FloatOps.fptosi 32 _ = _
  rw [e]
  refine congrArg (FloatOps.fptosi (F := Ideal) (φ := .f32) 32) ?_
  rw [at2_eq x i.isLt hc]
  unfold extractStridedSlice
  refine congrArg x (funext fun d => Fin.ext ?_)
  match d with
  | ⟨0, _⟩ => show 0 + i.val = i.val; omega
  | ⟨1, _⟩ => rfl

/-- A vector of words clipped between two constants. -/
def clipArr (lo hi : BitVec 32) (v : IVec S500000 32) : IVec S500000 32 :=
  minsi (broadcastInDim S500000 ![] bcast_S_S500000 (constantI S_ 32 hi))
    (maxsi (broadcastInDim S500000 ![] bcast_S_S500000 (constantI S_ 32 lo)) v)

/-- The row a clamped index takes from a table of `n` rows. -/
def clampRow (n : ℕ) (x : BitVec 32) : ℕ := (clip 0#32 (BitVec.ofNat 32 (n - 1)) x).toNat

theorem clampRow_lt (n : ℕ) (hn : 0 < n) (hn' : n < 2 ^ 31) (x : BitVec 32) : clampRow n x < n := (clip_toNat n hn hn' x).2

/-- A TAKE AT A CLAMPED INDEX: the table's row at the clamped word. -/
theorem take_clip {n w : ℕ} (sz hi : BitVec 32)
    (wf : GatherDims.WF ⟨2, ![n, w]⟩ ⟨2, ![500000, 1]⟩ ⟨2, ![500000, w]⟩ [1] [0] [] [0] [] 1 ![1, w])
    (hm : S500000.BroadcastsInDim ⟨2, ![500000, w]⟩ ![0]) (hc : S_.BroadcastsInDim ⟨2, ![500000, w]⟩ ![])
    (T : FVec Ideal ⟨2, ![n, w]⟩ .f32) (v : IVec S500000 32) (hn0 : 0 < n) (hn : n < 2 ^ 31)
    (hhi : hi = BitVec.ofNat 32 (n - 1)) {i q : ℕ} (hi' : i < 500000) (hq : q < w) :
    at2 (takeRows sz hi wf hm hc T (clipArr 0#32 hi v)) i q = at2 T (clampRow n (v (ix1 ⟨i, hi'⟩))) q := by
  subst hhi
  have hlt : ∀ j, (clipArr 0#32 (BitVec.ofNat 32 (n - 1)) v j).toNat < n := fun j => (clip_toNat n hn0 hn (v j)).2
  rw [at2_eq _ hi' hq, takeRows_apply sz _ wf hm hc T _ hn rfl hlt, at2_eq T (clampRow_lt n hn0 hn _) hq]
  rfl

/-- A take at one clamped feature: the table's row at the clamped word of that feature. -/
theorem take_col {n w : ℕ} {sz hi : BitVec 32}
    {wf : GatherDims.WF ⟨2, ![n, w]⟩ ⟨2, ![500000, 1]⟩ ⟨2, ![500000, w]⟩ [1] [0] [] [0] [] 1 ![1, w]}
    {hm : S500000.BroadcastsInDim ⟨2, ![500000, w]⟩ ![0]} {hc : S_.BroadcastsInDim ⟨2, ![500000, w]⟩ ![]}
    {T : FVec Ideal ⟨2, ![n, w]⟩ .f32} {x0 : FVec Ideal S500000x79 .f32} {c : ℕ} {h : S500000x79.Slices ![0, c] S500000x1}
    {V : FVec Ideal ⟨2, ![500000, w]⟩ .f32} (hV : V = takeRows sz hi wf hm hc T (clipArr 0#32 hi (colWord c h x0)))
    (hhi : hi = BitVec.ofNat 32 (n - 1)) (hn0 : 0 < n) (hn : n < 2 ^ 31) (hc' : c < 79)
    {i q : ℕ} (hi' : i < 500000) (hq : q < w) : at2 V i q = at2 T (clampRow n (word x0 i c)) q := by
  rw [hV, take_clip sz hi wf hm hc T _ hn0 hn hhi hi' hq, colWord_apply c hc']

/-! ## The reference's takes, entry by entry -/

section
variable (x0 : FVec Ideal S500000x79 .f32) {i q : ℕ} (hi : i < 500000)
include hi

/-- The degree's row. -/
theorem degree_at (T : FVec Ideal S7x4 .f32) (hq : q < 4) :
    at2 (val_main_v39 (F := Ideal) x0 T : FVec Ideal ⟨2, ![500000, 4]⟩ .f32) i q = at2 T (clampRow 7 (word x0 i 1)) q :=
  take_col (n := 7) (sz := 7#32) (hi := 6#32) (wf := gather_S7x4_S500000x1_S500000x4_1_0_n_n_0_1_14_wf)
    (hm := bcast_S500000_S500000x4_0) (hc := bcast_S_S500000x4) (h := slices_S500000x79_S500000x1_0_1) rfl rfl
    (by decide) (by decide) (by decide) hi hq

/-- The charge's row. -/
theorem charge_at (T : FVec Ideal S8x4 .f32) (hq : q < 4) :
    at2 (val_main_v51 (F := Ideal) x0 T : FVec Ideal ⟨2, ![500000, 4]⟩ .f32) i q = at2 T (clampRow 8 (word x0 i 2)) q :=
  take_col (n := 8) (sz := 8#32) (hi := 7#32) (wf := gather_S8x4_S500000x1_S500000x4_1_0_n_n_0_1_14_wf)
    (hm := bcast_S500000_S500000x4_0) (hc := bcast_S_S500000x4) (h := slices_S500000x79_S500000x1_0_2) rfl rfl
    (by decide) (by decide) (by decide) hi hq

/-- The aromatic flag's row. -/
theorem aromatic_at (T : FVec Ideal S2x4 .f32) (hq : q < 4) :
    at2 (val_main_v56 (F := Ideal) x0 T : FVec Ideal ⟨2, ![500000, 4]⟩ .f32) i q = at2 T (clampRow 2 (word x0 i 4)) q :=
  take_col (n := 2) (sz := 2#32) (hi := 1#32) (wf := gather_S2x4_S500000x1_S500000x4_1_0_n_n_0_1_14_wf)
    (hm := bcast_S500000_S500000x4_0) (hc := bcast_S_S500000x4) (h := slices_S500000x79_S500000x1_0_4) rfl rfl
    (by decide) (by decide) (by decide) hi hq

/-- The hybridisation's row. -/
theorem hybrid_at (T : FVec Ideal S6x4 .f32) (hq : q < 4) :
    at2 (val_main_v61 (F := Ideal) x0 T : FVec Ideal ⟨2, ![500000, 4]⟩ .f32) i q = at2 T (clampRow 6 (word x0 i 3)) q :=
  take_col (n := 6) (sz := 6#32) (hi := 5#32) (wf := gather_S6x4_S500000x1_S500000x4_1_0_n_n_0_1_14_wf)
    (hm := bcast_S500000_S500000x4_0) (hc := bcast_S_S500000x4) (h := slices_S500000x79_S500000x1_0_3) rfl rfl
    (by decide) (by decide) (by decide) hi hq

/-- The hydrogen count's row. -/
theorem hydrogen_at (T : FVec Ideal S5x4 .f32) (hq : q < 4) :
    at2 (val_main_v66 (F := Ideal) x0 T : FVec Ideal ⟨2, ![500000, 4]⟩ .f32) i q = at2 T (clampRow 5 (word x0 i 6)) q :=
  take_col (n := 5) (sz := 5#32) (hi := 4#32) (wf := gather_S5x4_S500000x1_S500000x4_1_0_n_n_0_1_14_wf)
    (hm := bcast_S500000_S500000x4_0) (hc := bcast_S_S500000x4) (h := slices_S500000x79_S500000x1_0_6) rfl rfl
    (by decide) (by decide) (by decide) hi hq

/-- The donor flag's row. -/
theorem donor_at (T : FVec Ideal S2x2 .f32) (hq : q < 2) :
    at2 (val_main_v204 (F := Ideal) x0 T : FVec Ideal ⟨2, ![500000, 2]⟩ .f32) i q = at2 T (clampRow 2 (word x0 i 25)) q :=
  take_col (n := 2) (sz := 2#32) (hi := 1#32) (wf := gather_S2x2_S500000x1_S500000x2_1_0_n_n_0_1_12_wf)
    (hm := bcast_S500000_S500000x2_0) (hc := bcast_S_S500000x2) (h := slices_S500000x79_S500000x1_0_25) rfl rfl
    (by decide) (by decide) (by decide) hi hq

/-- The acceptor flag's row. -/
theorem acceptor_at (T : FVec Ideal S2x2 .f32) (hq : q < 2) :
    at2 (val_main_v209 (F := Ideal) x0 T : FVec Ideal ⟨2, ![500000, 2]⟩ .f32) i q = at2 T (clampRow 2 (word x0 i 26)) q :=
  take_col (n := 2) (sz := 2#32) (hi := 1#32) (wf := gather_S2x2_S500000x1_S500000x2_1_0_n_n_0_1_12_wf)
    (hm := bcast_S500000_S500000x2_0) (hc := bcast_S_S500000x2) (h := slices_S500000x79_S500000x1_0_26) rfl rfl
    (by decide) (by decide) (by decide) hi hq

/-- The number of aromatic rings' row. -/
theorem aroma_at (T : FVec Ideal S5x4 .f32) (hq : q < 4) :
    at2 (val_main_v241 (F := Ideal) x0 T : FVec Ideal ⟨2, ![500000, 4]⟩ .f32) i q = at2 T (clampRow 5 (word x0 i 28)) q :=
  take_col (n := 5) (sz := 5#32) (hi := 4#32) (wf := gather_S5x4_S500000x1_S500000x4_1_0_n_n_0_1_14_wf)
    (hm := bcast_S500000_S500000x4_0) (hc := bcast_S_S500000x4) (h := slices_S500000x79_S500000x1_0_28) rfl rfl
    (by decide) (by decide) (by decide) hi hq

/-- The fused rings' row. -/
theorem fused_at (T : FVec Ideal S8x4 .f32) (hq : q < 4) :
    at2 (val_main_v246 (F := Ideal) x0 T : FVec Ideal ⟨2, ![500000, 4]⟩ .f32) i q = at2 T (clampRow 8 (word x0 i 29)) q :=
  take_col (n := 8) (sz := 8#32) (hi := 7#32) (wf := gather_S8x4_S500000x1_S500000x4_1_0_n_n_0_1_14_wf)
    (hm := bcast_S500000_S500000x4_0) (hc := bcast_S_S500000x4) (h := slices_S500000x79_S500000x1_0_29) rfl rfl
    (by decide) (by decide) (by decide) hi hq

/-- The heteroatom's row. -/
theorem hetero_at (T : FVec Ideal S27x4 .f32) (hq : q < 4) :
    at2 (val_main_v251 (F := Ideal) x0 T : FVec Ideal ⟨2, ![500000, 4]⟩ .f32) i q = at2 T (clampRow 27 (word x0 i 30)) q :=
  take_col (n := 27) (sz := 27#32) (hi := 26#32) (wf := gather_S27x4_S500000x1_S500000x4_1_0_n_n_0_1_14_wf)
    (hm := bcast_S500000_S500000x4_0) (hc := bcast_S_S500000x4) (h := slices_S500000x79_S500000x1_0_30) rfl rfl
    (by decide) (by decide) (by decide) hi hq

/-- The ring flag's row: the clamp of the word plus one. -/
theorem ring_at (T : FVec Ideal S2x4 .f32) (hq : q < 4) :
    at2 (val_main_v46 (F := Ideal) x0 T : FVec Ideal ⟨2, ![500000, 4]⟩ .f32) i q
      = at2 T (clampRow 2 (IntOp.addi (word x0 i 5) 1#32)) q := by
  rw [show (val_main_v46 (F := Ideal) x0 T : FVec Ideal ⟨2, ![500000, 4]⟩ .f32)
      = takeRows 2#32 1#32 gather_S2x4_S500000x1_S500000x4_1_0_n_n_0_1_14_wf bcast_S500000_S500000x4_0 bcast_S_S500000x4 T
        (clipArr 0#32 1#32 (val_main_v44 (F := Ideal) x0)) from rfl,
    take_clip (n := 2) _ _ _ _ _ _ _ (by decide) (by decide) rfl hi hq,
    ← colWord_apply 5 (by decide) slices_S500000x79_S500000x1_0_5 x0 ⟨i, hi⟩]
  rfl

/-- The ring size's row: the reference's look-up of the word. -/
theorem ringsize_at (T : FVec Ideal S7x4 .f32) (hq : q < 4) :
    at2 (val_main_v236 (F := Ideal) x0 T : FVec Ideal ⟨2, ![500000, 4]⟩ .f32) i q = at2 T (ringRow (word x0 i 27)).toNat q := by
  rw [show (val_main_v236 (F := Ideal) x0 T : FVec Ideal ⟨2, ![500000, 4]⟩ .f32)
      = takeRows 7#32 6#32 gather_S7x4_S500000x1_S500000x4_1_0_n_n_0_1_14_wf bcast_S500000_S500000x4_0 bcast_S_S500000x4 T
        (clipArr 0#32 6#32 (val_main_v234 (F := Ideal) x0)) from rfl,
    take_clip (n := 7) _ _ _ _ _ _ _ (by decide) (by decide) rfl hi hq,
    ← colWord_apply 27 (by decide) slices_S500000x79_S500000x1_0_27 x0 ⟨i, hi⟩]
  rfl

omit hi in
/-- The element's table of rows, at a word. -/
theorem lut_at (z : BitVec 32) (hz : z.toNat < 17) : val_main_v25 (F := Ideal) (ix1 ⟨z.toNat, hz⟩) = lut z := by
  have e : val_main_v25 (F := Ideal) (ix1 ⟨z.toNat, hz⟩) = lut (BitVec.ofNat 32 z.toNat) := rfl
  rw [e, BitVec.ofNat_toNat, BitVec.setWidth_eq]

/-- The element's row: the reference's look-up of the atomic number. -/
theorem element_at (T : FVec Ideal S7x4 .f32) (hq : q < 4) :
    at2 (val_main_v34 (F := Ideal) x0 T : FVec Ideal ⟨2, ![500000, 4]⟩ .f32) i q = at2 T (elementRow (word x0 i 0)).toNat q := by
  have hs : ∀ j, val_main_v31 (F := Ideal) x0 j = safe (colWord 0 slices_S500000x79_S500000x1_0_0 x0 j) := fun j => rfl
  have hlt : ∀ j, (val_main_v31 (F := Ideal) x0 j).toNat < 17 := fun j => by rw [hs]; exact safe_lt _
  have hw : val_main_v32 (F := Ideal) x0 (ix1 ⟨i, hi⟩) = lut (safe (word x0 i 0)) := by
    rw [show val_main_v32 (F := Ideal) x0
        = takeFlat 17#32 16#32 2147483648#32 (val_main_v25 (F := Ideal)) (val_main_v31 (F := Ideal) x0) from rfl,
      takeFlat_apply _ _ _ hlt, lut_at, hs, colWord_apply 0 (by decide)]
  rw [show (val_main_v34 (F := Ideal) x0 T : FVec Ideal ⟨2, ![500000, 4]⟩ .f32)
      = takeRows 7#32 6#32 gather_S7x4_S500000x1_S500000x4_1_0_n_n_0_1_14_wf bcast_S500000_S500000x4_0 bcast_S_S500000x4 T
        (clipArr 0#32 6#32 (val_main_v32 (F := Ideal) x0)) from rfl,
    take_clip (n := 7) _ _ _ _ _ _ _ (by decide) (by decide) rfl hi hq, hw]
  rfl

end

/-! ## The functional flags -/

/-- Entry `(f, a, b)` of a stack of eighteen 2 × 2 tables, zero outside it. -/
def at3 (x : FVec Ideal S18x2x2 .f32) (f a b : ℕ) : EReal :=
  if h : f < 18 ∧ a < 2 ∧ b < 2 then x (ix3 ⟨f, h.1⟩ ⟨a, h.2.1⟩ ⟨b, h.2.2⟩) else 0

theorem flag_slices (f : Fin 18) : S18x2x2.Slices ![f.val, 0, 0] S1x2x2 := by revert f; decide

theorem flag_cols (f : Fin 18) : S500000x79.Slices ![0, 7 + f.val] S500000x1 := by revert f; decide

/-- The take from flag `f`'s table. -/
def flagTake (f : Fin 18) (x0 : FVec Ideal S500000x79 .f32) (x8 : FVec Ideal S18x2x2 .f32) : FVec Ideal S500000x2 .f32 :=
  takeRows 2#32 1#32 gather_S2x2_S500000x1_S500000x2_1_0_n_n_0_1_12_wf bcast_S500000_S500000x2_0 bcast_S_S500000x2
    (shapeCast S2x2 (extractStridedSlice S1x2x2 ![f.val, 0, 0] x8 (flag_slices f)) shapeCasts_S1x2x2_S2x2)
    (clipArr 0#32 1#32 (colWord (7 + f.val) (flag_cols f) x0))

/-- Flag `f`'s table is its slice of the stack. -/
theorem flag_table (f : Fin 18) (x8 : FVec Ideal S18x2x2 .f32) {a b : ℕ} (ha : a < 2) (hb : b < 2) :
    at2 (shapeCast S2x2 (extractStridedSlice S1x2x2 ![f.val, 0, 0] x8 (flag_slices f)) shapeCasts_S1x2x2_S2x2
      : FVec Ideal ⟨2, ![2, 2]⟩ .f32) a b = at3 x8 f.val a b := by
  rw [at2_eq _ ha hb, at3, dif_pos ⟨f.isLt, ha, hb⟩]
  rw [shapeCast_apply _ _ (ix2 (⟨a, ha⟩ : Fin 2) (⟨b, hb⟩ : Fin 2)) (ix3 (0 : Fin 1) (⟨a, ha⟩ : Fin 2) (⟨b, hb⟩ : Fin 2)) (by
    rw [Shape.rowMajor_val_three, Shape.rowMajor_val_two]
    show (0 * 2 + a) * 2 + b = a * 2 + b
    omega)]
  unfold extractStridedSlice
  refine congrArg x8 (funext fun d => Fin.ext ?_)
  match d with
  | ⟨0, _⟩ => rfl
  | ⟨1, _⟩ => show 0 + a = a; omega
  | ⟨2, _⟩ => show 0 + b = b; omega

/-- Flag `f`'s row. -/
theorem flagTake_at (f : Fin 18) (x0 : FVec Ideal S500000x79 .f32) (x8 : FVec Ideal S18x2x2 .f32) {i q : ℕ} (hi : i < 500000)
    (hq : q < 2) :
    at2 (flagTake f x0 x8 : FVec Ideal ⟨2, ![500000, 2]⟩ .f32) i q = at3 x8 f.val (clampRow 2 (word x0 i (7 + f.val))) q := by
  rw [take_col (n := 2) (V := flagTake f x0 x8) rfl rfl (by decide) (by decide) (by omega) hi hq,
    flag_table f x8 (clampRow_lt 2 (by decide) (by decide) _) hq]

end Cert.RefIndex

end
-- ==== Proof.Sums.lean ====
/-
  Sums over the extended reals that the equation needs: a sum over lanes of which one is hot, a row that is zero off a
  window, pairs of terms, and the two places where a product is distributed over finite numbers.
-/
module

public import Mathlib.Data.EReal.Operations
public import Mathlib.Algebra.BigOperators.Fin
public import Mathlib.Algebra.BigOperators.Intervals
public import Mathlib.Tactic.Abel

@[expose] public section

namespace Cert.Sums

open Finset

/-- Of `n` lanes the one numbered `w` is hot: the sum is its row. -/
theorem sum_pick (n w : ℕ) (hw : w < n) (hot M : ℕ → EReal) (h : ∀ j < n, hot j = if w = j then 1 else 0) :
    ∑ j ∈ range n, hot j * M j = M w := by
  rw [Finset.sum_eq_single_of_mem w (mem_range.2 hw)]
  · rw [h w hw, if_pos rfl, one_mul]
  · intro j hj hne
    rw [h j (mem_range.1 hj), if_neg (Ne.symm hne), zero_mul]

/-- Of `n` lanes none is hot: the sum is zero. -/
theorem sum_none (n : ℕ) (hot M : ℕ → EReal) (h : ∀ j < n, hot j = 0) : ∑ j ∈ range n, hot j * M j = 0 :=
  Finset.sum_eq_zero fun j hj => by rw [h j (mem_range.1 hj), zero_mul]

/-- A sum over `a + b` terms: the first `a`, then the other `b`. -/
theorem sum_cut (a b : ℕ) (f : ℕ → EReal) :
    ∑ k ∈ range (a + b), f k = ∑ k ∈ range a, f k + ∑ k ∈ range b, f (a + k) := Finset.sum_range_add f a b

/-- A row that is zero off the window `c … c + w` contracts over the window alone. -/
theorem sum_window (n c w : ℕ) (hcw : c + w ≤ n) (g t W : ℕ → EReal)
    (h : ∀ k < n, g k = if c ≤ k ∧ k < c + w then t (k - c) else 0) :
    ∑ k ∈ range n, g k * W k = ∑ k ∈ range w, t k * W (c + k) := by
  obtain ⟨r, rfl⟩ := Nat.exists_eq_add_of_le hcw
  rw [sum_cut, sum_cut]
  have h1 : ∑ k ∈ range c, g k * W k = 0 := Finset.sum_eq_zero fun k hk => by
    have := mem_range.1 hk
    rw [h k (by omega), if_neg (by omega), zero_mul]
  have h3 : ∑ k ∈ range r, g (c + w + k) * W (c + w + k) = 0 := Finset.sum_eq_zero fun k hk => by
    have := mem_range.1 hk
    rw [h _ (by omega), if_neg (by omega), zero_mul]
  rw [h1, h3, zero_add, add_zero]
  refine Finset.sum_congr rfl fun k hk => ?_
  have := mem_range.1 hk
  rw [h _ (by omega), if_pos (by omega), Nat.add_sub_cancel_left]

/-- A sum over `2 n` terms, two by two. -/
theorem sum_pairs (n : ℕ) (f : ℕ → EReal) :
    ∑ k ∈ range (2 * n), f k = ∑ k ∈ range n, ∑ b ∈ range 2, f (2 * k + b) := by
  induction n with
  | zero => rfl
  | succ n ih =>
    rw [Finset.sum_range_succ, ← ih, Nat.mul_succ, sum_cut]

/-- Finite: neither infinity. -/
def Fin' (x : EReal) : Prop := x ≠ ⊤ ∧ x ≠ ⊥

/-- A finite extended real is a real. -/
theorem Fin'.exists {x : EReal} (h : Fin' x) : ∃ r : ℝ, x = (r : EReal) :=
  ⟨x.toReal, (EReal.coe_toReal h.1 h.2).symm⟩

/-- A real is finite. -/
theorem fin_coe (r : ℝ) : Fin' (r : EReal) := ⟨EReal.coe_ne_top r, EReal.coe_ne_bot r⟩

/-- Finite numbers have a finite product. -/
theorem Fin'.mul {x y : EReal} (hx : Fin' x) (hy : Fin' y) : Fin' (x * y) := by
  obtain ⟨a, rfl⟩ := hx.exists; obtain ⟨b, rfl⟩ := hy.exists
  rw [← EReal.coe_mul]; exact fin_coe _

/-- A product with a finite `w` distributes over a sum with a finite summand `a`. -/
theorem add_mul_fin (a b w : EReal) (ha : Fin' a) (hw : Fin' w) : (a + b) * w = a * w + b * w := by
  obtain ⟨a, rfl⟩ := ha.exists; obtain ⟨w, rfl⟩ := hw.exists
  induction b with
  | bot =>
    rw [EReal.add_bot]
    rcases lt_trichotomy w 0 with h | rfl | h
    · rw [EReal.bot_mul_coe_of_neg h, ← EReal.coe_mul, EReal.coe_add_top]
    · simp
    · rw [EReal.bot_mul_coe_of_pos h, EReal.add_bot]
  | top =>
    rw [EReal.coe_add_top]
    rcases lt_trichotomy w 0 with h | rfl | h
    · rw [EReal.top_mul_coe_of_neg h, EReal.add_bot]
    · simp
    · rw [EReal.top_mul_coe_of_pos h, ← EReal.coe_mul, EReal.coe_add_top]
  | coe b => norm_cast; ring

/-- A difference from a finite row, and that row added back, through a finite weight. -/
theorem sub_mul_add (x r w : EReal) (hr : Fin' r) (hw : Fin' w) : (x - r) * w + r * w = x * w := by
  rw [add_comm, ← add_mul_fin r (x - r) w hr hw]
  congr 1
  obtain ⟨r, rfl⟩ := hr.exists
  induction x with
  | bot => simp
  | top => simp
  | coe x => norm_cast; ring

/-- A finite sum of finite numbers is finite. -/
theorem fin_sum {ι : Type} (s : Finset ι) (f : ι → EReal) (h : ∀ k ∈ s, Fin' (f k)) : Fin' (∑ k ∈ s, f k) := by
  classical
  induction s using Finset.induction_on with
  | empty => exact fin_coe 0
  | insert a s ha ih =>
    rw [Finset.sum_insert ha]
    obtain ⟨x, hx⟩ := (h a (mem_insert_self a s)).exists
    obtain ⟨y, hy⟩ := (ih fun k hk => h k (mem_insert_of_mem hk)).exists
    rw [hx, hy, ← EReal.coe_add]; exact fin_coe _

/-- A finite weight times a sum of finite numbers. -/
theorem sum_mul_fin (n : ℕ) (f : ℕ → EReal) (w : EReal) (h : ∀ k < n, Fin' (f k)) (hw : Fin' w) :
    (∑ k ∈ range n, f k) * w = ∑ k ∈ range n, f k * w := by
  induction n with
  | zero => simp
  | succ n ih =>
    rw [Finset.sum_range_succ, Finset.sum_range_succ, ← ih fun k hk => h k (by omega),
      add_mul_fin _ _ w (fin_sum _ _ fun k hk => h k (by have := mem_range.1 hk; omega)) hw]

/-- THE FOLDED FLAGS: weighting each flag's reduced row and adding the weighted bias is weighting the reduced sum, where the
    flags' rows and the weights are finite. -/
theorem fold_flags (n p : ℕ) (A : ℕ → ℕ → EReal) (b W : ℕ → EReal) (hA : ∀ f < n, ∀ k < p, Fin' (A f k))
    (hW : ∀ k < p, Fin' (W k)) :
    ∑ f ∈ range n, ∑ k ∈ range p, A f k * W k + ∑ k ∈ range p, b k * W k
      = ∑ k ∈ range p, (∑ f ∈ range n, A f k + b k) * W k := by
  rw [Finset.sum_comm, ← Finset.sum_add_distrib]
  refine Finset.sum_congr rfl fun k hk => ?_
  have hk' := mem_range.1 hk
  rw [← sum_mul_fin n (fun f => A f k) (W k) (fun f hf => hA f hf k hk') (hW k hk'),
    add_mul_fin _ _ (W k) (fin_sum _ _ fun f hf => hA f (mem_range.1 hf) k hk') (hW k hk')]

/-- THE SUBTRACTED ROW: `n` lanes hold rows `T (ρ j)` less a finite row `r`; if `w` is the row of one of them its lane
    alone is hot, and if it is none of them no lane is hot and row `w` is `r` itself. Adding `r` back gives row `w`. -/
theorem diff_lanes (n p : ℕ) (hot : ℕ → EReal) (T : ℕ → ℕ → EReal) (ρ : ℕ → ℕ) (w d : ℕ) (W : ℕ → EReal)
    (hd : ∀ k < p, Fin' (T d k)) (hW : ∀ k < p, Fin' (W k))
    (hcase : (∃ j < n, ρ j = w) ∨ w = d)
    (hinj : ∀ j < n, ∀ j' < n, ρ j = ρ j' → j = j') (hnd : ∀ j < n, ρ j ≠ d)
    (hhot : ∀ j < n, hot j = if w = ρ j then 1 else 0) :
    ∑ j ∈ range n, hot j * (∑ k ∈ range p, (T (ρ j) k - T d k) * W k) + ∑ k ∈ range p, T d k * W k
      = ∑ k ∈ range p, T w k * W k := by
  rcases hcase with ⟨j, hj, rfl⟩ | rfl
  · rw [sum_pick n j hj hot (fun j => ∑ k ∈ range p, (T (ρ j) k - T d k) * W k), ← Finset.sum_add_distrib]
    · refine Finset.sum_congr rfl fun k hk => ?_
      have hk' := mem_range.1 hk
      exact sub_mul_add _ _ _ (hd k hk') (hW k hk')
    · intro j' hj'
      rw [hhot j' hj']
      by_cases e : j = j'
      · subst e; simp
      · rw [if_neg e, if_neg fun e' => e (hinj j hj j' hj' e')]
  · rw [sum_none n hot _ fun j hj => by rw [hhot j hj, if_neg (Ne.symm (hnd j hj))], zero_add]

end Cert.Sums
-- ==== Proof.RefValue.lean ====
/-
  The reference's result read at an entry: columns 0–47 are the sum, over its fourteen tables, of the taken row times that
  table's rows of the discrete weights, plus the bias; columns 48–63 are the product of the last 48 features with the bond
  weights, plus the bias.
-/
module

public import proofs.«01_k».proof.Proof.RefIndex
public import proofs.«01_k».proof.Proof.Sums

@[expose] public section

noncomputable section

namespace Cert.RefValue

open Idealize.ShloMosaic Idealize.ShloMosaic.ValueIdx Cert.ReferenceIdeal Cert.ReferenceIdeal.Gen Cert.ReferenceIdeal.Read
open Cert.Words Cert.Reads Cert.RefIndex Cert.Sums Finset

/-- A taken row's contribution to column `c`: `p` entries of row `r` of a table times rows `s, s + 1, …` of the weights. -/
def emb {n w : ℕ} (T : FVec Ideal ⟨2, ![n, w]⟩ .f32) (W : FVec Ideal ⟨2, ![52, 48]⟩ .f32) (s p r c : ℕ) : EReal :=
  ∑ k ∈ range p, at2 T r k * at2 W (s + k) c

/-- Pieces of one shape side by side, read at column `b` of piece `f`. -/
theorem at2_ofFn {n M N w : ℕ} (X : Fin N → FVec Ideal ⟨2, ![n, w]⟩ .f32)
    (h : Shape.Concatenates ((List.ofFn fun f : Fin N => (⟨⟨2, ![n, w]⟩, X f⟩ : (s : Shape) × (s.Idx → Ideal .f32))).map (·.1))
      ⟨2, ![n, M]⟩ 1) (f : Fin N) {i b : ℕ} (hi : i < n) (hb : b < w) (hM : w * f.val + b < M) :
    at2 (concatenate ⟨2, ![n, M]⟩ 1 (List.ofFn fun f : Fin N => (⟨⟨2, ![n, w]⟩, X f⟩ : (s : Shape) × (s.Idx → Ideal .f32))) h
      : FVec Ideal ⟨2, ![n, M]⟩ .f32) i (w * f.val + b) = at2 (X f) i b := by
  rw [at2_eq _ hi hM, at2_eq _ hi hb]
  refine concatenate_ofFn_apply (t := ⟨2, ![n, M]⟩) 1 X h rfl w rfl _ f ?_ _ ?_ fun a ha => ?_
  · show (w * f.val + b) / w = f.val
    rw [Nat.mul_add_div (by omega), Nat.div_eq_of_lt hb, Nat.add_zero]
  · show b = (w * f.val + b) % w
    rw [Nat.mul_add_mod, Nat.mod_eq_of_lt hb]
  · match a with
    | ⟨0, _⟩ => rfl
    | ⟨1, _⟩ => exact absurd rfl ha

section
variable (x0 : FVec Ideal S500000x79 .f32) (x8 : FVec Ideal S18x2x2 .f32) {i : ℕ} (hi : i < 500000)
include hi

/-- The first sixteen flags side by side. -/
theorem v193_at (f : Fin 16) {b : ℕ} (hb : b < 2) :
    at2 (val_main_v193 (F := Ideal) x0 x8 : FVec Ideal ⟨2, ![500000, 32]⟩ .f32) i (2 * f.val + b)
      = at2 (flagTake (f.castLE (by decide)) x0 x8 : FVec Ideal ⟨2, ![500000, 2]⟩ .f32) i b :=
  at2_ofFn (fun f : Fin 16 => flagTake (f.castLE (by decide)) x0 x8) _ f hi hb (by omega)

/-- The eighteen flags side by side. -/
theorem v195_at (f : Fin 18) {b : ℕ} (hb : b < 2) :
    at2 (val_main_v195 (F := Ideal) x0 x8 : FVec Ideal ⟨2, ![500000, 36]⟩ .f32) i (2 * f.val + b)
      = at2 (flagTake f x0 x8 : FVec Ideal ⟨2, ![500000, 2]⟩ .f32) i b := by
  have head : ∀ q, q < 32 → at2 (val_main_v195 (F := Ideal) x0 x8 : FVec Ideal ⟨2, ![500000, 36]⟩ .f32) i (0 + q)
      = at2 (val_main_v193 (F := Ideal) x0 x8 : FVec Ideal ⟨2, ![500000, 32]⟩ .f32) i q := fun q hq =>
    at2_concatCols rfl 0 (by simp) _ rfl 0 rfl (by decide) hi hq
  have tail : ∀ q, q < 4 → at2 (val_main_v195 (F := Ideal) x0 x8 : FVec Ideal ⟨2, ![500000, 36]⟩ .f32) i (32 + q)
      = at2 (val_main_v194 (F := Ideal) x0 x8 : FVec Ideal ⟨2, ![500000, 4]⟩ .f32) i q := fun q hq =>
    at2_concatCols rfl 1 (by simp) _ rfl 32 rfl (by decide) hi hq
  have last0 : at2 (val_main_v194 (F := Ideal) x0 x8 : FVec Ideal ⟨2, ![500000, 4]⟩ .f32) i (0 + b)
      = at2 (flagTake 16 x0 x8 : FVec Ideal ⟨2, ![500000, 2]⟩ .f32) i b :=
    at2_concatCols rfl 0 (by simp) _ rfl 0 rfl (by decide) hi hb
  have last1 : at2 (val_main_v194 (F := Ideal) x0 x8 : FVec Ideal ⟨2, ![500000, 4]⟩ .f32) i (2 + b)
      = at2 (flagTake 17 x0 x8 : FVec Ideal ⟨2, ![500000, 2]⟩ .f32) i b :=
    at2_concatCols rfl 1 (by simp) _ rfl 2 rfl (by decide) hi hb
  rw [Nat.zero_add] at last0
  by_cases h : f.val < 16
  · exact (congrArg _ (by omega)).trans ((head (2 * f.val + b) (by omega)).trans (v193_at x0 x8 hi ⟨f.val, h⟩ hb))
  · obtain h | h : f = 16 ∨ f = 17 := by omega
    · subst h; exact (tail b (by omega)).trans last0
    · subst h; exact (congrArg _ (by show 2 * 17 + b = 32 + (2 + b); omega)).trans ((tail (2 + b) (by omega)).trans last1)

/-- THE FLAGS REDUCED TO FOUR COLUMNS. -/
theorem flags_at (x15 : FVec Ideal S36x4 .f32) (x16 : FVec Ideal S4 .f32) {k : ℕ} (hk : k < 4) :
    at2 (val_main_v199 (F := Ideal) x0 x8 x15 x16 : FVec Ideal ⟨2, ![500000, 4]⟩ .f32) i k
      = (∑ f ∈ range 18, ∑ b ∈ range 2, at3 x8 f (clampRow 2 (word x0 i (7 + f))) b * at2 x15 (2 * f + b) k) + at1 x16 k := by
  refine (at2_addf (val_main_v196 (F := Ideal) x0 x8 x15) (val_main_v198 (F := Ideal) x16) hi hk).trans ?_
  refine congrArg₂ (· + ·) ?_ ((at2_repeatRow (by decide) _ _ hi hk).trans (at2_row (by decide) x16 _ hk))
  refine (at2_hostDot dot_S500000x36_S36x4_S500000x4_1_0_0_1_n_n rfl _ x15 hi hk).trans ?_
  refine (sum_pairs 18 _).trans ?_
  refine sum_congr rfl fun f hf => sum_congr rfl fun b hb => ?_
  have hf := mem_range.mp hf
  have hb := mem_range.mp hb
  exact congrArg (· * at2 x15 (2 * f + b) k)
    ((v195_at x0 x8 hi ⟨f, hf⟩ hb).trans (flagTake_at ⟨f, hf⟩ x0 x8 hi hb))

end

/-- A sum over the 52 columns, cut into the fourteen tables' columns. -/
theorem sum_52 (f : ℕ → EReal) : ∑ k ∈ range 52, f k = (∑ k ∈ range 4, f (0 + k)) + (∑ k ∈ range 4, f (4 + k)) + (∑ k ∈ range 4, f (8 + k)) + (∑ k ∈ range 4, f (12 + k)) + (∑ k ∈ range 4, f (16 + k)) + (∑ k ∈ range 4, f (20 + k)) + (∑ k ∈ range 4, f (24 + k)) + (∑ k ∈ range 4, f (28 + k)) + (∑ k ∈ range 2, f (32 + k)) + (∑ k ∈ range 2, f (34 + k)) + (∑ k ∈ range 4, f (36 + k)) + (∑ k ∈ range 4, f (40 + k)) + (∑ k ∈ range 4, f (44 + k)) + (∑ k ∈ range 4, f (48 + k)) := by
  simp only [sum_range_succ, sum_range_zero, zero_add, Nat.reduceAdd, Nat.add_zero, add_assoc]

/-- The shapes of the fourteen pieces of the discrete features. -/
def shapes52 : List Shape :=
  [S500000x4, S500000x4, S500000x4, S500000x4, S500000x4, S500000x4, S500000x4, S500000x4, S500000x2, S500000x2, S500000x4,
    S500000x4, S500000x4, S500000x4]

/-- A row of 52 entries times the weights, cut into the fourteen tables' entries. -/
theorem contract_52 {i c : ℕ} (C : FVec Ideal ⟨2, ![500000, 52]⟩ .f32) (W : FVec Ideal ⟨2, ![52, 48]⟩ .f32)
    {g0 g1 g2 g3 g4 g5 g6 g7 g8 g9 g10 g11 g12 g13 : ℕ → EReal}
    (h0 : ∀ k, k < 4 → at2 C i (0 + k) = g0 k)
    (h1 : ∀ k, k < 4 → at2 C i (4 + k) = g1 k)
    (h2 : ∀ k, k < 4 → at2 C i (8 + k) = g2 k)
    (h3 : ∀ k, k < 4 → at2 C i (12 + k) = g3 k)
    (h4 : ∀ k, k < 4 → at2 C i (16 + k) = g4 k)
    (h5 : ∀ k, k < 4 → at2 C i (20 + k) = g5 k)
    (h6 : ∀ k, k < 4 → at2 C i (24 + k) = g6 k)
    (h7 : ∀ k, k < 4 → at2 C i (28 + k) = g7 k)
    (h8 : ∀ k, k < 2 → at2 C i (32 + k) = g8 k)
    (h9 : ∀ k, k < 2 → at2 C i (34 + k) = g9 k)
    (h10 : ∀ k, k < 4 → at2 C i (36 + k) = g10 k)
    (h11 : ∀ k, k < 4 → at2 C i (40 + k) = g11 k)
    (h12 : ∀ k, k < 4 → at2 C i (44 + k) = g12 k)
    (h13 : ∀ k, k < 4 → at2 C i (48 + k) = g13 k) :
    ∑ k ∈ range 52, at2 C i k * at2 W k c = (∑ k ∈ range 4, g0 k * at2 W (0 + k) c) + (∑ k ∈ range 4, g1 k * at2 W (4 + k) c) + (∑ k ∈ range 4, g2 k * at2 W (8 + k) c) + (∑ k ∈ range 4, g3 k * at2 W (12 + k) c) + (∑ k ∈ range 4, g4 k * at2 W (16 + k) c) + (∑ k ∈ range 4, g5 k * at2 W (20 + k) c) + (∑ k ∈ range 4, g6 k * at2 W (24 + k) c) + (∑ k ∈ range 4, g7 k * at2 W (28 + k) c) + (∑ k ∈ range 2, g8 k * at2 W (32 + k) c) + (∑ k ∈ range 2, g9 k * at2 W (34 + k) c) + (∑ k ∈ range 4, g10 k * at2 W (36 + k) c) + (∑ k ∈ range 4, g11 k * at2 W (40 + k) c) + (∑ k ∈ range 4, g12 k * at2 W (44 + k) c) + (∑ k ∈ range 4, g13 k * at2 W (48 + k) c) := by
  refine (sum_52 _).trans ?_
  have e : ∀ (w pre : ℕ) (g : ℕ → EReal), (∀ k, k < w → at2 C i (pre + k) = g k) →
      ∑ k ∈ range w, at2 C i (pre + k) * at2 W (pre + k) c = ∑ k ∈ range w, g k * at2 W (pre + k) c := fun w pre g h =>
    sum_congr rfl fun k hk => by rw [h k (mem_range.mp hk)]
  rw [e 4 0 g0 h0, e 4 4 g1 h1, e 4 8 g2 h2, e 4 12 g3 h3, e 4 16 g4 h4, e 4 20 g5 h5, e 4 24 g6 h6, e 4 28 g7 h7, e 2 32 g8 h8, e 2 34 g9 h9, e 4 36 g10 h10, e 4 40 g11 h11, e 4 44 g12 h12, e 4 48 g13 h13]

/-- The fourteen tables' contributions to column `c` of an atom whose integer words are `wd`, plus the bias. -/
def discValue (x1 x2 : FVec Ideal S7x4 .f32) (x3 : FVec Ideal S2x4 .f32) (x4 : FVec Ideal S8x4 .f32) (x5 : FVec Ideal S2x4 .f32)
    (x6 : FVec Ideal S6x4 .f32) (x7 : FVec Ideal S5x4 .f32) (x8 : FVec Ideal S18x2x2 .f32) (x9 x10 : FVec Ideal S2x2 .f32)
    (x11 : FVec Ideal S7x4 .f32) (x12 : FVec Ideal S5x4 .f32) (x13 : FVec Ideal S8x4 .f32) (x14 : FVec Ideal S27x4 .f32)
    (x15 : FVec Ideal S36x4 .f32) (x16 : FVec Ideal S4 .f32) (x19 : FVec Ideal S52x48 .f32) (x20 : FVec Ideal S48 .f32)
    (wd : ℕ → BitVec 32) (c : ℕ) : EReal :=
  emb x1 x19 0 4 (elementRow (wd 0)).toNat c + emb x2 x19 4 4 (clampRow 7 (wd 1)) c
    + emb x3 x19 8 4 (clampRow 2 (IntOp.addi (wd 5) 1#32)) c + emb x4 x19 12 4 (clampRow 8 (wd 2)) c
    + emb x5 x19 16 4 (clampRow 2 (wd 4)) c + emb x6 x19 20 4 (clampRow 6 (wd 3)) c + emb x7 x19 24 4 (clampRow 5 (wd 6)) c
    + (∑ k ∈ range 4, ((∑ f ∈ range 18, ∑ b ∈ range 2, at3 x8 f (clampRow 2 (wd (7 + f))) b * at2 x15 (2 * f + b) k)
        + at1 x16 k) * at2 x19 (28 + k) c)
    + emb x9 x19 32 2 (clampRow 2 (wd 25)) c + emb x10 x19 34 2 (clampRow 2 (wd 26)) c
    + emb x11 x19 36 4 (ringRow (wd 27)).toNat c + emb x12 x19 40 4 (clampRow 5 (wd 28)) c
    + emb x13 x19 44 4 (clampRow 8 (wd 29)) c + emb x14 x19 48 4 (clampRow 27 (wd 30)) c + at1 x20 c

section
variable (x0 : FVec Ideal S500000x79 .f32) (x1 x2 : FVec Ideal S7x4 .f32) (x3 : FVec Ideal S2x4 .f32) (x4 : FVec Ideal S8x4 .f32)
  (x5 : FVec Ideal S2x4 .f32) (x6 : FVec Ideal S6x4 .f32) (x7 : FVec Ideal S5x4 .f32) (x8 : FVec Ideal S18x2x2 .f32)
  (x9 x10 : FVec Ideal S2x2 .f32) (x11 : FVec Ideal S7x4 .f32) (x12 : FVec Ideal S5x4 .f32) (x13 : FVec Ideal S8x4 .f32)
  (x14 : FVec Ideal S27x4 .f32) (x15 : FVec Ideal S36x4 .f32) (x16 : FVec Ideal S4 .f32) (x17 : FVec Ideal S48x16 .f32)
  (x18 : FVec Ideal S16 .f32) (x19 : FVec Ideal S52x48 .f32) (x20 : FVec Ideal S48 .f32) {i c : ℕ} (hi : i < 500000)
include hi

/-- THE DISCRETE COLUMNS: column `c < 48` is the tables' contributions at the atom's words, plus the bias. -/
theorem disc_at (hc : c < 48) :
    at2 (val_main_v262 (F := Ideal) x0 x1 x2 x3 x4 x5 x6 x7 x8 x9 x10 x11 x12 x13 x14 x15 x16 x17 x18 x19 x20
      : FVec Ideal ⟨2, ![500000, 64]⟩ .f32) i c
      = discValue x1 x2 x3 x4 x5 x6 x7 x8 x9 x10 x11 x12 x13 x14 x15 x16 x19 x20 (fun j => word x0 i j) c := by
  have head : at2 (val_main_v262 (F := Ideal) x0 x1 x2 x3 x4 x5 x6 x7 x8 x9 x10 x11 x12 x13 x14 x15 x16 x17 x18 x19 x20
      : FVec Ideal ⟨2, ![500000, 64]⟩ .f32) i (0 + c) = _ :=
    at2_concatCols rfl 0 (by simp)
      (val_main_v261 (F := Ideal) x0 x1 x2 x3 x4 x5 x6 x7 x8 x9 x10 x11 x12 x13 x14 x15 x16 x19 x20) rfl 0 rfl (by decide) hi hc
  rw [Nat.zero_add] at head
  refine head.trans ((at2_addf (val_main_v258 (F := Ideal) x0 x1 x2 x3 x4 x5 x6 x7 x8 x9 x10 x11 x12 x13 x14 x15 x16 x19)
    (val_main_v260 (F := Ideal) x20) hi hc).trans ?_)
  unfold discValue
  refine congrArg₂ (· + ·) ?_ ((at2_repeatRow (by decide) _ _ hi hc).trans (at2_row (by decide) x20 _ hc))
  refine (at2_hostDot dot_S500000x52_S52x48_S500000x48_1_0_0_1_n_n rfl _ x19 hi hc).trans ?_
  generalize hC : (val_main_v257 (F := Ideal) x0 x1 x2 x3 x4 x5 x6 x7 x8 x9 x10 x11 x12 x13 x14 x15 x16
    : FVec Ideal ⟨2, ![500000, 52]⟩ .f32) = C
  unfold val_main_v257 at hC
  unfold emb
  exact contract_52 C x19
    (fun k hk => (at2_concatCols hC.symm 0 (by simp) _ rfl 0 (start_of 1 shapes52 rfl (by decide)) (by decide) hi hk).trans (element_at x0 hi x1 hk))
    (fun k hk => (at2_concatCols hC.symm 1 (by simp) _ rfl 4 (start_of 1 shapes52 rfl (by decide)) (by decide) hi hk).trans (degree_at x0 hi x2 hk))
    (fun k hk => (at2_concatCols hC.symm 2 (by simp) _ rfl 8 (start_of 1 shapes52 rfl (by decide)) (by decide) hi hk).trans (ring_at x0 hi x3 hk))
    (fun k hk => (at2_concatCols hC.symm 3 (by simp) _ rfl 12 (start_of 1 shapes52 rfl (by decide)) (by decide) hi hk).trans (charge_at x0 hi x4 hk))
    (fun k hk => (at2_concatCols hC.symm 4 (by simp) _ rfl 16 (start_of 1 shapes52 rfl (by decide)) (by decide) hi hk).trans (aromatic_at x0 hi x5 hk))
    (fun k hk => (at2_concatCols hC.symm 5 (by simp) _ rfl 20 (start_of 1 shapes52 rfl (by decide)) (by decide) hi hk).trans (hybrid_at x0 hi x6 hk))
    (fun k hk => (at2_concatCols hC.symm 6 (by simp) _ rfl 24 (start_of 1 shapes52 rfl (by decide)) (by decide) hi hk).trans (hydrogen_at x0 hi x7 hk))
    (fun k hk => (at2_concatCols hC.symm 7 (by simp) _ rfl 28 (start_of 1 shapes52 rfl (by decide)) (by decide) hi hk).trans (flags_at x0 x8 hi x15 x16 hk))
    (fun k hk => (at2_concatCols hC.symm 8 (by simp) _ rfl 32 (start_of 1 shapes52 rfl (by decide)) (by decide) hi hk).trans (donor_at x0 hi x9 hk))
    (fun k hk => (at2_concatCols hC.symm 9 (by simp) _ rfl 34 (start_of 1 shapes52 rfl (by decide)) (by decide) hi hk).trans (acceptor_at x0 hi x10 hk))
    (fun k hk => (at2_concatCols hC.symm 10 (by simp) _ rfl 36 (start_of 1 shapes52 rfl (by decide)) (by decide) hi hk).trans (ringsize_at x0 hi x11 hk))
    (fun k hk => (at2_concatCols hC.symm 11 (by simp) _ rfl 40 (start_of 1 shapes52 rfl (by decide)) (by decide) hi hk).trans (aroma_at x0 hi x12 hk))
    (fun k hk => (at2_concatCols hC.symm 12 (by simp) _ rfl 44 (start_of 1 shapes52 rfl (by decide)) (by decide) hi hk).trans (fused_at x0 hi x13 hk))
    (fun k hk => (at2_concatCols hC.symm 13 (by simp) _ rfl 48 (start_of 1 shapes52 rfl (by decide)) (by decide) hi hk).trans (hetero_at x0 hi x14 hk))

/-- THE BOND COLUMNS: column `48 + c` is the product of the last 48 features with the bond weights, plus the bias. -/
theorem bond_at (hc : c < 16) :
    at2 (val_main_v262 (F := Ideal) x0 x1 x2 x3 x4 x5 x6 x7 x8 x9 x10 x11 x12 x13 x14 x15 x16 x17 x18 x19 x20
      : FVec Ideal ⟨2, ![500000, 64]⟩ .f32) i (48 + c)
      = (∑ k ∈ range 48, at2 x0 i (31 + k) * at2 x17 k c) + at1 x18 c := by
  refine (at2_concatCols rfl 1 (by simp) (val_main_v256 (F := Ideal) x0 x17 x18) rfl 48 rfl (by decide) hi hc).trans ?_
  refine (at2_addf (val_main_v253 (F := Ideal) x0 x17) (val_main_v255 (F := Ideal) x18) hi hc).trans ?_
  refine congrArg₂ (· + ·) ?_ ((at2_repeatRow (by decide) _ _ hi hc).trans (at2_row (by decide) x18 _ hc))
  refine (at2_hostDot dot_S500000x48_S48x16_S500000x16_1_0_0_1_n_n rfl _ x17 hi hc).trans ?_
  refine sum_congr rfl fun k hk => congrArg (· * at2 x17 k c) ?_
  refine (at2_slice x0 slices_S500000x79_S500000x48_0_31 (by decide) (by decide) hi (mem_range.mp hk)).trans ?_
  rw [Nat.zero_add]

end

end Cert.RefValue

end
-- ==== Proof.LaneRows.lean ====
/-
  The lanes' rows read at an entry, and each lane's product with the weights: a lane of a table gives the table's row times
  that table's rows of the weights; the always-hot lane gives element row 0, ring-size row 6 and the reducing bias.
-/
module

public import proofs.«01_k».proof.Proof.Scatters
public import proofs.«01_k».proof.Proof.RefValue

@[expose] public section

noncomputable section

namespace Cert.LaneRows

open Idealize.ShloMosaic Idealize.ShloMosaic.ValueIdx Cert.KernelIdeal Cert.KernelIdeal.Gen Cert.Tables Cert.Reads Cert.Sums
open Cert.RefIndex (at3)
open Cert.RefValue (emb)
open Cert.Scatters (zeroPad_eq)
open Finset

/-! ## The pieces -/

/-- A table padded into its columns of a row of 52, contracted with the weights: the table's row times its own weights. -/
theorem pad_contract {n w lo hi : ℕ} (T : FVec Ideal ⟨2, ![n, w]⟩ .f32) (W : FVec Ideal ⟨2, ![52, 48]⟩ .f32)
    (h : (⟨2, ![n, w]⟩ : Shape).Pads ![0, lo] ![0, hi] ![0, 0] ⟨2, ![n, 52]⟩) (hlo : lo + w ≤ 52) {j : ℕ} (hj : j < n) (c : ℕ) :
    ∑ k ∈ range 52, at2 (pad ⟨2, ![n, 52]⟩ ![0, lo] ![0, hi] ![0, 0] T zeroPad h h_S_ : FVec Ideal ⟨2, ![n, 52]⟩ .f32) j k * at2 W k c
      = emb T W lo w j c :=
  sum_window 52 lo w hlo _ (fun k => at2 T j k) (fun k => at2 W k c) fun k hk => at2_pad T zeroPad h h_S_ zeroPad_eq hj hk

/-- The element rows' entries. -/
theorem elementDiff_at (e : FVec Ideal S7x4 .f32) {j k : ℕ} (hj : j < 6) (hk : k < 4) :
    at2 (elementDiff e : FVec Ideal ⟨2, ![6, 4]⟩ .f32) j k = at2 e (1 + j) k - at2 e 0 k := by
  refine (at2_subf (n := 6) (m := 4) _ _ hj hk).trans (congrArg₂ (· - ·) ?_ ?_)
  · exact (at2_slice e slices_S7x4_S6x4_1_0 (by decide) (by decide) hj hk).trans (by simp only [Nat.zero_add])
  · refine (at2_repeatRow (by decide) _ bcast_S1x4_S6x4_0_1 hj hk).trans ?_
    exact (at2_slice e slices_S7x4_S1x4_0_0 (by decide) (by decide) Nat.one_pos hk).trans (by simp only [Nat.zero_add])

/-- The ring-size rows' entries. -/
theorem ringsizeDiff_at (r : FVec Ideal S7x4 .f32) {j k : ℕ} (hj : j < 6) (hk : k < 4) :
    at2 (ringsizeDiff r : FVec Ideal ⟨2, ![6, 4]⟩ .f32) j k = at2 r j k - at2 r 6 k := by
  refine (at2_subf (n := 6) (m := 4) _ _ hj hk).trans (congrArg₂ (· - ·) ?_ ?_)
  · exact (at2_slice r slices_S7x4_S6x4_0_0 (by decide) (by decide) hj hk).trans (by simp only [Nat.zero_add])
  · refine (at2_repeatRow (by decide) _ bcast_S1x4_S6x4_0_1 hj hk).trans ?_
    exact (at2_slice r slices_S7x4_S1x4_6_0 (by decide) (by decide) Nat.one_pos hk).trans (by simp only [Nat.zero_add])

/-- The flags' product at an entry: over one flag's two columns. -/
theorem flagDot_at (ft : FVec Ideal S18x2x2 .f32) (r : FVec Ideal S18x2x4 .f32) (f : Fin 18) (b : Fin 2) (k : Fin 4) :
    Host.dotGeneral dot_S18x2x2_S18x2x4_S18x2x4_2_1_1_2_0_0 none ft r (ix3 f b k)
      = ∑ a : Fin 2, (ft (ix3 f b a) : EReal) * r (ix3 f a k) := by
  simp only [Host.dotGeneral]
  rw [Ideal.dotGeneral_apply, ← Equiv.sum_comp (contrEquiv1 dot_S18x2x2_S18x2x4_S18x2x4_2_1_1_2_0_0 2 rfl rfl).symm]
  refine Finset.sum_congr rfl fun a _ => ?_
  have ha := contrEquiv1_symm_val dot_S18x2x2_S18x2x4_S18x2x4_2_1_1_2_0_0 2 rfl rfl a
  have el : dot_S18x2x2_S18x2x4_S18x2x4_2_1_1_2_0_0.lhsIdx (ix3 f b k)
      ((contrEquiv1 dot_S18x2x2_S18x2x4_S18x2x4_2_1_1_2_0_0 2 rfl rfl).symm a) = ix3 f b a := funext fun x => Fin.ext (by
    match x with
    | ⟨0, _⟩ => rfl
    | ⟨1, _⟩ => rfl
    | ⟨2, _⟩ => exact ha)
  have er : dot_S18x2x2_S18x2x4_S18x2x4_2_1_1_2_0_0.rhsIdx (ix3 f b k)
      ((contrEquiv1 dot_S18x2x2_S18x2x4_S18x2x4_2_1_1_2_0_0 2 rfl rfl).symm a) = ix3 f a k := funext fun x => Fin.ext (by
    match x with
    | ⟨0, _⟩ => rfl
    | ⟨1, _⟩ => exact ha
    | ⟨2, _⟩ => rfl)
  rw [el, er]

/-- THE FLAGS' ROWS: row `2f + b` is row `b` of flag `f`'s table through the flag's two rows of the reducing matrix. -/
theorem flagRows_at (ft : FVec Ideal S18x2x2 .f32) (rw' : FVec Ideal S36x4 .f32) {f b k : ℕ} (hf : f < 18) (hb : b < 2) (hk : k < 4) :
    at2 (flagRows ft rw' : FVec Ideal ⟨2, ![36, 4]⟩ .f32) (2 * f + b) k
      = ∑ a ∈ range 2, at3 ft f b a * at2 rw' (2 * f + a) k := by
  rw [at2_eq _ (show 2 * f + b < 36 by omega) hk, Finset.sum_range]
  unfold flagRows
  rw [shapeCast_apply _ shapeCasts_S18x2x4_S36x4 (ix2 (⟨2 * f + b, by omega⟩ : Fin 36) (⟨k, hk⟩ : Fin 4))
    (ix3 (⟨f, hf⟩ : Fin 18) (⟨b, hb⟩ : Fin 2) (⟨k, hk⟩ : Fin 4)) (by
      rw [Shape.rowMajor_val_three, Shape.rowMajor_val_two]
      show (f * 2 + b) * 4 + k = (2 * f + b) * 4 + k
      omega), flagDot_at]
  refine Finset.sum_congr rfl fun a _ => congrArg₂ (· * ·) ?_ ?_
  · rw [at3, dif_pos ⟨hf, hb, a.isLt⟩]
  · rw [at2_eq rw' (show 2 * f + a.val < 36 by have := a.isLt; omega) hk]
    exact shapeCast_apply _ shapeCasts_S36x4_S18x2x4 (ix3 (⟨f, hf⟩ : Fin 18) a (⟨k, hk⟩ : Fin 4))
      (ix2 (⟨2 * f + a.val, by have := a.isLt; omega⟩ : Fin 36) (⟨k, hk⟩ : Fin 4)) (by
      rw [Shape.rowMajor_val_three, Shape.rowMajor_val_two]
      show (2 * f + a.val) * 4 + k = (f * 2 + a.val) * 4 + k
      omega)

/-! ## The lanes -/

/-- The lane rows' shapes. -/
abbrev shapes129 : List Shape :=
  [S6x52, S7x52, S2x52, S8x52, S2x52, S6x52, S5x52, S36x52, S2x52, S2x52, S6x52, S5x52, S8x52, S27x52, S1x52, S6x52]

variable (a1 a2 : FVec Ideal S7x4 .f32) (a3 : FVec Ideal S2x4 .f32) (a4 : FVec Ideal S8x4 .f32) (a5 : FVec Ideal S2x4 .f32)
  (a6 : FVec Ideal S6x4 .f32) (a7 : FVec Ideal S5x4 .f32) (a8 : FVec Ideal S18x2x2 .f32) (a9 a10 : FVec Ideal S2x2 .f32)
  (a11 : FVec Ideal S7x4 .f32) (a12 : FVec Ideal S5x4 .f32) (a13 : FVec Ideal S8x4 .f32) (a14 : FVec Ideal S27x4 .f32)
  (a15 : FVec Ideal S36x4 .f32) (a16 : FVec Ideal S4 .f32) (W : FVec Ideal ⟨2, ![52, 48]⟩ .f32)

/-- Lane `l`'s row contracted with the weights' column `c`. -/
def lane (l c : ℕ) : EReal :=
  ∑ k ∈ range 52, at2 (laneRows a1 a2 a3 a4 a5 a6 a7 a8 a9 a10 a11 a12 a13 a14 a15 a16 : FVec Ideal ⟨2, ![129, 52]⟩ .f32) l k * at2 W k c

/-- An element lane: the table's row less row 0, times the element's weights. -/
theorem element_lane {j : ℕ} (hj : j < 6) (c : ℕ) : lane a1 a2 a3 a4 a5 a6 a7 a8 a9 a10 a11 a12 a13 a14 a15 a16 W (0 + j) c
    = ∑ k ∈ range 4, (at2 a1 (1 + j) k - at2 a1 0 k) * at2 W (0 + k) c :=
  (sum_congr rfl fun k hk => congrArg (· * at2 W k c) (at2_concatRows rfl 0 (by simp) _ rfl 0 (start_of 0 shapes129 rfl (by decide))
    (by decide) hj (mem_range.mp hk))).trans ((pad_contract (elementDiff a1) W pads_S6x4_S6x52_000_0480 (by decide) hj c).trans
      (sum_congr rfl fun k hk => congrArg (· * at2 W (0 + k) c) (elementDiff_at a1 hj (mem_range.mp hk))))

/-- A degree lane: the table's row times its weights. -/
theorem degree_lane {j : ℕ} (hj : j < 7) (c : ℕ) : lane a1 a2 a3 a4 a5 a6 a7 a8 a9 a10 a11 a12 a13 a14 a15 a16 W (6 + j) c
    = emb a2 W 4 4 j c :=
  (sum_congr rfl fun k hk => congrArg (· * at2 W k c) (at2_concatRows rfl 1 (by simp) _ rfl 6 (start_of 0 shapes129 rfl (by decide))
    (by decide) hj (mem_range.mp hk))).trans (pad_contract a2 W _ (by decide) hj c)

/-- A ring lane: the table's row times its weights. -/
theorem ring_lane {j : ℕ} (hj : j < 2) (c : ℕ) : lane a1 a2 a3 a4 a5 a6 a7 a8 a9 a10 a11 a12 a13 a14 a15 a16 W (13 + j) c
    = emb a3 W 8 4 j c :=
  (sum_congr rfl fun k hk => congrArg (· * at2 W k c) (at2_concatRows rfl 2 (by simp) _ rfl 13 (start_of 0 shapes129 rfl (by decide))
    (by decide) hj (mem_range.mp hk))).trans (pad_contract a3 W _ (by decide) hj c)

/-- A charge lane: the table's row times its weights. -/
theorem charge_lane {j : ℕ} (hj : j < 8) (c : ℕ) : lane a1 a2 a3 a4 a5 a6 a7 a8 a9 a10 a11 a12 a13 a14 a15 a16 W (15 + j) c
    = emb a4 W 12 4 j c :=
  (sum_congr rfl fun k hk => congrArg (· * at2 W k c) (at2_concatRows rfl 3 (by simp) _ rfl 15 (start_of 0 shapes129 rfl (by decide))
    (by decide) hj (mem_range.mp hk))).trans (pad_contract a4 W _ (by decide) hj c)

/-- A aromatic lane: the table's row times its weights. -/
theorem aromatic_lane {j : ℕ} (hj : j < 2) (c : ℕ) : lane a1 a2 a3 a4 a5 a6 a7 a8 a9 a10 a11 a12 a13 a14 a15 a16 W (23 + j) c
    = emb a5 W 16 4 j c :=
  (sum_congr rfl fun k hk => congrArg (· * at2 W k c) (at2_concatRows rfl 4 (by simp) _ rfl 23 (start_of 0 shapes129 rfl (by decide))
    (by decide) hj (mem_range.mp hk))).trans (pad_contract a5 W _ (by decide) hj c)

/-- A hybridisation lane: the table's row times its weights. -/
theorem hybrid_lane {j : ℕ} (hj : j < 6) (c : ℕ) : lane a1 a2 a3 a4 a5 a6 a7 a8 a9 a10 a11 a12 a13 a14 a15 a16 W (25 + j) c
    = emb a6 W 20 4 j c :=
  (sum_congr rfl fun k hk => congrArg (· * at2 W k c) (at2_concatRows rfl 5 (by simp) _ rfl 25 (start_of 0 shapes129 rfl (by decide))
    (by decide) hj (mem_range.mp hk))).trans (pad_contract a6 W _ (by decide) hj c)

/-- A hydrogen lane: the table's row times its weights. -/
theorem hydrogen_lane {j : ℕ} (hj : j < 5) (c : ℕ) : lane a1 a2 a3 a4 a5 a6 a7 a8 a9 a10 a11 a12 a13 a14 a15 a16 W (31 + j) c
    = emb a7 W 24 4 j c :=
  (sum_congr rfl fun k hk => congrArg (· * at2 W k c) (at2_concatRows rfl 6 (by simp) _ rfl 31 (start_of 0 shapes129 rfl (by decide))
    (by decide) hj (mem_range.mp hk))).trans (pad_contract a7 W _ (by decide) hj c)

/-- A donor lane: the table's row times its weights. -/
theorem donor_lane {j : ℕ} (hj : j < 2) (c : ℕ) : lane a1 a2 a3 a4 a5 a6 a7 a8 a9 a10 a11 a12 a13 a14 a15 a16 W (72 + j) c
    = emb a9 W 32 2 j c :=
  (sum_congr rfl fun k hk => congrArg (· * at2 W k c) (at2_concatRows rfl 8 (by simp) _ rfl 72 (start_of 0 shapes129 rfl (by decide))
    (by decide) hj (mem_range.mp hk))).trans (pad_contract a9 W _ (by decide) hj c)

/-- A acceptor lane: the table's row times its weights. -/
theorem acceptor_lane {j : ℕ} (hj : j < 2) (c : ℕ) : lane a1 a2 a3 a4 a5 a6 a7 a8 a9 a10 a11 a12 a13 a14 a15 a16 W (74 + j) c
    = emb a10 W 34 2 j c :=
  (sum_congr rfl fun k hk => congrArg (· * at2 W k c) (at2_concatRows rfl 9 (by simp) _ rfl 74 (start_of 0 shapes129 rfl (by decide))
    (by decide) hj (mem_range.mp hk))).trans (pad_contract a10 W _ (by decide) hj c)

/-- A aromaticity lane: the table's row times its weights. -/
theorem aroma_lane {j : ℕ} (hj : j < 5) (c : ℕ) : lane a1 a2 a3 a4 a5 a6 a7 a8 a9 a10 a11 a12 a13 a14 a15 a16 W (82 + j) c
    = emb a12 W 40 4 j c :=
  (sum_congr rfl fun k hk => congrArg (· * at2 W k c) (at2_concatRows rfl 11 (by simp) _ rfl 82 (start_of 0 shapes129 rfl (by decide))
    (by decide) hj (mem_range.mp hk))).trans (pad_contract a12 W _ (by decide) hj c)

/-- A fused-ring lane: the table's row times its weights. -/
theorem fused_lane {j : ℕ} (hj : j < 8) (c : ℕ) : lane a1 a2 a3 a4 a5 a6 a7 a8 a9 a10 a11 a12 a13 a14 a15 a16 W (87 + j) c
    = emb a13 W 44 4 j c :=
  (sum_congr rfl fun k hk => congrArg (· * at2 W k c) (at2_concatRows rfl 12 (by simp) _ rfl 87 (start_of 0 shapes129 rfl (by decide))
    (by decide) hj (mem_range.mp hk))).trans (pad_contract a13 W _ (by decide) hj c)

/-- A hetero-atom lane: the table's row times its weights. -/
theorem hetero_lane {j : ℕ} (hj : j < 27) (c : ℕ) : lane a1 a2 a3 a4 a5 a6 a7 a8 a9 a10 a11 a12 a13 a14 a15 a16 W (95 + j) c
    = emb a14 W 48 4 j c :=
  (sum_congr rfl fun k hk => congrArg (· * at2 W k c) (at2_concatRows rfl 13 (by simp) _ rfl 95 (start_of 0 shapes129 rfl (by decide))
    (by decide) hj (mem_range.mp hk))).trans (pad_contract a14 W _ (by decide) hj c)

/-- A ring-size lane: the table's row less row 6, times the ring size's weights. -/
theorem ringsize_lane {j : ℕ} (hj : j < 6) (c : ℕ) : lane a1 a2 a3 a4 a5 a6 a7 a8 a9 a10 a11 a12 a13 a14 a15 a16 W (76 + j) c
    = ∑ k ∈ range 4, (at2 a11 j k - at2 a11 6 k) * at2 W (36 + k) c :=
  (sum_congr rfl fun k hk => congrArg (· * at2 W k c) (at2_concatRows rfl 10 (by simp) _ rfl 76 (start_of 0 shapes129 rfl (by decide))
    (by decide) hj (mem_range.mp hk))).trans ((pad_contract (ringsizeDiff a11) W pads_S6x4_S6x52_000_36120 (by decide) hj c).trans
      (sum_congr rfl fun k hk => congrArg (· * at2 W (36 + k) c) (ringsizeDiff_at a11 hj (mem_range.mp hk))))

/-- A flag's lane: the flag's row, reduced, times the flags' weights. -/
theorem flag_lane {f b : ℕ} (hf : f < 18) (hb : b < 2) (c : ℕ) : lane a1 a2 a3 a4 a5 a6 a7 a8 a9 a10 a11 a12 a13 a14 a15 a16 W (36 + (2 * f + b)) c
    = ∑ k ∈ range 4, (∑ a ∈ range 2, at3 a8 f b a * at2 a15 (2 * f + a) k) * at2 W (28 + k) c :=
  (sum_congr rfl fun k hk => congrArg (· * at2 W k c) (at2_concatRows rfl 7 (by simp) _ rfl 36 (start_of 0 shapes129 rfl (by decide))
    (by decide) (show 2 * f + b < 36 by omega) (mem_range.mp hk))).trans
    ((pad_contract (flagRows a8 a15) W pads_S36x4_S36x52_000_28200 (by decide) (show 2 * f + b < 36 by omega) c).trans
      (sum_congr rfl fun k hk => congrArg (· * at2 W (28 + k) c) (flagRows_at a8 a15 hf hb (mem_range.mp hk))))

/-- The always-hot row's entries. -/
theorem constRow_at (e r : FVec Ideal S7x4 .f32) (b : FVec Ideal S4 .f32) {k : ℕ} (hk : k < 52) :
    at2 (constRow e r b : FVec Ideal ⟨2, ![1, 52]⟩ .f32) 0 k
      = (if 0 ≤ k ∧ k < 0 + 4 then at2 e 0 (k - 0) else 0) + (if 36 ≤ k ∧ k < 36 + 4 then at2 r 6 (k - 36) else 0)
        + (if 28 ≤ k ∧ k < 28 + 4 then at1 b (k - 28) else 0) := by
  refine (at2_addf (n := 1) (m := 52) _ _ Nat.one_pos hk).trans (congrArg₂ (· + ·)
    ((at2_addf (n := 1) (m := 52) _ _ Nat.one_pos hk).trans (congrArg₂ (· + ·) ?_ ?_)) ?_)
  · refine (at2_pad _ zeroPad _ h_S_ zeroPad_eq Nat.one_pos hk).trans ?_
    split_ifs with h
    · exact (at2_slice e slices_S7x4_S1x4_0_0 (by decide) (by decide) Nat.one_pos (by omega)).trans (by simp only [Nat.zero_add])
    · rfl
  · refine (at2_pad _ zeroPad _ h_S_ zeroPad_eq Nat.one_pos hk).trans ?_
    split_ifs with h
    · exact (at2_slice r slices_S7x4_S1x4_6_0 (by decide) (by decide) Nat.one_pos (by omega)).trans (by simp only [Nat.zero_add, Nat.add_zero])
    · rfl
  · refine (at2_pad _ zeroPad _ h_S_ zeroPad_eq Nat.one_pos hk).trans ?_
    split_ifs with h
    · exact at2_row (by decide) b bcast_S4_S1x4_1 (by omega)
    · rfl

/-- The always-hot lane: element row 0, ring-size row 6 and the reducing bias, each times its weights (their columns do not
    meet, so each column has one term of the three). -/
theorem const_lane (c : ℕ) : lane a1 a2 a3 a4 a5 a6 a7 a8 a9 a10 a11 a12 a13 a14 a15 a16 W 122 c
    = emb a1 W 0 4 0 c + emb a11 W 36 4 6 c + ∑ k ∈ range 4, at1 a16 k * at2 W (28 + k) c := by
  refine (sum_congr rfl fun k hk => congrArg (· * at2 W k c) ((at2_concatRows rfl 14 (by simp) _ rfl 122 (start_of 0 shapes129 rfl (by decide))
    (by decide) Nat.one_pos (mem_range.mp hk)).trans (constRow_at a1 a11 a16 (mem_range.mp hk)))).trans ?_
  unfold emb
  rw [← sum_window 52 0 4 (by decide) _ (fun k => at2 a1 0 k) (fun k => at2 W k c) fun k _ => rfl,
    ← sum_window 52 36 4 (by decide) _ (fun k => at2 a11 6 k) (fun k => at2 W k c) fun k _ => rfl,
    ← sum_window 52 28 4 (by decide) _ (fun k => at1 a16 k) (fun k => at2 W k c) fun k _ => rfl,
    ← sum_add_distrib, ← sum_add_distrib]
  refine sum_congr rfl fun k _ => ?_
  by_cases h₁ : k < 4
  · rw [if_pos (by omega), if_neg (by omega), if_neg (by omega), add_zero, add_zero, zero_mul, add_zero, add_zero]
  by_cases h₂ : 36 ≤ k ∧ k < 36 + 4
  · rw [if_neg (by omega), if_pos h₂, if_neg (by omega), zero_add, add_zero, zero_mul, zero_add, add_zero]
  · rw [if_neg (by omega), if_neg h₂, zero_add, zero_add, zero_mul, zero_add, zero_add]

end Cert.LaneRows

end
-- ==== Proof.Lanes.lean ====
/-
  The kernel's constants: which feature each lane looks at, the value it looks for, and the clips of the features.
-/
module

public import proofs.«01_k».proof.Proof.Words
public import proofs.«01_k».proof.Proof.Reads
public import proofs.«01_k».proof.Proof.Gen.KernelIdeal.Skeleton
public import Idealize.ShloMosaic.Lib.IdealHost

@[expose] public section

noncomputable section

namespace Cert.Lanes

open Idealize.ShloMosaic Idealize.ShloMosaic.ValueIdx Cert.KernelIdeal Cert.KernelIdeal.Gen Cert.Words Cert.Reads
open Finset

/-- The feature lane `l` looks at. -/
def laneCol (l : ℕ) : ℕ :=
  if l < 6 then 0 else if l < 13 then 1 else if l < 15 then 5 else if l < 23 then 2 else if l < 25 then 4 else if l < 31 then 3
  else if l < 36 then 6 else if l < 72 then 7 + (l - 36) / 2 else if l < 74 then 25 else if l < 76 then 26 else if l < 82 then 27
  else if l < 87 then 28 else if l < 95 then 29 else 30

/-- The value lane `l` looks for; the lanes past 122 look for one that never comes. -/
def laneInt (l : ℕ) : ℤ :=
  if l < 6 then elementNo l else if l < 13 then (l : ℤ) - 6 else if l < 15 then (l : ℤ) - 14 else if l < 23 then (l : ℤ) - 15
  else if l < 25 then (l : ℤ) - 23 else if l < 31 then (l : ℤ) - 25 else if l < 36 then (l : ℤ) - 31
  else if l < 72 then ((l : ℤ) - 36) % 2 else if l < 74 then (l : ℤ) - 72 else if l < 76 then (l : ℤ) - 74
  else if l < 82 then ringNo (l - 76) else if l < 87 then (l : ℤ) - 82 else if l < 95 then (l : ℤ) - 87
  else if l < 122 then (l : ℤ) - 95 else if l = 122 then 0 else -9999

/-- The lower end of feature `k`'s clip. -/
def lo (k : ℕ) : BitVec 32 := if h : k < 32 then lit0 ⟨k, h⟩ else 0#32

/-- The upper end of feature `k`'s clip. -/
def hi (k : ℕ) : BitVec 32 := if h : k < 32 then lit1 ⟨k, h⟩ else 0#32

/-- The matrix selecting each lane's feature. -/
def selector : FVec Ideal ⟨2, ![32, 128]⟩ .f32 := fun i => FloatOps.ofBits (F := Ideal) .f32 (lit2 (S32x128.rowMajor i))

/-- The row of values looked for. -/
def lanes : FVec Ideal ⟨2, ![1, 128]⟩ .f32 := fun i => FloatOps.ofBits (F := Ideal) .f32 (lit3 (S1x128.rowMajor i))

theorem selector_bits : ∀ k < 32, ∀ l < 128, ∀ h : k * 128 + l < 4096,
    lit2 ⟨k * 128 + l, h⟩ = if k = laneCol l ∧ l < 122 then 0x3F800000#32 else 0#32 := by
  decide +kernel

theorem lanes_bits : ∀ l : Fin 128, IsInt (lit3 l) ∧ intOf (lit3 l) = laneInt l.val := by
  decide +kernel

theorem laneCol_lt : ∀ l < 128, laneCol l < 31 := by decide +kernel

/-- The selecting matrix: one at a lane's feature, below lane 122. -/
theorem selector_at {k l : ℕ} (hk : k < 32) (hl : l < 128) :
    at2 selector k l = if k = laneCol l ∧ l < 122 then 1 else 0 := by
  rw [at2_eq _ hk hl]
  unfold selector
  have hb : k * 128 + l < 4096 := by omega
  have e : S32x128.rowMajor (ix2 (⟨k, hk⟩ : Fin 32) (⟨l, hl⟩ : Fin 128)) = (⟨k * 128 + l, hb⟩ : Fin 4096) :=
    Fin.ext (Shape.rowMajor_val_two _)
  rw [e, selector_bits k hk l hl hb]
  split_ifs
  · exact Ideal.ofBits_one_f32
  · exact Ideal.ofBits_zero_f32

/-- The values looked for. -/
theorem lanes_at {l : ℕ} (hl : l < 128) : at2 lanes 0 l = (((laneInt l : ℤ) : ℝ) : EReal) := by
  rw [at2_eq _ Nat.one_pos hl]
  unfold lanes
  have e : S1x128.rowMajor (ix2 (⟨0, Nat.one_pos⟩ : Fin 1) (⟨l, hl⟩ : Fin 128)) = ⟨l, hl⟩ :=
    Fin.ext ((Shape.rowMajor_val_two _).trans (by show 0 * 128 + l = l; omega))
  rw [e]
  exact (ofBits_int _ (lanes_bits ⟨l, hl⟩).1).trans (by rw [(lanes_bits ⟨l, hl⟩).2])

/-- LANE `l`'s COEFFICIENT at feature words `wd`: one where the lane's clipped feature is the value it looks for; lane 122 is
    always one, the lanes past it always zero. -/
def hot (wd : ℕ → BitVec 32) (l : ℕ) : EReal :=
  if l < 122 then (if (clip (lo (laneCol l)) (hi (laneCol l)) (wd (laneCol l))).toInt = laneInt l then 1 else 0)
  else if l = 122 then 1 else 0

/-- The clipped features through the selecting matrix, compared with the values looked for. -/
theorem hot_eq (wd : ℕ → BitVec 32) {l : ℕ} (hl : l < 128) :
    (if ∑ k ∈ range 32, ((((clip (lo k) (hi k) (wd k)).toInt : ℤ) : ℝ) : EReal) * at2 selector k l = at2 lanes 0 l then (1 : EReal) else 0)
      = hot wd l := by
  unfold hot
  rw [lanes_at hl]
  by_cases h : l < 122
  · rw [if_pos h, Finset.sum_eq_single_of_mem (laneCol l) (mem_range.mpr (by have := laneCol_lt l hl; omega)),
      selector_at (by have := laneCol_lt l hl; omega) hl, if_pos (show laneCol l = laneCol l ∧ l < 122 from ⟨rfl, h⟩), mul_one]
    · exact if_congr ((EReal.coe_eq_coe_iff).trans Int.cast_inj) rfl rfl
    · intro k hk hne
      rw [selector_at (mem_range.mp hk) hl, if_neg fun h' => hne h'.1, mul_zero]
  · rw [if_neg h, Finset.sum_eq_zero fun k hk => by rw [selector_at (mem_range.mp hk) hl, if_neg fun h' => h h'.2, mul_zero]]
    refine if_congr ?_ rfl rfl
    rw [← EReal.coe_zero, EReal.coe_eq_coe_iff, ← Int.cast_zero, Int.cast_inj]
    have := (by decide +kernel : ∀ l < 128, ¬ l < 122 → (0 = laneInt l ↔ l = 122))
    exact this l hl h

end Cert.Lanes

end
-- ==== Proof.BlockValue.lean ====
/-
  What the kernel's body writes, entry by entry: the hot lanes' rows of the discrete table plus the features through the bond
  table.
-/
module

public import proofs.«01_k».proof.Proof.Lanes
public import proofs.«01_k».proof.Proof.RefIndex

@[expose] public section

noncomputable section

namespace Cert.BlockValue

open Idealize.ShloMosaic Idealize.ShloMosaic.ValueIdx Cert.KernelIdeal Cert.KernelIdeal.Gen Cert.Words Cert.Reads Cert.Lanes
open Cert.RefIndex (word)
open Finset

/-- A one-row matrix repeated down the rows. -/
theorem broadcastTo_row {α : Type} {n m : ℕ} (hm : m ≠ 1) (x : (⟨2, ![1, m]⟩ : Shape).Idx → α)
    (h : (⟨2, ![1, m]⟩ : Shape).Broadcasts ⟨2, ![n, m]⟩) (i : Fin n) (k : Fin m) :
    broadcastTo ⟨2, ![n, m]⟩ x h (ix2 i k) = x (ix2 0 k) := by
  unfold broadcastTo
  refine congrArg x (funext fun a => Fin.ext ?_)
  match a with
  | ⟨0, _⟩ => rfl
  | ⟨1, _⟩ =>
    have h1 : ¬ (⟨2, ![1, m]⟩ : Shape).size ⟨1, Nat.one_lt_two⟩ = 1 := hm
    exact congrArg Fin.val (dif_neg h1)

/-- A comparison turned into a number. -/
theorem flag_eq (x y : EReal) :
    (FloatOps.sitofp (F := Ideal) .f32 ((FloatOps.cmpf (F := Ideal) (φ := .f32) .oeq x y).setWidth 32) : EReal) = if x = y then 1 else 0 := by
  show ((((Ideal.cmp .oeq x y).setWidth 32).toInt : ℝ) : EReal) = _
  unfold Ideal.cmp
  by_cases h : x = y <;> simp [h]

/-- THE BODY'S RESULT at row `p` and output `c`. -/
theorem payload_at (v0 : FVec Ideal S20000x79 .f32) (v10 : FVec Ideal S32x128 .f32) (v12 : FVec Ideal S1x128 .f32)
    (v3 v4 : IVec S1x32 32) (v17 : FVec Ideal S128x64 .f32) (v20 : FVec Ideal S79x64 .f32)
    (h3 : v3 = fun i => lit0 (S1x32.rowMajor i)) (h4 : v4 = fun i => lit1 (S1x32.rowMajor i)) (h10 : v10 = selector) (h12 : v12 = lanes)
    {p c : ℕ} (hp : p < 20000) (hc : c < 64) :
    at2 (k0_pay1 (F := Ideal) v0 v3 v4 v10 v12 v17 v20 : FVec Ideal ⟨2, ![20000, 64]⟩ .f32) p c
      = (∑ l ∈ range 128, hot (fun k => FloatOps.fptosi (F := Ideal) (φ := .f32) 32 (at2 v0 p k)) l * at2 v17 l c)
        + ∑ k ∈ range 79, at2 v0 p k * at2 v20 k c := by
  subst h10 h12
  unfold k0_pay1
  refine (at2_addf _ _ hp hc).trans (congrArg₂ (· + ·) ?_ ?_)
  · refine (at2_matmul dot_S20000x128_S128x64_S20000x64_1_0_0_1_n_n rfl none _ _ _ (fun _ => Ideal.ofBits_zero_f32) hp hc).trans
      (sum_congr rfl fun l hl => congrArg₂ (· * ·) ?_ ?_)
    · have hl' := mem_range.mp hl
      rw [← hot_eq _ hl', at2_eq _ hp hl']
      show FloatOps.sitofp (F := Ideal) .f32 ((FloatOps.cmpf (F := Ideal) (φ := .f32) .oeq _ _).setWidth 32) = _
      refine (flag_eq _ _).trans (if_congr ?_ rfl rfl)
      refine Eq.congr ?_ ((broadcastTo_row (by decide) lanes _ _ _).trans (ix2_eq lanes _ _))
      refine (ix2_eq (n := 20000) (m := 128) _ _ _).trans ?_
      refine (at2_matmul dot_S20000x32_S32x128_S20000x128_1_0_0_1_n_n rfl none _ _ _ (fun _ => Ideal.ofBits_zero_f32) hp hl').trans
        (sum_congr rfl fun k hk => congrArg (· * at2 selector k l) ?_)
      have hk' := mem_range.mp hk
      rw [at2_eq _ hp hk']
      have e : ∀ h : (0 : ℕ) < 1, S1x32.rowMajor (ix2 (⟨0, h⟩ : Fin 1) (⟨k, hk'⟩ : Fin 32)) = ⟨k, hk'⟩ := fun h =>
        Fin.ext ((Shape.rowMajor_val_two _).trans (by show 0 * 32 + k = k; omega))
      have e3 : broadcastTo S20000x32 v3 broadcasts_S1x32_S20000x32 (ix2 (⟨p, hp⟩ : Fin 20000) (⟨k, hk'⟩ : Fin 32)) = lo k := by
        rw [broadcastTo_row (by decide), h3]
        unfold lo
        rw [dif_pos hk']
        exact congrArg lit0 (e Nat.one_pos)
      have e4 : broadcastTo S20000x32 v4 broadcasts_S1x32_S20000x32 (ix2 (⟨p, hp⟩ : Fin 20000) (⟨k, hk'⟩ : Fin 32)) = hi k := by
        rw [broadcastTo_row (by decide), h4]
        unfold hi
        rw [dif_pos hk']
        exact congrArg lit1 (e Nat.one_pos)
      have e0 : extractStridedSlice S20000x32 ![0, 0] v0 slices_S20000x79_o0_0_S20000x32 (ix2 (⟨p, hp⟩ : Fin 20000) (⟨k, hk'⟩ : Fin 32))
          = at2 v0 p k :=
        (ix2_eq _ _ _).trans ((at2_slice v0 slices_S20000x79_o0_0_S20000x32 (by decide) (by decide) hp hk').trans
          (by simp only [Nat.zero_add]))
      show (((IntOp.minsi (broadcastTo S20000x32 v4 broadcasts_S1x32_S20000x32 _) (IntOp.maxsi (broadcastTo S20000x32 v3 broadcasts_S1x32_S20000x32 _)
        (FloatOps.fptosi (F := Ideal) (φ := .f32) 32 (extractStridedSlice S20000x32 ![0, 0] v0 slices_S20000x79_o0_0_S20000x32 _)))).toInt : ℝ) : EReal) = _
      rw [e3, e4, e0]
      rfl
    · rw [at2_eq _ (mem_range.mp hl) hc, at2_eq v17 (mem_range.mp hl) hc]
      exact shapeCast_apply _ _ _ _ rfl
  · refine (at2_matmul dot_S20000x79_S79x64_S20000x64_1_0_0_1_n_n rfl none _ _ _ (fun _ => Ideal.ofBits_zero_f32) hp hc).trans
      (sum_congr rfl fun k hk => congrArg (at2 v0 p k * ·) ?_)
    rw [at2_eq _ (mem_range.mp hk) hc, at2_eq v20 (mem_range.mp hk) hc]
    exact shapeCast_apply _ _ _ _ rfl

end Cert.BlockValue

end
-- ==== Proof.ArrayValue.lean ====
/-
  The kernel's result array: every block is the body's result on its rows of the features, so every entry is the hot lanes'
  rows of the discrete table plus the features through the bond table.
-/
module

public import proofs.«01_k».proof.Proof.BlockValue
public import proofs.«01_k».proof.Proof.HostDisc
public import proofs.«01_k».proof.Proof.Gen.KernelIdeal.Value
public import Idealize.ShloMosaic.Lib.Pipeline.ValueKit

@[expose] public section

noncomputable section

namespace Cert.ArrayValue

open Cert.KernelIdeal Cert.KernelIdeal.Gen Cert.Tables Cert.Reads Cert.Lanes Cert.BlockValue
open Idealize.ShloMosaic Idealize.ShloMosaic.ValueIdx Idealize.ShloMosaic.TcCoe Idealize.SL.Sem
open Cert.RefIndex (word)
open Finset

/-- Entry `(i, c)` of the kernel's result: features `x`, discrete table `t`, bond table `b`. -/
def entry (x : FVec Ideal S500000x79 .f32) (t : FVec Ideal S128x64 .f32) (b : FVec Ideal S79x64 .f32) (i c : ℕ) : EReal :=
  (∑ l ∈ range 128, hot (word x i) l * at2 t l c) + ∑ k ∈ range 79, at2 x i k * at2 b k c

/-- The kernel's result. -/
def result (x : FVec Ideal S500000x79 .f32) (t : FVec Ideal S128x64 .f32) (b : FVec Ideal S79x64 .f32) : FVec Ideal S500000x64 .f32 :=
  fun j => entry x t b (j 0).val (j 1).val

variable (m : (ℓ : Loc nD τ sig) → Buf (Elt Ideal) ℓ) (ρ : Dev nD → PrngReg)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])

/-- The features' block at point `t`: rows `20000 t …`. -/
theorem block0_at (c : Dev nD) (t : Fin cfg0.N) {p k : ℕ} (hp : p < 20000) (hk : k < 79) :
    at2 (iblk m c 0 t : FVec Ideal ⟨2, ![20000, 79]⟩ .f32) p k
      = at2 (V m c main_arg0 : FVec Ideal ⟨2, ![500000, 79]⟩ .f32) (t.val * 20000 + p) k := by
  have hN : cfg0.N = 25 := N_0
  have ht := t.isLt
  rw [at2_eq _ hp hk, at2_eq _ (show t.val * 20000 + p < 500000 by omega) hk]
  blk_simp [iblk]
  refine congrArg (V m c main_arg0) (funext fun a => Fin.ext ?_)
  match a with
  | ⟨0, _⟩ => blk_simp [index0]
  | ⟨1, _⟩ => blk_simp [index0]

/-- The other windows hold their whole arrays. -/
theorem block1 (c : Dev nD) (t : Fin cfg0.N) : (iblk m c 1 t : IVec S1x32 32) = V m c main_c := funext fun y => by
  blk_simp [iblk]; refine congrArg (V m c main_c) ?_; blk_ext [index1]
theorem block2 (c : Dev nD) (t : Fin cfg0.N) : (iblk m c 2 t : IVec S1x32 32) = V m c main_c_0 := funext fun y => by
  blk_simp [iblk]; refine congrArg (V m c main_c_0) ?_; blk_ext [index2]
theorem block3 (c : Dev nD) (t : Fin cfg0.N) : (iblk m c 3 t : FVec Ideal S32x128 .f32) = V m c main_cst := funext fun y => by
  blk_simp [iblk]; refine congrArg (V m c main_cst) ?_; blk_ext [index3]
theorem block4 (c : Dev nD) (t : Fin cfg0.N) : (iblk m c 4 t : FVec Ideal S1x128 .f32) = V m c main_cst_1 := funext fun y => by
  blk_simp [iblk]; refine congrArg (V m c main_cst_1) ?_; blk_ext [index4]
theorem block5 (c : Dev nD) (t : Fin cfg0.N) : (iblk m c 5 t : FVec Ideal S128x64 .f32) = V m c main_v43 := funext fun y => by
  blk_simp [iblk]; refine congrArg (V m c main_v43) ?_; blk_ext [index5]
theorem block6 (c : Dev nD) (t : Fin cfg0.N) : (iblk m c 6 t : FVec Ideal S79x64 .f32) = V m c main_v48 := funext fun y => by
  blk_simp [iblk]; refine congrArg (V m c main_v48) ?_; blk_ext [index6]

/-- THE RESULT ARRAY. -/
theorem final_out (c : Dev nD) : (dats m 0 c).arrAt 7 cfg0.N
    = (result (V m c main_arg0) (V m c main_v43) (V m c main_v48) : Buf (Elt Ideal) ((c : Thread nD τ).loc main_v49)) := by
  refine (dats m 0 c).arrAt_eq_of_covers 7 _ (by decide +kernel) fun t hf y => ?_
  blk_simp
  rw [after0_7]
  frame_out
  obtain ⟨p, q, rfl⟩ : ∃ (p : Fin 20000) (q : Fin 64), y = ValueIdx.ix2 p q := ⟨y 0, y 1, ValueIdx.eq_ix2 y⟩
  refine (ix2_eq (n := 20000) (m := 64) _ p q).trans ?_
  rw [payload_at _ _ _ _ _ _ _ ((block1 m c t).trans (HostValue.V_lower m c)) ((block2 m c t).trans (HostValue.V_upper m c))
    ((block3 m c t).trans (HostValue.V_selector m c)) ((block4 m c t).trans (HostValue.V_lanes m c)) p.isLt q.isLt,
    block5, block6]
  have e0 : ((win0_7.blk t).view.emb (ValueIdx.ix2 p q) 0 : ℕ) = t.val * 20000 + p.val := by blk_simp [index7]; rfl
  have e1 : ((win0_7.blk t).view.emb (ValueIdx.ix2 p q) 1 : ℕ) = q.val := by blk_simp [index7]; rfl
  show _ = entry _ _ _ ((win0_7.blk t).view.emb (ValueIdx.ix2 p q) 0 : ℕ) ((win0_7.blk t).view.emb (ValueIdx.ix2 p q) 1 : ℕ)
  rw [e0, e1]
  unfold entry
  refine congrArg₂ (· + ·) (sum_congr rfl fun l hl => congrArg (· * _) ?_)
    (sum_congr rfl fun k hk => congrArg (· * _) (block0_at m c t p.isLt (mem_range.mp hk)))
  exact congrArg (fun v : EReal => if l < 122 then (if (Words.clip (lo (laneCol l)) (hi (laneCol l))
    (FloatOps.fptosi (F := Ideal) (φ := .f32) 32 v)).toInt = laneInt l then (1 : EReal) else 0) else if l = 122 then 1 else 0)
    (block0_at m c t p.isLt (show laneCol l < 79 by have := laneCol_lt l (mem_range.mp hl); omega))

end Cert.ArrayValue

end
-- ==== Proof.Equation.lean ====
/-
  The kernel's entries are the reference's: each table's hot lanes pick the row the reference takes; the always-hot lane
  completes the element rows, the ring-size rows and the reducing bias.
-/
module

public import proofs.«01_k».proof.Proof.LaneRows
public import proofs.«01_k».proof.Proof.ArrayValue
public import proofs.«01_k».proof.Proof.RefValue

@[expose] public section

noncomputable section

namespace Cert.Equation

open Idealize.ShloMosaic Cert.KernelIdeal Cert.KernelIdeal.Gen Cert.Tables Cert.Reads Cert.Sums Cert.Words Cert.Lanes
open Cert.RefIndex (at3 word clampRow clampRow_lt)
open Cert.RefValue (emb discValue)
open Cert.Scatters (discTable_at discTable_bond bondTable_at)
open Cert.ArrayValue (entry)
open Cert.LaneRows
open Finset

/-! ## The lanes' coefficients -/

/-- A sum over the 128 lanes, cut into the tables' lanes, the always-hot lane and the lanes never hot. -/
theorem sum_128 (f : ℕ → EReal) : ∑ l ∈ range 128, f l
    = ∑ j ∈ range 6, f j + ∑ j ∈ range 7, f (6 + j) + ∑ j ∈ range 2, f (13 + j) + ∑ j ∈ range 8, f (15 + j)
      + ∑ j ∈ range 2, f (23 + j) + ∑ j ∈ range 6, f (25 + j) + ∑ j ∈ range 5, f (31 + j) + ∑ j ∈ range 36, f (36 + j)
      + ∑ j ∈ range 2, f (72 + j) + ∑ j ∈ range 2, f (74 + j) + ∑ j ∈ range 6, f (76 + j) + ∑ j ∈ range 5, f (82 + j)
      + ∑ j ∈ range 8, f (87 + j) + ∑ j ∈ range 27, f (95 + j) + ∑ j ∈ range 1, f (122 + j) + ∑ j ∈ range 5, f (123 + j) := by
  show ∑ l ∈ range (6 + 7 + 2 + 8 + 2 + 6 + 5 + 36 + 2 + 2 + 6 + 5 + 8 + 27 + 1 + 5), f l = _
  rw [sum_cut, sum_cut, sum_cut, sum_cut, sum_cut, sum_cut, sum_cut, sum_cut, sum_cut, sum_cut, sum_cut, sum_cut, sum_cut, sum_cut, sum_cut]

/-- A lane's coefficient, below lane 122. -/
theorem hot_lt (wd : ℕ → BitVec 32) {l : ℕ} (h : l < 122) :
    hot wd l = if (clip (lo (laneCol l)) (hi (laneCol l)) (wd (laneCol l))).toInt = laneInt l then 1 else 0 := if_pos h

/-- Lanes that look for `0 … n - 1` at a feature clipped to `0 … n - 1`: the hot one is the clamped feature's. -/
theorem hot_clamp (wd : ℕ → BitVec 32) {base k n : ℕ} (hn : 0 < n) (hn' : n < 2 ^ 31) (hlo : lo k = 0#32)
    (hhi : hi k = BitVec.ofNat 32 (n - 1)) {j : ℕ} (h : base + j < 122 ∧ laneCol (base + j) = k ∧ laneInt (base + j) = (j : ℤ)) :
    hot wd (base + j) = if clampRow n (wd k) = j then 1 else 0 := by
  obtain ⟨h1, h2, h3⟩ := h
  rw [hot_lt wd h1, h2, h3, hlo, hhi, ← (clip_toNat n hn hn' (wd k)).1]
  exact if_congr Int.natCast_inj rfl rfl

/-- Such lanes' sum is the clamped feature's row. -/
theorem pick_clamp (wd : ℕ → BitVec 32) (L E : ℕ → EReal) {base k n : ℕ} (hn : 0 < n) (hn' : n < 2 ^ 31) (hlo : lo k = 0#32)
    (hhi : hi k = BitVec.ofNat 32 (n - 1)) (h : ∀ j < n, base + j < 122 ∧ laneCol (base + j) = k ∧ laneInt (base + j) = (j : ℤ))
    (hL : ∀ j < n, L (base + j) = E j) :
    ∑ j ∈ range n, hot wd (base + j) * L (base + j) = E (clampRow n (wd k)) :=
  (sum_congr rfl fun j hj => congrArg (hot wd (base + j) * ·) (hL j (mem_range.mp hj))).trans
    (sum_pick n _ (clampRow_lt n hn hn' (wd k)) (fun j => hot wd (base + j)) E fun j hj => hot_clamp wd hn hn' hlo hhi (h j hj))

/-- A word clipped between the least and the largest word is itself. -/
theorem clip_whole (x : BitVec 32) : (clip 2147483648#32 2147483647#32 x).toInt = x.toInt := by
  rw [clip_toInt, show (2147483648#32).toInt = -2147483648 from by decide, show (2147483647#32).toInt = 2147483647 from by decide]
  have h1 := BitVec.le_toInt x
  have h2 := BitVec.toInt_lt (x := x)
  omega

/-- The element lanes. -/
theorem hot_element (wd : ℕ → BitVec 32) {j : ℕ} (hj : j < 6) : hot wd j = if (elementRow (wd 0)).toNat = 1 + j then 1 else 0 := by
  obtain ⟨h1, h2⟩ := (by decide +kernel : ∀ j < 6, laneCol j = 0 ∧ laneInt j = elementNo j) j hj
  rw [hot_lt wd (by omega), h1, h2, show lo 0 = 2147483648#32 from rfl, show hi 0 = 2147483647#32 from rfl, clip_whole]
  exact if_congr (((elementRow_spec (wd 0)).2 j hj).trans (by omega)) rfl rfl

/-- The ring-size lanes. -/
theorem hot_ringsize (wd : ℕ → BitVec 32) {j : ℕ} (hj : j < 6) : hot wd (76 + j) = if (ringRow (wd 27)).toNat = j then 1 else 0 := by
  obtain ⟨h1, h2⟩ := (by decide +kernel : ∀ j < 6, laneCol (76 + j) = 27 ∧ laneInt (76 + j) = ringNo j) j hj
  rw [hot_lt wd (by omega), h1, h2, show lo 27 = 2147483648#32 from rfl, show hi 27 = 2147483647#32 from rfl, clip_whole]
  exact if_congr ((ringRow_spec (wd 27)).2 j hj) rfl rfl

/-- The ring lanes, at a feature below the largest word. -/
theorem hot_ring (wd : ℕ → BitVec 32) (h : (wd 5).toInt < 2147483647) {j : ℕ} (hj : j < 2) :
    hot wd (13 + j) = if clampRow 2 (IntOp.addi (wd 5) 1#32) = j then 1 else 0 := by
  obtain ⟨h1, h2⟩ := (by decide +kernel : ∀ j < 2, laneCol (13 + j) = 5 ∧ laneInt (13 + j) = (j : ℤ) - 1) j hj
  rw [hot_lt wd (by omega), h1, h2, show lo 5 = 4294967295#32 from rfl, show hi 5 = 0#32 from rfl]
  have := ring_spec (wd 5) h
  refine if_congr (?_ : _ ↔ (clip 0#32 1#32 (IntOp.addi (wd 5) 1#32)).toNat = j) rfl rfl
  omega

/-! ## The discrete columns -/

section
variable (a1 a2 : FVec Ideal S7x4 .f32) (a3 : FVec Ideal S2x4 .f32) (a4 : FVec Ideal S8x4 .f32) (a5 : FVec Ideal S2x4 .f32)
  (a6 : FVec Ideal S6x4 .f32) (a7 : FVec Ideal S5x4 .f32) (a8 : FVec Ideal S18x2x2 .f32) (a9 a10 : FVec Ideal S2x2 .f32)
  (a11 : FVec Ideal S7x4 .f32) (a12 : FVec Ideal S5x4 .f32) (a13 : FVec Ideal S8x4 .f32) (a14 : FVec Ideal S27x4 .f32)
  (a15 : FVec Ideal S36x4 .f32) (a16 : FVec Ideal S4 .f32) (W : FVec Ideal S52x48 .f32) (wd : ℕ → BitVec 32) (c : ℕ)

/-- The element lanes and the always-hot lane's row 0 make the element's row, where row 0 and its weights are finite. -/
theorem element_sum (h0 : ∀ k < 4, Fin' (at2 a1 0 k)) (hW : ∀ k < 4, Fin' (at2 W (0 + k) c)) :
    ∑ j ∈ range 6, hot wd j * lane a1 a2 a3 a4 a5 a6 a7 a8 a9 a10 a11 a12 a13 a14 a15 a16 W j c + emb a1 W 0 4 0 c
      = emb a1 W 0 4 (elementRow (wd 0)).toNat c := by
  have hl := (elementRow_spec (wd 0)).1
  refine (congrArg (· + emb a1 W 0 4 0 c) (sum_congr rfl fun j hj => congrArg (hot wd j * ·) ?_)).trans
    (diff_lanes 6 4 (fun j => hot wd j) (fun r k => at2 a1 r k) (fun j => 1 + j) (elementRow (wd 0)).toNat 0
      (fun k => at2 W (0 + k) c) h0 hW ?_ (fun j _ j' _ h => by omega) (fun j _ => by omega) fun j hj => hot_element wd hj)
  · have := element_lane a1 a2 a3 a4 a5 a6 a7 a8 a9 a10 a11 a12 a13 a14 a15 a16 W (mem_range.mp hj) c
    rwa [Nat.zero_add] at this
  · by_cases h : (elementRow (wd 0)).toNat = 0
    · exact Or.inr h
    · exact Or.inl ⟨(elementRow (wd 0)).toNat - 1, by omega, by omega⟩

/-- The ring-size lanes and the always-hot lane's row 6 make the ring size's row, where row 6 and its weights are finite. -/
theorem ringsize_sum (h0 : ∀ k < 4, Fin' (at2 a11 6 k)) (hW : ∀ k < 4, Fin' (at2 W (36 + k) c)) :
    ∑ j ∈ range 6, hot wd (76 + j) * lane a1 a2 a3 a4 a5 a6 a7 a8 a9 a10 a11 a12 a13 a14 a15 a16 W (76 + j) c + emb a11 W 36 4 6 c
      = emb a11 W 36 4 (ringRow (wd 27)).toNat c := by
  have hl := (ringRow_spec (wd 27)).1
  refine (congrArg (· + emb a11 W 36 4 6 c) (sum_congr rfl fun j hj => congrArg (hot wd (76 + j) * ·)
    (ringsize_lane a1 a2 a3 a4 a5 a6 a7 a8 a9 a10 a11 a12 a13 a14 a15 a16 W (mem_range.mp hj) c))).trans
    (diff_lanes 6 4 (fun j => hot wd (76 + j)) (fun r k => at2 a11 r k) (fun j => j) (ringRow (wd 27)).toNat 6
      (fun k => at2 W (36 + k) c) h0 hW ?_ (fun j _ j' _ h => h) (fun j hj => by omega) fun j hj => hot_ringsize wd hj)
  by_cases h : (ringRow (wd 27)).toNat = 6
  · exact Or.inr h
  · exact Or.inl ⟨(ringRow (wd 27)).toNat, by omega, rfl⟩

/-- The flags' lanes and the always-hot lane's bias make the reduced flags, where the flags' tables, the reducing weights
and the flags' weights are finite. -/
theorem flags_sum (h8 : ∀ f < 18, ∀ b < 2, ∀ a < 2, Fin' (at3 a8 f b a)) (h15 : ∀ p < 36, ∀ k < 4, Fin' (at2 a15 p k))
    (hW : ∀ k < 4, Fin' (at2 W (28 + k) c)) :
    ∑ j ∈ range 36, hot wd (36 + j) * lane a1 a2 a3 a4 a5 a6 a7 a8 a9 a10 a11 a12 a13 a14 a15 a16 W (36 + j) c
        + ∑ k ∈ range 4, at1 a16 k * at2 W (28 + k) c
      = ∑ k ∈ range 4, ((∑ f ∈ range 18, ∑ b ∈ range 2, at3 a8 f (clampRow 2 (wd (7 + f))) b * at2 a15 (2 * f + b) k)
          + at1 a16 k) * at2 W (28 + k) c := by
  have hc : ∀ f < 18, lo (7 + f) = 0#32 ∧ hi (7 + f) = 1#32 := by decide +kernel
  have hl : ∀ f < 18, ∀ j < 2, 36 + 2 * f + j < 122 ∧ laneCol (36 + 2 * f + j) = 7 + f ∧ laneInt (36 + 2 * f + j) = (j : ℤ) := by
    decide +kernel
  have one : ∀ f < 18, ∑ b ∈ range 2, hot wd (36 + (2 * f + b)) * lane a1 a2 a3 a4 a5 a6 a7 a8 a9 a10 a11 a12 a13 a14 a15 a16 W (36 + (2 * f + b)) c
      = ∑ k ∈ range 4, (∑ a ∈ range 2, at3 a8 f (clampRow 2 (wd (7 + f))) a * at2 a15 (2 * f + a) k) * at2 W (28 + k) c :=
    fun f hf => by
      simp only [← Nat.add_assoc 36]
      refine pick_clamp wd (fun l => lane a1 a2 a3 a4 a5 a6 a7 a8 a9 a10 a11 a12 a13 a14 a15 a16 W l c)
        (fun b => ∑ k ∈ range 4, (∑ a ∈ range 2, at3 a8 f b a * at2 a15 (2 * f + a) k) * at2 W (28 + k) c)
        (by decide) (by decide) (hc f hf).1 (hc f hf).2 (hl f hf) fun j hj => ?_
      rw [Nat.add_assoc]
      exact flag_lane a1 a2 a3 a4 a5 a6 a7 a8 a9 a10 a11 a12 a13 a14 a15 a16 W hf hj c
  rw [← fold_flags 18 4 (fun f k => ∑ b ∈ range 2, at3 a8 f (clampRow 2 (wd (7 + f))) b * at2 a15 (2 * f + b) k)
    (fun k => at1 a16 k) (fun k => at2 W (28 + k) c) (fun f hf k hk => fin_sum _ _ fun b hb =>
      (h8 f hf _ (clampRow_lt 2 (by decide) (by decide) _) b (mem_range.mp hb)).mul
        (h15 _ (by have := mem_range.mp hb; omega) k hk)) hW]
  exact congrArg (· + ∑ k ∈ range 4, at1 a16 k * at2 W (28 + k) c) ((sum_pairs 18 _).trans
    (sum_congr rfl fun f hf => one f (mem_range.mp hf)))

/-- The ring lanes make the ring feature's row, below the largest word. -/
theorem ring_sum (h : (wd 5).toInt < 2147483647) :
    ∑ j ∈ range 2, hot wd (13 + j) * lane a1 a2 a3 a4 a5 a6 a7 a8 a9 a10 a11 a12 a13 a14 a15 a16 W (13 + j) c
      = emb a3 W 8 4 (clampRow 2 (IntOp.addi (wd 5) 1#32)) c :=
  (sum_congr rfl fun j hj => congrArg (hot wd (13 + j) * ·) (ring_lane a1 a2 a3 a4 a5 a6 a7 a8 a9 a10 a11 a12 a13 a14 a15 a16 W (mem_range.mp hj) c)).trans
    (sum_pick 2 _ (clampRow_lt 2 (by decide) (by decide) _) (fun j => hot wd (13 + j)) (fun j => emb a3 W 8 4 j c)
      fun j hj => hot_ring wd h hj)

/-- The groups of lanes, regrouped as the reference adds them. -/
theorem regroup {el e0 EL de ri ch ar hy hd fl b0 FL dn ac rs r6 RS am fu he b : EReal} (h1 : el + e0 = EL) (h2 : fl + b0 = FL)
    (h3 : rs + r6 = RS) :
    el + de + ri + ch + ar + hy + hd + fl + dn + ac + rs + am + fu + he + (e0 + r6 + b0 + b) + 0
      = EL + de + ri + ch + ar + hy + hd + FL + dn + ac + RS + am + fu + he + b := by
  rw [← h1, ← h2, ← h3]
  abel

/-- A table's lanes make its row at the clamped feature. -/
theorem table_sum {base k n : ℕ} {t : ℕ → ℕ → EReal} (hn : 0 < n) (hn' : n < 2 ^ 31) (hlo : lo k = 0#32)
    (hhi : hi k = BitVec.ofNat 32 (n - 1)) (h : ∀ j < n, base + j < 122 ∧ laneCol (base + j) = k ∧ laneInt (base + j) = (j : ℤ))
    (hL : ∀ {j : ℕ}, j < n → ∀ c : ℕ, lane a1 a2 a3 a4 a5 a6 a7 a8 a9 a10 a11 a12 a13 a14 a15 a16 W (base + j) c = t j c) :
    ∑ j ∈ range n, hot wd (base + j) * lane a1 a2 a3 a4 a5 a6 a7 a8 a9 a10 a11 a12 a13 a14 a15 a16 W (base + j) c = t (clampRow n (wd k)) c :=
  pick_clamp wd (fun l => lane a1 a2 a3 a4 a5 a6 a7 a8 a9 a10 a11 a12 a13 a14 a15 a16 W l c) (fun j => t j c) hn hn' hlo hhi h
    fun _ hj => hL hj c

/-- THE DISCRETE COLUMNS: the hot lanes' rows, and the bias in the always-hot lane, sum to the reference's value. -/
theorem disc_sum (B : FVec Ideal S48 .f32) (h0 : ∀ k < 4, Fin' (at2 a1 0 k)) (h11 : ∀ k < 4, Fin' (at2 a11 6 k))
    (h8 : ∀ f < 18, ∀ b < 2, ∀ a < 2, Fin' (at3 a8 f b a)) (h15 : ∀ p < 36, ∀ k < 4, Fin' (at2 a15 p k))
    (hW0 : ∀ k < 4, Fin' (at2 W (0 + k) c)) (hW28 : ∀ k < 4, Fin' (at2 W (28 + k) c)) (hW36 : ∀ k < 4, Fin' (at2 W (36 + k) c))
    (h5 : (wd 5).toInt < 2147483647) :
    ∑ l ∈ range 128, hot wd l * (lane a1 a2 a3 a4 a5 a6 a7 a8 a9 a10 a11 a12 a13 a14 a15 a16 W l c + if l = 122 then at1 B c else 0)
      = discValue a1 a2 a3 a4 a5 a6 a7 a8 a9 a10 a11 a12 a13 a14 a15 a16 W B wd c := by
  have off : ∀ base n : ℕ, (∀ j < n, base + j ≠ 122) →
      ∑ j ∈ range n, hot wd (base + j) * (lane a1 a2 a3 a4 a5 a6 a7 a8 a9 a10 a11 a12 a13 a14 a15 a16 W (base + j) c + if base + j = 122 then at1 B c else 0)
        = ∑ j ∈ range n, hot wd (base + j) * lane a1 a2 a3 a4 a5 a6 a7 a8 a9 a10 a11 a12 a13 a14 a15 a16 W (base + j) c :=
    fun base n h => sum_congr rfl fun j hj => by rw [if_neg (h j (mem_range.mp hj)), add_zero]
  have first := off 0 6 (fun j hj => by omega)
  simp only [Nat.zero_add] at first
  rw [sum_128, first, off 6 7 (fun j hj => by omega), off 13 2 (fun j hj => by omega), off 15 8 (fun j hj => by omega), off 23 2 (fun j hj => by omega), off 25 6 (fun j hj => by omega), off 31 5 (fun j hj => by omega), off 36 36 (fun j hj => by omega), off 72 2 (fun j hj => by omega), off 74 2 (fun j hj => by omega), off 76 6 (fun j hj => by omega), off 82 5 (fun j hj => by omega), off 87 8 (fun j hj => by omega), off 95 27 (fun j hj => by omega),
    ring_sum a1 a2 a3 a4 a5 a6 a7 a8 a9 a10 a11 a12 a13 a14 a15 a16 W wd c h5,
    table_sum a1 a2 a3 a4 a5 a6 a7 a8 a9 a10 a11 a12 a13 a14 a15 a16 W wd c (base := 6) (k := 1) (n := 7) (t := fun j c => emb a2 W 4 4 j c) (by decide) (by decide) rfl rfl (by decide +kernel) (degree_lane a1 a2 a3 a4 a5 a6 a7 a8 a9 a10 a11 a12 a13 a14 a15 a16 W),
    table_sum a1 a2 a3 a4 a5 a6 a7 a8 a9 a10 a11 a12 a13 a14 a15 a16 W wd c (base := 15) (k := 2) (n := 8) (t := fun j c => emb a4 W 12 4 j c) (by decide) (by decide) rfl rfl (by decide +kernel) (charge_lane a1 a2 a3 a4 a5 a6 a7 a8 a9 a10 a11 a12 a13 a14 a15 a16 W),
    table_sum a1 a2 a3 a4 a5 a6 a7 a8 a9 a10 a11 a12 a13 a14 a15 a16 W wd c (base := 23) (k := 4) (n := 2) (t := fun j c => emb a5 W 16 4 j c) (by decide) (by decide) rfl rfl (by decide +kernel) (aromatic_lane a1 a2 a3 a4 a5 a6 a7 a8 a9 a10 a11 a12 a13 a14 a15 a16 W),
    table_sum a1 a2 a3 a4 a5 a6 a7 a8 a9 a10 a11 a12 a13 a14 a15 a16 W wd c (base := 25) (k := 3) (n := 6) (t := fun j c => emb a6 W 20 4 j c) (by decide) (by decide) rfl rfl (by decide +kernel) (hybrid_lane a1 a2 a3 a4 a5 a6 a7 a8 a9 a10 a11 a12 a13 a14 a15 a16 W),
    table_sum a1 a2 a3 a4 a5 a6 a7 a8 a9 a10 a11 a12 a13 a14 a15 a16 W wd c (base := 31) (k := 6) (n := 5) (t := fun j c => emb a7 W 24 4 j c) (by decide) (by decide) rfl rfl (by decide +kernel) (hydrogen_lane a1 a2 a3 a4 a5 a6 a7 a8 a9 a10 a11 a12 a13 a14 a15 a16 W),
    table_sum a1 a2 a3 a4 a5 a6 a7 a8 a9 a10 a11 a12 a13 a14 a15 a16 W wd c (base := 72) (k := 25) (n := 2) (t := fun j c => emb a9 W 32 2 j c) (by decide) (by decide) rfl rfl (by decide +kernel) (donor_lane a1 a2 a3 a4 a5 a6 a7 a8 a9 a10 a11 a12 a13 a14 a15 a16 W),
    table_sum a1 a2 a3 a4 a5 a6 a7 a8 a9 a10 a11 a12 a13 a14 a15 a16 W wd c (base := 74) (k := 26) (n := 2) (t := fun j c => emb a10 W 34 2 j c) (by decide) (by decide) rfl rfl (by decide +kernel) (acceptor_lane a1 a2 a3 a4 a5 a6 a7 a8 a9 a10 a11 a12 a13 a14 a15 a16 W),
    table_sum a1 a2 a3 a4 a5 a6 a7 a8 a9 a10 a11 a12 a13 a14 a15 a16 W wd c (base := 82) (k := 28) (n := 5) (t := fun j c => emb a12 W 40 4 j c) (by decide) (by decide) rfl rfl (by decide +kernel) (aroma_lane a1 a2 a3 a4 a5 a6 a7 a8 a9 a10 a11 a12 a13 a14 a15 a16 W),
    table_sum a1 a2 a3 a4 a5 a6 a7 a8 a9 a10 a11 a12 a13 a14 a15 a16 W wd c (base := 87) (k := 29) (n := 8) (t := fun j c => emb a13 W 44 4 j c) (by decide) (by decide) rfl rfl (by decide +kernel) (fused_lane a1 a2 a3 a4 a5 a6 a7 a8 a9 a10 a11 a12 a13 a14 a15 a16 W),
    table_sum a1 a2 a3 a4 a5 a6 a7 a8 a9 a10 a11 a12 a13 a14 a15 a16 W wd c (base := 95) (k := 30) (n := 27) (t := fun j c => emb a14 W 48 4 j c) (by decide) (by decide) rfl rfl (by decide +kernel) (hetero_lane a1 a2 a3 a4 a5 a6 a7 a8 a9 a10 a11 a12 a13 a14 a15 a16 W),
    sum_range_one, Nat.add_zero, if_pos rfl, const_lane, show hot wd 122 = 1 from rfl, one_mul,
    sum_none 5 (fun j => hot wd (123 + j)) _ fun j hj => (if_neg (by omega)).trans (if_neg (by omega))]
  exact regroup (element_sum a1 a2 a3 a4 a5 a6 a7 a8 a9 a10 a11 a12 a13 a14 a15 a16 W wd c h0 hW0) (flags_sum a1 a2 a3 a4 a5 a6 a7 a8 a9 a10 a11 a12 a13 a14 a15 a16 W wd c h8 h15 hW28)
    (ringsize_sum a1 a2 a3 a4 a5 a6 a7 a8 a9 a10 a11 a12 a13 a14 a15 a16 W wd c h11 hW36)

end

end Cert.Equation

end
-- ==== Proof.Pre.lean ====
/-
  The precondition read: the entries it names are finite, and the ring column is below the largest 32-bit integer.
-/
module

public import proofs.«01_k».proof.Pre_folds_finite
public import proofs.«01_k».proof.Proof.Sums
public import proofs.«01_k».proof.Proof.RefIndex
public import Idealize.ShloMosaic.Lib.ReduceAll

@[expose] public section

noncomputable section

namespace Cert.Pre

open Idealize.ShloMosaic Idealize.ShloMosaic.ValueIdx Cert.Pre_folds_finite Cert.Sums Cert.Reads
open Cert.RefIndex (at3 word)

theorem facts : Cert.Pre_folds_finite.Facts where
  slices_S7x4_S1x4_0_0 := by decide
  bcast_S_S1x4 := by decide
  reducesTo_S1x4_S_d0_1 := by decide
  h_S_ := by decide
  slices_S7x4_S1x4_6_0 := by decide
  bcast_S_S18x2x2 := by decide
  reducesTo_S18x2x2_S_d0_1_2 := by decide
  bcast_S_S36x4 := by decide
  reducesTo_S36x4_S_d0_1 := by decide
  slices_S52x48_S4x48_0_0 := by decide
  bcast_S_S4x48 := by decide
  reducesTo_S4x48_S_d0_1 := by decide
  slices_S52x48_S4x48_28_0 := by decide
  slices_S52x48_S4x48_36_0 := by decide
  slices_S500000x79_S500000x1_0_5 := by decide
  shapeCasts_S500000x1_S500000 := by decide
  bcast_S_S500000 := by decide
  reducesTo_S500000_S_d0 := by decide

instance : Subsingleton S_.Idx := ⟨fun _ _ => funext fun a => a.elim0⟩

/-- The infinite pattern. -/
theorem ofBits_inf : Ideal.ofBits .f32 0x7F800000#32 = ⊤ := by simp [Ideal.ofBits, Ideal.ieee]

/-- An absolute value below infinity is a finite number's. -/
theorem fin_of_lt (x : EReal) (h : Ideal.cmp .olt (max x (-x)) ⊤ = 1#1) : Fin' x := by
  have h' : max x (-x) < ⊤ := by
    by_contra hn
    rw [Ideal.cmp] at h
    simp [hn] at h
  constructor
  · rintro rfl; simp at h'
  · rintro rfl; simp at h'

/-- Every entry of an array whose absolute values are all below infinity is finite. -/
theorem all_fin {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : Fin' (x i) := by
  have h := Host.reduce_andi_all _ _ hr hu j e i
  refine fin_of_lt (x i) ?_
  rw [← ofBits_inf]
  exact h

/-- THE PRECONDITION, READ. -/
theorem folds (x0 : FVec Ideal S500000x79 .f32) (x1 x2 : FVec Ideal S7x4 .f32) (x3 : FVec Ideal S2x4 .f32)
    (x4 : FVec Ideal S8x4 .f32) (x5 : FVec Ideal S2x4 .f32) (x6 : FVec Ideal S6x4 .f32) (x7 : FVec Ideal S5x4 .f32)
    (x8 : FVec Ideal S18x2x2 .f32) (x9 x10 : FVec Ideal S2x2 .f32) (x11 : FVec Ideal S7x4 .f32) (x12 : FVec Ideal S5x4 .f32)
    (x13 : FVec Ideal S8x4 .f32) (x14 : FVec Ideal S27x4 .f32) (x15 : FVec Ideal S36x4 .f32) (x16 : FVec Ideal S4 .f32)
    (x17 : FVec Ideal S48x16 .f32) (x18 : FVec Ideal S16 .f32) (x19 : FVec Ideal S52x48 .f32) (x20 : FVec Ideal S48 .f32)
    (h : @fn facts Ideal _ x0 x1 x2 x3 x4 x5 x6 x7 x8 x9 x10 x11 x12 x13 x14 x15 x16 x17 x18 x19 x20 = fun _ => 1#1) :
    (∀ k < 4, Fin' (at2 x1 0 k)) ∧ (∀ k < 4, Fin' (at2 x11 6 k)) ∧ (∀ f < 18, ∀ b < 2, ∀ a < 2, Fin' (at3 x8 f b a))
      ∧ (∀ p < 36, ∀ k < 4, Fin' (at2 x15 p k)) ∧ (∀ k < 4, ∀ c < 48, Fin' (at2 x19 (0 + k) c))
      ∧ (∀ k < 4, ∀ c < 48, Fin' (at2 x19 (28 + k) c)) ∧ (∀ k < 4, ∀ c < 48, Fin' (at2 x19 (36 + k) c))
      ∧ ∀ i < 500000, (word x0 i 5).toInt < 2147483647 := by
  have e := congrFun h (Shape.Idx.first (s := S_) (by decide))
  unfold fn fn_part1 fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have row : ∀ {n m n' m' a b : ℕ} (x : FVec Ideal ⟨2, ![n, m]⟩ .f32) (hs : (⟨2, ![n, m]⟩ : Shape).Slices ![a, b] ⟨2, ![n', m']⟩),
      a + n' ≤ n → b + m' ≤ m → (∀ i, Fin' (extractStridedSlice ⟨2, ![n', m']⟩ ![a, b] x hs i)) → ∀ i < n', ∀ k < m', Fin' (at2 x (a + i) (b + k)) :=
    fun x hs hn hm hf i hi k hk => by
      rw [← at2_slice x hs hn hm hi hk, at2_eq _ hi hk]
      exact hf _
  refine ⟨fun k hk => ?_, fun k hk => ?_, fun f hf b hb a ha => ?_, fun p hp k hk => ?_, fun k hk c hc => ?_, fun k hk c hc => ?_,
    fun k hk c hc => ?_, fun i hi => ?_⟩
  · have := row x1 facts.slices_S7x4_S1x4_0_0 (by decide) (by decide) (all_fin _ _ _ _ _ e1) 0 Nat.one_pos k hk
    simpa only [Nat.zero_add] using this
  · have := row x11 facts.slices_S7x4_S1x4_6_0 (by decide) (by decide) (all_fin _ _ _ _ _ e2) 0 Nat.one_pos k hk
    simpa only [Nat.zero_add, Nat.add_zero] using this
  · rw [at3, dif_pos ⟨hf, hb, ha⟩]; exact all_fin _ _ _ _ _ e3 _
  · rw [at2_eq _ hp hk]; exact all_fin _ _ _ _ _ e4 _
  · have := row x19 facts.slices_S52x48_S4x48_0_0 (by decide) (by decide) (all_fin _ _ _ _ _ e5) k hk c hc
    rwa [Nat.zero_add c] at this
  · have := row x19 facts.slices_S52x48_S4x48_28_0 (by decide) (by decide) (all_fin _ _ _ _ _ e6) k hk c hc
    rwa [Nat.zero_add c] at this
  · have := row x19 facts.slices_S52x48_S4x48_36_0 (by decide) (by decide) (all_fin _ _ _ _ _ e7) k hk c hc
    rwa [Nat.zero_add c] at this
  · have h8 := Host.reduce_andi_all _ _ _ _ _ e8 (ix1 (⟨i, hi⟩ : Fin 500000))
    have h9 : IntOp.cmpi .slt (Cert.RefIndex.colWord 5 facts.slices_S500000x79_S500000x1_0_5 x0 (ix1 (⟨i, hi⟩ : Fin 500000))) 2147483647#32 = 1#1 := h8
    rw [Cert.RefIndex.colWord_apply 5 (by decide)] at h9
    have h10 : BitVec.ofBool ((word x0 i 5).slt 2147483647#32) = 1#1 := h9
    rw [BitVec.slt_eq_decide] at h10
    by_contra hn
    rw [decide_eq_false (show ¬ (word x0 i 5).toInt < (2147483647#32).toInt from hn)] at h10
    exact absurd h10 (by decide)

end Cert.Pre

end
-- ==== Proof.Final.lean ====
/-
  The kernel's result is the reference's: its entries one by one, the discrete columns and the bond columns.
-/
module

public import proofs.«01_k».proof.Proof.Equation
public import proofs.«01_k».proof.Proof.Pre

@[expose] public section

noncomputable section

namespace Cert.Final

open Idealize.ShloMosaic Cert.KernelIdeal Cert.KernelIdeal.Gen Cert.Tables Cert.Reads Cert.Sums Cert.Lanes
open Cert.RefIndex (at3 word)
open Cert.Scatters (discTable_at discTable_bond bondTable_at)
open Cert.ArrayValue (entry result)
open Cert.ReferenceIdeal.Read (val_main_v262)
open Finset

variable (x0 : FVec Ideal S500000x79 .f32) (x1 x2 : FVec Ideal S7x4 .f32) (x3 : FVec Ideal S2x4 .f32) (x4 : FVec Ideal S8x4 .f32)
  (x5 : FVec Ideal S2x4 .f32) (x6 : FVec Ideal S6x4 .f32) (x7 : FVec Ideal S5x4 .f32) (x8 : FVec Ideal S18x2x2 .f32)
  (x9 x10 : FVec Ideal S2x2 .f32) (x11 : FVec Ideal S7x4 .f32) (x12 : FVec Ideal S5x4 .f32) (x13 : FVec Ideal S8x4 .f32)
  (x14 : FVec Ideal S27x4 .f32) (x15 : FVec Ideal S36x4 .f32) (x16 : FVec Ideal S4 .f32) (x17 : FVec Ideal S48x16 .f32)
  (x18 : FVec Ideal S16 .f32) (x19 : FVec Ideal S52x48 .f32) (x20 : FVec Ideal S48 .f32)

/-- In a discrete column the bond weights are zero: the entry is the hot lanes' sum. -/
theorem entry_disc (g : FVec Ideal ⟨2, ![129, 52]⟩ .f32) {i c : ℕ} (hc : c < 48) :
    entry x0 (discTable g x19 x20 x18) (bondTable x17) i c
      = ∑ l ∈ range 128, hot (word x0 i) l * ((∑ k ∈ range 52, at2 g l k * at2 x19 k c) + if l = 122 then at1 x20 c else 0) := by
  unfold entry
  have hz : ∑ k ∈ range 79, at2 x0 i k * at2 (bondTable x17 : FVec Ideal ⟨2, ![79, 64]⟩ .f32) k c = 0 :=
    sum_eq_zero fun k hk => by
      rw [bondTable_at x17 (mem_range.mp hk) (by omega), if_neg (by omega), mul_zero]
  rw [hz, add_zero]
  exact sum_congr rfl fun l hl => congrArg (hot (word x0 i) l * ·) (discTable_at g x19 x20 x18 (mem_range.mp hl) hc)

/-- In a bond column only the always-hot lane's bias is left of the lanes, and the bond features' product of the features. -/
theorem entry_bond (g : FVec Ideal ⟨2, ![129, 52]⟩ .f32) {i c : ℕ} (hc : c < 16) :
    entry x0 (discTable g x19 x20 x18) (bondTable x17) i (48 + c)
      = (∑ k ∈ range 48, at2 x0 i (31 + k) * at2 x17 k c) + at1 x18 c := by
  have h1 : ∑ l ∈ range 128, hot (word x0 i) l * at2 (discTable g x19 x20 x18 : FVec Ideal ⟨2, ![128, 64]⟩ .f32) l (48 + c)
      = at1 x18 c := by
    rw [sum_eq_single_of_mem 122 (mem_range.mpr (by decide)) fun l hl h => by
      rw [discTable_bond g x19 x20 x18 (mem_range.mp hl) hc, if_neg h, mul_zero],
      discTable_bond g x19 x20 x18 (by decide) hc, if_pos rfl, show hot (word x0 i) 122 = 1 from rfl, one_mul]
  have h2 : ∑ k ∈ range 79, at2 x0 i k * at2 (bondTable x17 : FVec Ideal ⟨2, ![79, 64]⟩ .f32) k (48 + c)
      = ∑ k ∈ range 48, at2 x0 i (31 + k) * at2 x17 k c := by
    refine (sum_cut 31 48 _).trans ((congrArg₂ (· + ·) (sum_eq_zero fun k hk => ?_) (sum_congr rfl fun k hk => ?_)).trans (zero_add _))
    · have := mem_range.mp hk
      rw [bondTable_at x17 (by omega) (by omega), if_neg (by omega), mul_zero]
    · have := mem_range.mp hk
      rw [bondTable_at x17 (by omega) (by omega), if_pos (by omega), Nat.add_sub_cancel_left, Nat.add_sub_cancel_left]
  unfold entry
  rw [h1, h2, add_comm]

/-- THE TWO RESULTS ARE ONE: under the precondition, the kernel's array is the reference's. -/
theorem result_eq
    (h : @Cert.Pre_folds_finite.fn Cert.Pre.facts Ideal _ x0 x1 x2 x3 x4 x5 x6 x7 x8 x9 x10 x11 x12 x13 x14 x15 x16 x17 x18 x19 x20
      = fun _ => 1#1) :
    result x0 (discTable (laneRows x1 x2 x3 x4 x5 x6 x7 x8 x9 x10 x11 x12 x13 x14 x15 x16) x19 x20 x18) (bondTable x17)
      = val_main_v262 (F := Ideal) x0 x1 x2 x3 x4 x5 x6 x7 x8 x9 x10 x11 x12 x13 x14 x15 x16 x17 x18 x19 x20 := by
  obtain ⟨h1, h11, h8, h15, h0, h28, h36, h5⟩ := Cert.Pre.folds x0 x1 x2 x3 x4 x5 x6 x7 x8 x9 x10 x11 x12 x13 x14 x15 x16 x17 x18
    x19 x20 h
  refine at2_ext (n := 500000) (m := 64) _ _ fun i hi c hc => ?_
  rw [at2_eq _ hi hc]
  show entry x0 _ _ i c = _
  by_cases hc' : c < 48
  · rw [entry_disc x0 x17 x18 x19 x20 _ hc', Cert.RefValue.disc_at x0 x1 x2 x3 x4 x5 x6 x7 x8 x9 x10 x11 x12 x13 x14 x15 x16 x17 x18
      x19 x20 hi hc']
    exact Cert.Equation.disc_sum x1 x2 x3 x4 x5 x6 x7 x8 x9 x10 x11 x12 x13 x14 x15 x16 x19 (word x0 i) c x20 h1 h11 h8 h15
      (fun k hk => h0 k hk c hc') (fun k hk => h28 k hk c hc') (fun k hk => h36 k hk c hc') (h5 i hi)
  · obtain ⟨d, rfl⟩ := Nat.exists_eq_add_of_le (Nat.le_of_not_lt hc')
    rw [entry_bond x0 x17 x18 x19 x20 _ (by omega)]
    exact (Cert.RefValue.bond_at x0 x1 x2 x3 x4 x5 x6 x7 x8 x9 x10 x11 x12 x13 x14 x15 x16 x17 x18 x19 x20 hi (by omega)).symm

end Cert.Final

end
-- ==== Proof.lean ====
/-
  The certificate of the molecular feature encoder: the claims of `Cert.Claim` (Defs.lean), assembled from the modules under
  Proof/.

  * The frames are the generated ones; the reference declares no semaphore.
  * The idealized kernel is the kernel with no rewrite: `preserves` has nothing to say.
  * `algebraic`: the kernel's array is `ArrayValue.result` of the arrays it stages (Proof/ArrayValue.lean); those are the
    tables of Proof/Tables.lean built from the arguments (Proof/HostValue.lean, Proof/HostDisc.lean); the reference's array
    is read entry by entry in Proof/RefValue.lean; and the two are one array (Proof/Final.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.HostDisc
public import proofs.«01_k».proof.Proof.Final
public import Idealize.ShloMosaic.Adequacy
public import Idealize.ShloMosaic.Init

@[expose] public section

noncomputable section

namespace Cert.Proof

open Idealize.ShloMosaic Idealize.SL.Sem

/-- The reference runs to the end, leaves its arguments unchanged and every semaphore counter at zero. -/
theorem frame_ri : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The value both runs end at: the reference's, of the kernel's arguments on device `c`. -/
def value (m : (ℓ : Loc Cert.KernelIdeal.nD Cert.KernelIdeal.τ Cert.KernelIdeal.sig) → Buf (Elt Ideal) ℓ)
    (c : Dev Cert.KernelIdeal.nD) : FVec Ideal Cert.KernelIdeal.S500000x64 .f32 :=
  Cert.ReferenceIdeal.Read.val_main_v262 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))

/-- The kernel's result array ends at the common value, where the precondition holds. -/
theorem kernel_value (m : (ℓ : Loc Cert.KernelIdeal.nD Cert.KernelIdeal.τ Cert.KernelIdeal.sig) → Buf (Elt Ideal) ℓ)
    (hpre : @Cert.Pre_KernelIdeal_folds_finite Cert.Pre.facts m) (c : Dev Cert.KernelIdeal.nD) :
    (Cert.KernelIdeal.Gen.dats m 0 c).arrAt 7 Cert.KernelIdeal.cfg0.N = value m c := by
  rw [Cert.ArrayValue.final_out, Cert.KernelIdeal.Gen.V_main_arg0, Cert.HostValue.V_disc, Cert.HostValue.V_bond]
  exact Cert.Final.result_eq _ _ _ _ _ _ _ _ _ _ _ _ _ _ _ _ _ _ _ _ _ (hpre c)

/-- THE VALUE CLAIM: under the precondition, on equal arguments, the kernel's result is the reference's. -/
theorem algebraic : @Cert.algebraic_KernelIdeal_ReferenceIdeal_pre_folds_finite Cert.KernelIdeal.Gen.facts
    Cert.ReferenceIdeal.Gen.facts Cert.Pre.facts := by
  intro m ρ m' ρ' hpre hagree
  refine ⟨value m, ?_, ?_⟩
  · exact (θ_run Cert.KernelIdeal.defs _ _).mono (fun _ h c => ⟨(h c).1.trans (kernel_value m hpre c), (h c).2⟩)
      (Cert.KernelIdeal.Value.run_blocks (F := Ideal) m ρ)
  · refine (θ_run Cert.ReferenceIdeal.defs _ _).mono (fun r h c => ?_) (Cert.ReferenceIdeal.Value.run (F := Ideal) m' ρ')
    refine And.intro ((h c).1.trans ?_) (h c).2
    refine (Cert.ReferenceIdeal.Read.val_main_v262_eq (StableHlo.launchContents m' c)).trans ?_
    obtain ⟨e0, e1, e2, e3, e4, e5, e6, e7, e8, e9, e10, e11, e12, e13, e14, e15, e16, e17, e18, e19, e20⟩ := hagree c
    unfold value
    rw [← e0, ← e1, ← e2, ← e3, ← e4, ← e5, ← e6, ← e7, ← e8, ← e9, ← e10, ← e11, ← e12, ← e13, ← e14, ← e15, ← e16, ← e17, ← e18, ← e19, ← e20]

/-- Everything claimed. -/
theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
